-- ==== Defs.lean ====
def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20_13) = v1 c
          ∧ r.2.mem ((c.tc : Thread Cert.ReferenceIdeal.nD Cert.ReferenceIdeal.τ).loc Cert.ReferenceIdeal.main_v20_14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernelIdeal : Cert.KernelIdeal.Facts) (hReferenceIdeal : Cert.ReferenceIdeal.Facts) (hPre_pre : Cert.Pre_pre.Facts),
    quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ algebraic_KernelIdeal_ReferenceIdeal (hKernelIdeal := hKernelIdeal) (hReferenceIdeal := hReferenceIdeal) (hPre_pre := hPre_pre)
-- ==== Pre_pre.lean ====
abbrev S8 : Shape := ⟨1, ![8]⟩
abbrev S1024x512 : Shape := ⟨2, ![1024, 512]⟩
abbrev S4096x512 : Shape := ⟨2, ![4096, 512]⟩
abbrev S1536x512 : Shape := ⟨2, ![1536, 512]⟩
abbrev S1536 : Shape := ⟨1, ![1536]⟩
abbrev S4096 : Shape := ⟨1, ![4096]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : IVec S8 32) (main_arg2 : FVec F S1024x512 .f32) (main_arg3 : FVec F S4096x512 .f32) (main_arg4 : FVec F S1536x512 .f32) (main_arg5 : FVec F S1536x512 .f32) (main_arg6 : FVec F S1536 .f32) (main_arg7 : FVec F S1536 .f32) (main_arg8 : FVec F S4096x512 .f32) (main_arg9 : FVec F S4096 .f32) : IVec S_ 1 :=
  let main_c : IVec S_ 32 := constantI S_ 32 0#32
  let main_v0 : IVec S8 32 := broadcastInDim S8 ![] bcast_S_S8 main_c
  let main_v1 : IVec S8 1 := cmpi .sge main_arg0 main_v0
  let main_c_0 : IVec S_ 32 := constantI S_ 32 1024#32
  let main_v2 : IVec S8 32 := broadcastInDim S8 ![] bcast_S_S8 main_c_0
  let main_v3 : IVec S8 1 := cmpi .slt main_arg0 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== KernelIdeal.lean ====
abbrev S8 : Shape := ⟨1, ![8]⟩
abbrev S1024x512 : Shape := ⟨2, ![1024, 512]⟩
abbrev S4096x512 : Shape := ⟨2, ![4096, 512]⟩
abbrev S1536x512 : Shape := ⟨2, ![1536, 512]⟩
abbrev S1536 : Shape := ⟨1, ![1536]⟩
abbrev S4096 : Shape := ⟨1, ![4096]⟩
abbrev S_ : Shape := ⟨0, ![]⟩
abbrev S1 : Shape := ⟨1, ![1]⟩
abbrev S2 : Shape := ⟨1, ![2]⟩
abbrev S512 : Shape := ⟨1, ![512]⟩
abbrev S512x1 : Shape := ⟨2, ![512, 1]⟩
abbrev S512x2 : Shape := ⟨2, ![512, 2]⟩
abbrev S1x1 : Shape := ⟨2, ![1, 1]⟩
abbrev S8x4096 : Shape := ⟨2, ![8, 4096]⟩
abbrev S1x8x4096 : Shape := ⟨3, ![1, 8, 4096]⟩
abbrev S512x1x1 : Shape := ⟨3, ![512, 1, 1]⟩
abbrev S512x8x4096 : Shape := ⟨3, ![512, 8, 4096]⟩
abbrev S1x1x1 : Shape := ⟨3, ![1, 1, 1]⟩
abbrev S512x1536 : Shape := ⟨2, ![512, 1536]⟩
abbrev S1x1536 : Shape := ⟨2, ![1, 1536]⟩
abbrev S512x4096 : Shape := ⟨2, ![512, 4096]⟩
abbrev S1x4096 : Shape := ⟨2, ![1, 4096]⟩
abbrev S512x8x1 : Shape := ⟨3, ![512, 8, 1]⟩
abbrev S8x1 : Shape := ⟨2, ![8, 1]⟩
abbrev S1x8x1 : Shape := ⟨3, ![1, 8, 1]⟩
abbrev S8x512 : Shape := ⟨2, ![8, 512]⟩
abbrev S1x512 : Shape := ⟨2, ![1, 512]⟩
abbrev S8x1536 : Shape := ⟨2, ![8, 1536]⟩
abbrev S512x8 : Shape := ⟨2, ![512, 8]⟩

abbrev nBuf : Space → Nat
  | .hbm => 550
  | .vmem => 19
  | .smem => 1
  | _ => 0

abbrev hbmTy0_0 (i : Nat) : BufTy := match i % 128 with
  | 0 => ⟨S8, .i32⟩
  | 1 => ⟨S8, .i32⟩
  | 2 => ⟨S1024x512, .f32⟩
  | 3 => ⟨S4096x512, .f32⟩
  | 4 => ⟨S1536x512, .f32⟩
  | 5 => ⟨S1536x512, .f32⟩
  | 6 => ⟨S1536, .f32⟩
  | 7 => ⟨S1536, .f32⟩
  | 8 => ⟨S4096x512, .f32⟩
  | 9 => ⟨S4096, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S512, .i32⟩
  | 21 => ⟨S512, .i32⟩
  | 22 => ⟨S_, .i32⟩
  | 23 => ⟨S512, .i32⟩
  | 24 => ⟨S512, .i32⟩
  | 25 => ⟨S512x1, .i32⟩
  | 26 => ⟨S_, .i32⟩
  | 27 => ⟨S512, .i32⟩
  | 28 => ⟨S512, .i32⟩
  | 29 => ⟨S512x1, .i32⟩
  | 30 => ⟨S512x2, .i32⟩
  | 31 => ⟨S1, .i32⟩
  | 32 => ⟨S_, .i32⟩
  | 33 => ⟨S1, .i32⟩
  | 34 => ⟨S_, .i32⟩
  | 35 => ⟨S512x1, .i32⟩
  | 36 => ⟨S512x1, .i32⟩
  | 37 => ⟨S_, .i32⟩
  | 38 => ⟨S_, .i32⟩
  | 39 => ⟨S_, .i32⟩
  | 40 => ⟨S512x1, .i32⟩
  | 41 => ⟨S512x1, .i32⟩
  | 42 => ⟨S512x1, .i32⟩
  | 43 => ⟨S512x1, .i32⟩
  | 44 => ⟨S512x1, .i32⟩
  | 45 => ⟨S_, .i32⟩
  | 46 => ⟨S512x1, .i32⟩
  | 47 => ⟨S512x1, .i32⟩
  | 48 => ⟨S_, .i32⟩
  | 49 => ⟨S512x1, .i32⟩
  | 50 => ⟨S512x1, .i32⟩
  | 51 => ⟨S512x1, .i32⟩
  | 52 => ⟨S512x1, .i32⟩
  | 53 => ⟨S512x1, .i32⟩
  | 54 => ⟨S_, .i32⟩
  | 55 => ⟨S512x1, .i32⟩
  | 56 => ⟨S512x1, .i32⟩
  | 57 => ⟨S_, .i32⟩
  | 58 => ⟨S512x1, .i32⟩
  | 59 => ⟨S512x1, .i32⟩
  | 60 => ⟨S512x1, .i32⟩
  | 61 => ⟨S512x1, .i32⟩
  | 62 => ⟨S512x1, .i32⟩
  | 63 => ⟨S_, .i32⟩
  | 64 => ⟨S512x1, .i32⟩
  | 65 => ⟨S512x1, .i32⟩
  | 66 => ⟨S_, .i32⟩
  | 67 => ⟨S512x1, .i32⟩
  | 68 => ⟨S512x1, .i32⟩
  | 69 => ⟨S512x1, .i32⟩
  | 70 => ⟨S512x1, .i32⟩
  | 71 => ⟨S512x1, .i32⟩
  | 72 => ⟨S_, .i32⟩
  | 73 => ⟨S512x1, .i32⟩
  | 74 => ⟨S512x1, .i32⟩
  | 75 => ⟨S_, .i32⟩
  | 76 => ⟨S512x1, .i32⟩
  | 77 => ⟨S512x1, .i32⟩
  | 78 => ⟨S512x1, .i32⟩
  | 79 => ⟨S512x1, .i32⟩
  | 80 => ⟨S512x1, .i32⟩
  | 81 => ⟨S512x1, .i32⟩
  | 82 => ⟨S512x1, .i32⟩
  | 83 => ⟨S512x1, .i32⟩
  | 84 => ⟨S_, .i32⟩
  | 85 => ⟨S512x1, .i32⟩
  | 86 => ⟨S512x1, .i32⟩
  | 87 => ⟨S512x1, .i32⟩
  | 88 => ⟨S_, .i32⟩
  | 89 => ⟨S512x1, .i32⟩
  | 90 => ⟨S512x1, .i32⟩
  | 91 => ⟨S_, .i32⟩
  | 92 => ⟨S512x1, .i32⟩
  | 93 => ⟨S512x1, .i32⟩
  | 94 => ⟨S512x1, .i32⟩
  | 95 => ⟨S512x1, .i32⟩
  | 96 => ⟨S512x1, .i32⟩
  | 97 => ⟨S_, .i32⟩
  | 98 => ⟨S512x1, .i32⟩
  | 99 => ⟨S512x1, .i32⟩
  | 100 => ⟨S_, .i32⟩
  | 101 => ⟨S512x1, .i32⟩
  | 102 => ⟨S512x1, .i32⟩
  | 103 => ⟨S512x1, .i32⟩
  | 104 => ⟨S512x1, .i32⟩
  | 105 => ⟨S512x1, .i32⟩
  | 106 => ⟨S_, .i32⟩
  | 107 => ⟨S512x1, .i32⟩
  | 108 => ⟨S512x1, .i32⟩
  | 109 => ⟨S_, .i32⟩
  | 110 => ⟨S512x1, .i32⟩
  | 111 => ⟨S512x1, .i32⟩
  | 112 => ⟨S512x1, .i32⟩
  | 113 => ⟨S512x1, .i32⟩
  | 114 => ⟨S512x1, .i32⟩
  | 115 => ⟨S_, .i32⟩
  | 116 => ⟨S512x1, .i32⟩
  | 117 => ⟨S512x1, .i32⟩
  | 118 => ⟨S_, .i32⟩
  | 119 => ⟨S512x1, .i32⟩
  | 120 => ⟨S512x1, .i32⟩
  | 121 => ⟨S512x1, .i32⟩
  | 122 => ⟨S512x1, .i32⟩
  | 123 => ⟨S512x1, .i32⟩
  | 124 => ⟨S512x1, .i32⟩
  | 125 => ⟨S512x1, .i32⟩
  | 126 => ⟨S512x1, .i32⟩
  | 127 => ⟨S_, .i32⟩
  | _ => ⟨S8, .i32⟩

abbrev hbmTy0_1 (i : Nat) : BufTy := match i % 128 with
  | 0 => ⟨S512x1, .i32⟩
  | 1 => ⟨S512x1, .i32⟩
  | 2 => ⟨S512x1, .i32⟩
  | 3 => ⟨S_, .i32⟩
  | 4 => ⟨S512x1, .i32⟩
  | 5 => ⟨S512x1, .i32⟩
  | 6 => ⟨S_, .i32⟩
  | 7 => ⟨S512x1, .i32⟩
  | 8 => ⟨S512x1, .i32⟩
  | 9 => ⟨S512x1, .i32⟩
  | 10 => ⟨S512x1, .i32⟩
  | 11 => ⟨S512x1, .i32⟩
  | 12 => ⟨S_, .i32⟩
  | 13 => ⟨S512x1, .i32⟩
  | 14 => ⟨S512x1, .i32⟩
  | 15 => ⟨S_, .i32⟩
  | 16 => ⟨S512x1, .i32⟩
  | 17 => ⟨S512x1, .i32⟩
  | 18 => ⟨S512x1, .i32⟩
  | 19 => ⟨S512x1, .i32⟩
  | 20 => ⟨S512x1, .i32⟩
  | 21 => ⟨S_, .i32⟩
  | 22 => ⟨S512x1, .i32⟩
  | 23 => ⟨S512x1, .i32⟩
  | 24 => ⟨S_, .i32⟩
  | 25 => ⟨S512x1, .i32⟩
  | 26 => ⟨S512x1, .i32⟩
  | 27 => ⟨S512x1, .i32⟩
  | 28 => ⟨S512x1, .i32⟩
  | 29 => ⟨S512x1, .i32⟩
  | 30 => ⟨S_, .i32⟩
  | 31 => ⟨S512x1, .i32⟩
  | 32 => ⟨S512x1, .i32⟩
  | 33 => ⟨S_, .i32⟩
  | 34 => ⟨S512x1, .i32⟩
  | 35 => ⟨S512x1, .i32⟩
  | 36 => ⟨S512x1, .i32⟩
  | 37 => ⟨S512x1, .i32⟩
  | 38 => ⟨S512x1, .i32⟩
  | 39 => ⟨S512x1, .i32⟩
  | 40 => ⟨S512x1, .i32⟩
  | 41 => ⟨S512x1, .i32⟩
  | 42 => ⟨S_, .i32⟩
  | 43 => ⟨S512x1, .i32⟩
  | 44 => ⟨S512x1, .i32⟩
  | 45 => ⟨S512x1, .i32⟩
  | 46 => ⟨S_, .i32⟩
  | 47 => ⟨S512x1, .i32⟩
  | 48 => ⟨S512x1, .i32⟩
  | 49 => ⟨S_, .i32⟩
  | 50 => ⟨S512x1, .i32⟩
  | 51 => ⟨S512x1, .i32⟩
  | 52 => ⟨S512x1, .i32⟩
  | 53 => ⟨S512x1, .i32⟩
  | 54 => ⟨S512x1, .i32⟩
  | 55 => ⟨S_, .i32⟩
  | 56 => ⟨S512x1, .i32⟩
  | 57 => ⟨S512x1, .i32⟩
  | 58 => ⟨S_, .i32⟩
  | 59 => ⟨S512x1, .i32⟩
  | 60 => ⟨S512x1, .i32⟩
  | 61 => ⟨S512x1, .i32⟩
  | 62 => ⟨S512x1, .i32⟩
  | 63 => ⟨S512x1, .i32⟩
  | 64 => ⟨S_, .i32⟩
  | 65 => ⟨S512x1, .i32⟩
  | 66 => ⟨S512x1, .i32⟩
  | 67 => ⟨S_, .i32⟩
  | 68 => ⟨S512x1, .i32⟩
  | 69 => ⟨S512x1, .i32⟩
  | 70 => ⟨S512x1, .i32⟩
  | 71 => ⟨S512x1, .i32⟩
  | 72 => ⟨S512x1, .i32⟩
  | 73 => ⟨S_, .i32⟩
  | 74 => ⟨S512x1, .i32⟩
  | 75 => ⟨S512x1, .i32⟩
  | 76 => ⟨S_, .i32⟩
  | 77 => ⟨S512x1, .i32⟩
  | 78 => ⟨S512x1, .i32⟩
  | 79 => ⟨S512x1, .i32⟩
  | 80 => ⟨S512x1, .i32⟩
  | 81 => ⟨S512x1, .i32⟩
  | 82 => ⟨S512x1, .i32⟩
  | 83 => ⟨S512x1, .i32⟩
  | 84 => ⟨S512x1, .i32⟩
  | 85 => ⟨S_, .i32⟩
  | 86 => ⟨S512x1, .i32⟩
  | 87 => ⟨S512x1, .i32⟩
  | 88 => ⟨S512x1, .i32⟩
  | 89 => ⟨S_, .i32⟩
  | 90 => ⟨S512x1, .i32⟩
  | 91 => ⟨S512x1, .i32⟩
  | 92 => ⟨S_, .i32⟩
  | 93 => ⟨S512x1, .i32⟩
  | 94 => ⟨S512x1, .i32⟩
  | 95 => ⟨S512x1, .i32⟩
  | 96 => ⟨S512x1, .i32⟩
  | 97 => ⟨S512x1, .i32⟩
  | 98 => ⟨S_, .i32⟩
  | 99 => ⟨S512x1, .i32⟩
  | 100 => ⟨S512x1, .i32⟩
  | 101 => ⟨S_, .i32⟩
  | 102 => ⟨S512x1, .i32⟩
  | 103 => ⟨S512x1, .i32⟩
  | 104 => ⟨S512x1, .i32⟩
  | 105 => ⟨S512x1, .i32⟩
  | 106 => ⟨S512x1, .i32⟩
  | 107 => ⟨S_, .i32⟩
  | 108 => ⟨S512x1, .i32⟩
  | 109 => ⟨S512x1, .i32⟩
  | 110 => ⟨S_, .i32⟩
  | 111 => ⟨S512x1, .i32⟩
  | 112 => ⟨S512x1, .i32⟩
  | 113 => ⟨S512x1, .i32⟩
  | 114 => ⟨S512x1, .i32⟩
  | 115 => ⟨S512x1, .i32⟩
  | 116 => ⟨S_, .i32⟩
  | 117 => ⟨S512x1, .i32⟩
  | 118 => ⟨S512x1, .i32⟩
  | 119 => ⟨S_, .i32⟩
  | 120 => ⟨S512x1, .i32⟩
  | 121 => ⟨S512x1, .i32⟩
  | 122 => ⟨S512x1, .i32⟩
  | 123 => ⟨S512x1, .i32⟩
  | 124 => ⟨S512x1, .i32⟩
  | 125 => ⟨S512x1, .i32⟩
  | 126 => ⟨S512x1, .i32⟩
  | 127 => ⟨S512x1, .i32⟩
  | _ => ⟨S8, .i32⟩

abbrev hbmTy0_2 (i : Nat) : BufTy := match i % 128 with
  | 0 => ⟨S_, .i32⟩
  | 1 => ⟨S512x1, .i32⟩
  | 2 => ⟨S512x1, .i32⟩
  | 3 => ⟨S512x2, .i32⟩
  | 4 => ⟨S_, .f32⟩
  | 5 => ⟨S_, .f32⟩
  | 6 => ⟨S_, .f32⟩
  | 7 => ⟨S1x1, .f32⟩
  | 8 => ⟨S1x1, .f32⟩
  | 9 => ⟨S512x1, .i32⟩
  | 10 => ⟨S512, .i32⟩
  | 11 => ⟨S512x1, .i32⟩
  | 12 => ⟨S512, .i32⟩
  | 13 => ⟨S8x4096, .i64⟩
  | 14 => ⟨S8x4096, .i64⟩
  | 15 => ⟨S_, .i64⟩
  | 16 => ⟨S8x4096, .i64⟩
  | 17 => ⟨S8x4096, .i64⟩
  | 18 => ⟨S_, .i64⟩
  | 19 => ⟨S8x4096, .i64⟩
  | 20 => ⟨S8x4096, .i64⟩
  | 21 => ⟨S8x4096, .i64⟩
  | 22 => ⟨S_, .i64⟩
  | 23 => ⟨S8x4096, .i64⟩
  | 24 => ⟨S8x4096, .i64⟩
  | 25 => ⟨S8x4096, .i32⟩
  | 26 => ⟨S8x4096, .i32⟩
  | 27 => ⟨S1x8x4096, .i32⟩
  | 28 => ⟨S1x8x4096, .i32⟩
  | 29 => ⟨S512x1x1, .i32⟩
  | 30 => ⟨S512x1x1, .i32⟩
  | 31 => ⟨S512x1x1, .i32⟩
  | 32 => ⟨S_, .i32⟩
  | 33 => ⟨S512x1x1, .i32⟩
  | 34 => ⟨S512x1x1, .i32⟩
  | 35 => ⟨S512x8x4096, .i32⟩
  | 36 => ⟨S512x8x4096, .i32⟩
  | 37 => ⟨S512x8x4096, .i32⟩
  | 38 => ⟨S512x8x4096, .i32⟩
  | 39 => ⟨S512x8x4096, .i32⟩
  | 40 => ⟨S512x8x4096, .i32⟩
  | 41 => ⟨S512x8x4096, .i32⟩
  | 42 => ⟨S_, .i32⟩
  | 43 => ⟨S512x8x4096, .i32⟩
  | 44 => ⟨S512x8x4096, .i32⟩
  | 45 => ⟨S_, .i32⟩
  | 46 => ⟨S512x8x4096, .i32⟩
  | 47 => ⟨S512x8x4096, .i32⟩
  | 48 => ⟨S512x8x4096, .i32⟩
  | 49 => ⟨S512x8x4096, .i32⟩
  | 50 => ⟨S512x8x4096, .i32⟩
  | 51 => ⟨S_, .i32⟩
  | 52 => ⟨S512x8x4096, .i32⟩
  | 53 => ⟨S512x8x4096, .i32⟩
  | 54 => ⟨S_, .i32⟩
  | 55 => ⟨S512x8x4096, .i32⟩
  | 56 => ⟨S512x8x4096, .i32⟩
  | 57 => ⟨S512x8x4096, .i32⟩
  | 58 => ⟨S512x8x4096, .i32⟩
  | 59 => ⟨S512x8x4096, .i32⟩
  | 60 => ⟨S_, .i32⟩
  | 61 => ⟨S512x8x4096, .i32⟩
  | 62 => ⟨S512x8x4096, .i32⟩
  | 63 => ⟨S_, .i32⟩
  | 64 => ⟨S512x8x4096, .i32⟩
  | 65 => ⟨S512x8x4096, .i32⟩
  | 66 => ⟨S512x8x4096, .i32⟩
  | 67 => ⟨S512x8x4096, .i32⟩
  | 68 => ⟨S512x8x4096, .i32⟩
  | 69 => ⟨S_, .i32⟩
  | 70 => ⟨S512x8x4096, .i32⟩
  | 71 => ⟨S512x8x4096, .i32⟩
  | 72 => ⟨S_, .i32⟩
  | 73 => ⟨S512x8x4096, .i32⟩
  | 74 => ⟨S512x8x4096, .i32⟩
  | 75 => ⟨S512x8x4096, .i32⟩
  | 76 => ⟨S512x8x4096, .i32⟩
  | 77 => ⟨S512x8x4096, .i32⟩
  | 78 => ⟨S512x8x4096, .i32⟩
  | 79 => ⟨S512x8x4096, .i32⟩
  | 80 => ⟨S512x8x4096, .i32⟩
  | 81 => ⟨S_, .i32⟩
  | 82 => ⟨S512x8x4096, .i32⟩
  | 83 => ⟨S512x8x4096, .i32⟩
  | 84 => ⟨S512x8x4096, .i32⟩
  | 85 => ⟨S_, .i32⟩
  | 86 => ⟨S512x8x4096, .i32⟩
  | 87 => ⟨S512x8x4096, .i32⟩
  | 88 => ⟨S_, .i32⟩
  | 89 => ⟨S512x8x4096, .i32⟩
  | 90 => ⟨S512x8x4096, .i32⟩
  | 91 => ⟨S512x8x4096, .i32⟩
  | 92 => ⟨S512x8x4096, .i32⟩
  | 93 => ⟨S512x8x4096, .i32⟩
  | 94 => ⟨S_, .i32⟩
  | 95 => ⟨S512x8x4096, .i32⟩
  | 96 => ⟨S512x8x4096, .i32⟩
  | 97 => ⟨S_, .i32⟩
  | 98 => ⟨S512x8x4096, .i32⟩
  | 99 => ⟨S512x8x4096, .i32⟩
  | 100 => ⟨S512x8x4096, .i32⟩
  | 101 => ⟨S512x8x4096, .i32⟩
  | 102 => ⟨S512x8x4096, .i32⟩
  | 103 => ⟨S_, .i32⟩
  | 104 => ⟨S512x8x4096, .i32⟩
  | 105 => ⟨S512x8x4096, .i32⟩
  | 106 => ⟨S_, .i32⟩
  | 107 => ⟨S512x8x4096, .i32⟩
  | 108 => ⟨S512x8x4096, .i32⟩
  | 109 => ⟨S512x8x4096, .i32⟩
  | 110 => ⟨S512x8x4096, .i32⟩
  | 111 => ⟨S512x8x4096, .i32⟩
  | 112 => ⟨S_, .i32⟩
  | 113 => ⟨S512x8x4096, .i32⟩
  | 114 => ⟨S512x8x4096, .i32⟩
  | 115 => ⟨S_, .i32⟩
  | 116 => ⟨S512x8x4096, .i32⟩
  | 117 => ⟨S512x8x4096, .i32⟩
  | 118 => ⟨S512x8x4096, .i32⟩
  | 119 => ⟨S512x8x4096, .i32⟩
  | 120 => ⟨S512x8x4096, .i32⟩
  | 121 => ⟨S512x8x4096, .i32⟩
  | 122 => ⟨S512x8x4096, .i32⟩
  | 123 => ⟨S512x8x4096, .i32⟩
  | 124 => ⟨S_, .i32⟩
  | 125 => ⟨S512x8x4096, .i32⟩
  | 126 => ⟨S512x8x4096, .i32⟩
  | 127 => ⟨S512x8x4096, .i32⟩
  | _ => ⟨S8, .i32⟩

abbrev hbmTy0_3 (i : Nat) : BufTy := match i % 128 with
  | 0 => ⟨S_, .i32⟩
  | 1 => ⟨S512x8x4096, .i32⟩
  | 2 => ⟨S512x8x4096, .i32⟩
  | 3 => ⟨S_, .i32⟩
  | 4 => ⟨S512x8x4096, .i32⟩
  | 5 => ⟨S512x8x4096, .i32⟩
  | 6 => ⟨S512x8x4096, .i32⟩
  | 7 => ⟨S512x8x4096, .i32⟩
  | 8 => ⟨S512x8x4096, .i32⟩
  | 9 => ⟨S_, .i32⟩
  | 10 => ⟨S512x8x4096, .i32⟩
  | 11 => ⟨S512x8x4096, .i32⟩
  | 12 => ⟨S_, .i32⟩
  | 13 => ⟨S512x8x4096, .i32⟩
  | 14 => ⟨S512x8x4096, .i32⟩
  | 15 => ⟨S512x8x4096, .i32⟩
  | 16 => ⟨S512x8x4096, .i32⟩
  | 17 => ⟨S512x8x4096, .i32⟩
  | 18 => ⟨S_, .i32⟩
  | 19 => ⟨S512x8x4096, .i32⟩
  | 20 => ⟨S512x8x4096, .i32⟩
  | 21 => ⟨S_, .i32⟩
  | 22 => ⟨S512x8x4096, .i32⟩
  | 23 => ⟨S512x8x4096, .i32⟩
  | 24 => ⟨S512x8x4096, .i32⟩
  | 25 => ⟨S512x8x4096, .i32⟩
  | 26 => ⟨S512x8x4096, .i32⟩
  | 27 => ⟨S_, .i32⟩
  | 28 => ⟨S512x8x4096, .i32⟩
  | 29 => ⟨S512x8x4096, .i32⟩
  | 30 => ⟨S_, .i32⟩
  | 31 => ⟨S512x8x4096, .i32⟩
  | 32 => ⟨S512x8x4096, .i32⟩
  | 33 => ⟨S512x8x4096, .i32⟩
  | 34 => ⟨S512x8x4096, .i32⟩
  | 35 => ⟨S512x8x4096, .i32⟩
  | 36 => ⟨S512x8x4096, .i32⟩
  | 37 => ⟨S512x8x4096, .i32⟩
  | 38 => ⟨S512x8x4096, .i32⟩
  | 39 => ⟨S_, .i32⟩
  | 40 => ⟨S512x8x4096, .i32⟩
  | 41 => ⟨S512x8x4096, .i32⟩
  | 42 => ⟨S512x8x4096, .i32⟩
  | 43 => ⟨S_, .i32⟩
  | 44 => ⟨S512x8x4096, .i32⟩
  | 45 => ⟨S512x8x4096, .i32⟩
  | 46 => ⟨S_, .i32⟩
  | 47 => ⟨S512x8x4096, .i32⟩
  | 48 => ⟨S512x8x4096, .i32⟩
  | 49 => ⟨S512x8x4096, .i32⟩
  | 50 => ⟨S512x8x4096, .i32⟩
  | 51 => ⟨S512x8x4096, .i32⟩
  | 52 => ⟨S_, .i32⟩
  | 53 => ⟨S512x8x4096, .i32⟩
  | 54 => ⟨S512x8x4096, .i32⟩
  | 55 => ⟨S_, .i32⟩
  | 56 => ⟨S512x8x4096, .i32⟩
  | 57 => ⟨S512x8x4096, .i32⟩
  | 58 => ⟨S512x8x4096, .i32⟩
  | 59 => ⟨S512x8x4096, .i32⟩
  | 60 => ⟨S512x8x4096, .i32⟩
  | 61 => ⟨S_, .i32⟩
  | 62 => ⟨S512x8x4096, .i32⟩
  | 63 => ⟨S512x8x4096, .i32⟩
  | 64 => ⟨S_, .i32⟩
  | 65 => ⟨S512x8x4096, .i32⟩
  | 66 => ⟨S512x8x4096, .i32⟩
  | 67 => ⟨S512x8x4096, .i32⟩
  | 68 => ⟨S512x8x4096, .i32⟩
  | 69 => ⟨S512x8x4096, .i32⟩
  | 70 => ⟨S_, .i32⟩
  | 71 => ⟨S512x8x4096, .i32⟩
  | 72 => ⟨S512x8x4096, .i32⟩
  | 73 => ⟨S_, .i32⟩
  | 74 => ⟨S512x8x4096, .i32⟩
  | 75 => ⟨S512x8x4096, .i32⟩
  | 76 => ⟨S512x8x4096, .i32⟩
  | 77 => ⟨S512x8x4096, .i32⟩
  | 78 => ⟨S512x8x4096, .i32⟩
  | 79 => ⟨S512x8x4096, .i32⟩
  | 80 => ⟨S512x8x4096, .i32⟩
  | 81 => ⟨S512x8x4096, .i32⟩
  | 82 => ⟨S_, .i32⟩
  | 83 => ⟨S512x8x4096, .i32⟩
  | 84 => ⟨S512x8x4096, .i32⟩
  | 85 => ⟨S512x8x4096, .i32⟩
  | 86 => ⟨S_, .i32⟩
  | 87 => ⟨S512x8x4096, .i32⟩
  | 88 => ⟨S512x8x4096, .i32⟩
  | 89 => ⟨S_, .i32⟩
  | 90 => ⟨S512x8x4096, .i32⟩
  | 91 => ⟨S512x8x4096, .i32⟩
  | 92 => ⟨S512x8x4096, .i32⟩
  | 93 => ⟨S512x8x4096, .i32⟩
  | 94 => ⟨S512x8x4096, .i32⟩
  | 95 => ⟨S_, .i32⟩
  | 96 => ⟨S512x8x4096, .i32⟩
  | 97 => ⟨S512x8x4096, .i32⟩
  | 98 => ⟨S_, .i32⟩
  | 99 => ⟨S512x8x4096, .i32⟩
  | 100 => ⟨S512x8x4096, .i32⟩
  | 101 => ⟨S512x8x4096, .i32⟩
  | 102 => ⟨S512x8x4096, .i32⟩
  | 103 => ⟨S512x8x4096, .i32⟩
  | 104 => ⟨S_, .i32⟩
  | 105 => ⟨S512x8x4096, .i32⟩
  | 106 => ⟨S512x8x4096, .i32⟩
  | 107 => ⟨S_, .i32⟩
  | 108 => ⟨S512x8x4096, .i32⟩
  | 109 => ⟨S512x8x4096, .i32⟩
  | 110 => ⟨S512x8x4096, .i32⟩
  | 111 => ⟨S512x8x4096, .i32⟩
  | 112 => ⟨S512x8x4096, .i32⟩
  | 113 => ⟨S_, .i32⟩
  | 114 => ⟨S512x8x4096, .i32⟩
  | 115 => ⟨S512x8x4096, .i32⟩
  | 116 => ⟨S_, .i32⟩
  | 117 => ⟨S512x8x4096, .i32⟩
  | 118 => ⟨S512x8x4096, .i32⟩
  | 119 => ⟨S512x8x4096, .i32⟩
  | 120 => ⟨S512x8x4096, .i32⟩
  | 121 => ⟨S512x8x4096, .i32⟩
  | 122 => ⟨S512x8x4096, .i32⟩
  | 123 => ⟨S512x8x4096, .i32⟩
  | 124 => ⟨S512x8x4096, .i32⟩
  | 125 => ⟨S_, .i32⟩
  | 126 => ⟨S512x8x4096, .i32⟩
  | 127 => ⟨S512x8x4096, .i32⟩
  | _ => ⟨S8, .i32⟩

abbrev hbmTy0_4 (i : Nat) : BufTy := match i % 128 with
  | 0 => ⟨S512x8x4096, .i32⟩
  | 1 => ⟨S_, .i32⟩
  | 2 => ⟨S512x8x4096, .i32⟩
  | 3 => ⟨S512x8x4096, .i32⟩
  | 4 => ⟨S_, .i32⟩
  | 5 => ⟨S512x8x4096, .i32⟩
  | 6 => ⟨S512x8x4096, .i32⟩
  | 7 => ⟨S512x8x4096, .f32⟩
  | 8 => ⟨S_, .f32⟩
  | 9 => ⟨S512x8x4096, .f32⟩
  | 10 => ⟨S512x8x4096, .f32⟩
  | 11 => ⟨S1x1, .f32⟩
  | 12 => ⟨S1x1x1, .f32⟩
  | 13 => ⟨S512x8x4096, .f32⟩
  | 14 => ⟨S512x8x4096, .f32⟩
  | 15 => ⟨S1x1x1, .f32⟩
  | 16 => ⟨S512x8x4096, .f32⟩
  | 17 => ⟨S512x8x4096, .f32⟩
  | 18 => ⟨S1x1x1, .f32⟩
  | 19 => ⟨S512x8x4096, .f32⟩
  | 20 => ⟨S512x8x4096, .f32⟩
  | 21 => ⟨S512x8x4096, .f32⟩
  | 22 => ⟨S512x8x4096, .f32⟩
  | 23 => ⟨S512x8x4096, .f32⟩
  | 24 => ⟨S512x8x4096, .f32⟩
  | 25 => ⟨S512x1536, .f32⟩
  | 26 => ⟨S512x1536, .f32⟩
  | 27 => ⟨S1x1536, .f32⟩
  | 28 => ⟨S1x1536, .f32⟩
  | 29 => ⟨S512x4096, .f32⟩
  | 30 => ⟨S1x4096, .f32⟩
  | 31 => ⟨S512x8x1, .i32⟩
  | 32 => ⟨S8x1, .i32⟩
  | 33 => ⟨S8x1, .f32⟩
  | 34 => ⟨S512x8, .i32⟩
  | 35 => ⟨S8x512, .i32⟩
  | 36 => ⟨S8, .i32⟩
  | 37 => ⟨S8, .f32⟩
  | _ => ⟨S8, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8, .i32⟩

abbrev bufTy : (tb : Table) → Fin (tcTables nBuf tb) → BufTy
  | .hbm, ⟨i, _⟩ => hbmTy i
  | .local _ .vmem, ⟨0, _⟩ => ⟨S1x8x4096, .f32⟩
  | .local _ .vmem, ⟨1, _⟩ => ⟨S1x8x4096, .f32⟩
  | .local _ .vmem, ⟨2, _⟩ => ⟨S1024x512, .f32⟩
  | .local _ .vmem, ⟨3, _⟩ => ⟨S4096x512, .f32⟩
  | .local _ .vmem, ⟨4, _⟩ => ⟨S512x1536, .f32⟩
  | .local _ .vmem, ⟨5, _⟩ => ⟨S512x1536, .f32⟩
  | .local _ .vmem, ⟨6, _⟩ => ⟨S1x1536, .f32⟩
  | .local _ .vmem, ⟨7, _⟩ => ⟨S1x1536, .f32⟩
  | .local _ .vmem, ⟨8, _⟩ => ⟨S512x4096, .f32⟩
  | .local _ .vmem, ⟨9, _⟩ => ⟨S1x4096, .f32⟩
  | .local _ .vmem, ⟨10, _⟩ => ⟨S1x8x1, .i32⟩
  | .local _ .vmem, ⟨11, _⟩ => ⟨S1x8x1, .i32⟩
  | .local _ .vmem, ⟨12, _⟩ => ⟨S8x1, .i32⟩
  | .local _ .vmem, ⟨13, _⟩ => ⟨S8x1, .f32⟩
  | .local _ .vmem, ⟨14, _⟩ => ⟨S8x512, .f32⟩
  | .local _ .vmem, ⟨15, _⟩ => ⟨S8x1, .i32⟩
  | .local _ .vmem, ⟨16, _⟩ => ⟨S8x1, .i32⟩
  | .local _ .vmem, ⟨17, _⟩ => ⟨S8x1, .i32⟩
  | .local _ .vmem, ⟨18, _⟩ => ⟨S8x1, .f32⟩
  | .local _ .smem, ⟨0, _⟩ => ⟨S8, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_c_0 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v13_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v13_1 : Ref sig .tc := ⟨.hbm, 258, rfl⟩
abbrev main_v9 : Ref sig .tc := ⟨.hbm, 259, rfl⟩
abbrev main_call1_cst : Ref sig .tc := ⟨.hbm, 260, rfl⟩
abbrev main_call1_cst_0 : Ref sig .tc := ⟨.hbm, 261, rfl⟩
abbrev main_call1_call0_v0 : Ref sig .tc := ⟨.hbm, 262, rfl⟩
abbrev main_call1_call0_v1 : Ref sig .tc := ⟨.hbm, 263, rfl⟩
abbrev main_call1_call0_v2 : Ref sig .tc := ⟨.hbm, 264, rfl⟩
abbrev main_call1_call0_v3 : Ref sig .tc := ⟨.hbm, 265, rfl⟩
abbrev main_call1_call0_v4 : Ref sig .tc := ⟨.hbm, 266, rfl⟩
abbrev main_call1_call0_v5 : Ref sig .tc := ⟨.hbm, 267, rfl⟩
abbrev main_call1_call0_v6 : Ref sig .tc := ⟨.hbm, 268, rfl⟩
abbrev main_call1_call0_v7 : Ref sig .tc := ⟨.hbm, 269, rfl⟩
abbrev main_call1_call0_v8 : Ref sig .tc := ⟨.hbm, 270, rfl⟩
abbrev main_call1_call0_c : Ref sig .tc := ⟨.hbm, 271, rfl⟩
abbrev main_call1_call0_v9 : Ref sig .tc := ⟨.hbm, 272, rfl⟩
abbrev main_call1_call0_v10 : Ref sig .tc := ⟨.hbm, 273, rfl⟩
abbrev main_call1_call0_c_0 : Ref sig .tc := ⟨.hbm, 274, rfl⟩
abbrev main_call1_call0_v11 : Ref sig .tc := ⟨.hbm, 275, rfl⟩
abbrev main_call1_call0_v12 : Ref sig .tc := ⟨.hbm, 276, rfl⟩
abbrev main_call1_call0_v13 : Ref sig .tc := ⟨.hbm, 277, rfl⟩
abbrev main_call1_call0_c_1 : Ref sig .tc := ⟨.hbm, 278, rfl⟩
abbrev main_call1_call0_v14 : Ref sig .tc := ⟨.hbm, 279, rfl⟩
abbrev main_call1_call0_v15 : Ref sig .tc := ⟨.hbm, 280, rfl⟩
abbrev main_call1_call0_v16 : Ref sig .tc := ⟨.hbm, 281, rfl⟩
abbrev main_call1_call0_v17 : Ref sig .tc := ⟨.hbm, 282, rfl⟩
abbrev main_call1_call0_v18 : Ref sig .tc := ⟨.hbm, 283, rfl⟩
abbrev main_call1_call0_v19 : Ref sig .tc := ⟨.hbm, 284, rfl⟩
abbrev main_call1_call0_v20 : Ref sig .tc := ⟨.hbm, 285, rfl⟩
abbrev main_call1_call0_v21 : Ref sig .tc := ⟨.hbm, 286, rfl⟩
abbrev main_call1_call0_call0_v0 : Ref sig .tc := ⟨.hbm, 287, rfl⟩
abbrev main_call1_call0_call0_c : Ref sig .tc := ⟨.hbm, 288, rfl⟩
abbrev main_call1_call0_call0_v1 : Ref sig .tc := ⟨.hbm, 289, rfl⟩
abbrev main_call1_call0_call0_v2 : Ref sig .tc := ⟨.hbm, 290, rfl⟩
abbrev main_call1_call0_call0_v3 : Ref sig .tc := ⟨.hbm, 291, rfl⟩
abbrev main_call1_call0_call0_v4 : Ref sig .tc := ⟨.hbm, 292, rfl⟩
abbrev main_call1_call0_call0_v5 : Ref sig .tc := ⟨.hbm, 293, rfl⟩
abbrev main_call1_call0_call0_v6 : Ref sig .tc := ⟨.hbm, 294, rfl⟩
abbrev main_call1_call0_call0_v7 : Ref sig .tc := ⟨.hbm, 295, rfl⟩
abbrev main_call1_call0_call0_v8 : Ref sig .tc := ⟨.hbm, 296, rfl⟩
abbrev main_call1_call0_call0_v9 : Ref sig .tc := ⟨.hbm, 297, rfl⟩
abbrev main_call1_call0_call0_c_0 : Ref sig .tc := ⟨.hbm, 298, rfl⟩
abbrev main_call1_call0_call0_v10 : Ref sig .tc := ⟨.hbm, 299, rfl⟩
abbrev main_call1_call0_call0_v11 : Ref sig .tc := ⟨.hbm, 300, rfl⟩
abbrev main_call1_call0_call0_c_1 : Ref sig .tc := ⟨.hbm, 301, rfl⟩
abbrev main_call1_call0_call0_v12 : Ref sig .tc := ⟨.hbm, 302, rfl⟩
abbrev main_call1_call0_call0_v13 : Ref sig .tc := ⟨.hbm, 303, rfl⟩
abbrev main_call1_call0_call0_v14 : Ref sig .tc := ⟨.hbm, 304, rfl⟩
abbrev main_call1_call0_call0_v15 : Ref sig .tc := ⟨.hbm, 305, rfl⟩
abbrev main_call1_call0_call0_v16 : Ref sig .tc := ⟨.hbm, 306, rfl⟩
abbrev main_call1_call0_call0_c_2 : Ref sig .tc := ⟨.hbm, 307, rfl⟩
abbrev main_call1_call0_call0_v17 : Ref sig .tc := ⟨.hbm, 308, rfl⟩
abbrev main_call1_call0_call0_v18 : Ref sig .tc := ⟨.hbm, 309, rfl⟩
abbrev main_call1_call0_call0_c_3 : Ref sig .tc := ⟨.hbm, 310, rfl⟩
abbrev main_call1_call0_call0_v19 : Ref sig .tc := ⟨.hbm, 311, rfl⟩
abbrev main_call1_call0_call0_v20 : Ref sig .tc := ⟨.hbm, 312, rfl⟩
abbrev main_call1_call0_call0_v21 : Ref sig .tc := ⟨.hbm, 313, rfl⟩
abbrev main_call1_call0_call0_v22 : Ref sig .tc := ⟨.hbm, 314, rfl⟩
abbrev main_call1_call0_call0_v23 : Ref sig .tc := ⟨.hbm, 315, rfl⟩
abbrev main_call1_call0_call0_c_4 : Ref sig .tc := ⟨.hbm, 316, rfl⟩
abbrev main_call1_call0_call0_v24 : Ref sig .tc := ⟨.hbm, 317, rfl⟩
abbrev main_call1_call0_call0_v25 : Ref sig .tc := ⟨.hbm, 318, rfl⟩
abbrev main_call1_call0_call0_c_5 : Ref sig .tc := ⟨.hbm, 319, rfl⟩
abbrev main_call1_call0_call0_v26 : Ref sig .tc := ⟨.hbm, 320, rfl⟩
abbrev main_call1_call0_call0_v27 : Ref sig .tc := ⟨.hbm, 321, rfl⟩
abbrev main_call1_call0_call0_v28 : Ref sig .tc := ⟨.hbm, 322, rfl⟩
abbrev main_call1_call0_call0_v29 : Ref sig .tc := ⟨.hbm, 323, rfl⟩
abbrev main_call1_call0_call0_v30 : Ref sig .tc := ⟨.hbm, 324, rfl⟩
abbrev main_call1_call0_call0_c_6 : Ref sig .tc := ⟨.hbm, 325, rfl⟩
abbrev main_call1_call0_call0_v31 : Ref sig .tc := ⟨.hbm, 326, rfl⟩
abbrev main_call1_call0_call0_v32 : Ref sig .tc := ⟨.hbm, 327, rfl⟩
abbrev main_call1_call0_call0_c_7 : Ref sig .tc := ⟨.hbm, 328, rfl⟩
abbrev main_call1_call0_call0_v33 : Ref sig .tc := ⟨.hbm, 329, rfl⟩
abbrev main_call1_call0_call0_v34 : Ref sig .tc := ⟨.hbm, 330, rfl⟩
abbrev main_call1_call0_call0_v35 : Ref sig .tc := ⟨.hbm, 331, rfl⟩
abbrev main_call1_call0_call0_v36 : Ref sig .tc := ⟨.hbm, 332, rfl⟩
abbrev main_call1_call0_call0_v37 : Ref sig .tc := ⟨.hbm, 333, rfl⟩
abbrev main_call1_call0_call0_v38 : Ref sig .tc := ⟨.hbm, 334, rfl⟩
abbrev main_call1_call0_call0_v39 : Ref sig .tc := ⟨.hbm, 335, rfl⟩
abbrev main_call1_call0_call0_v40 : Ref sig .tc := ⟨.hbm, 336, rfl⟩
abbrev main_call1_call0_call0_c_8 : Ref sig .tc := ⟨.hbm, 337, rfl⟩
abbrev main_call1_call0_call0_v41 : Ref sig .tc := ⟨.hbm, 338, rfl⟩
abbrev main_call1_call0_call0_v42 : Ref sig .tc := ⟨.hbm, 339, rfl⟩
abbrev main_call1_call0_call0_v43 : Ref sig .tc := ⟨.hbm, 340, rfl⟩
abbrev main_call1_call0_call0_c_9 : Ref sig .tc := ⟨.hbm, 341, rfl⟩
abbrev main_call1_call0_call0_v44 : Ref sig .tc := ⟨.hbm, 342, rfl⟩
abbrev main_call1_call0_call0_v45 : Ref sig .tc := ⟨.hbm, 343, rfl⟩
abbrev main_call1_call0_call0_c_10 : Ref sig .tc := ⟨.hbm, 344, rfl⟩
abbrev main_call1_call0_call0_v46 : Ref sig .tc := ⟨.hbm, 345, rfl⟩
abbrev main_call1_call0_call0_v47 : Ref sig .tc := ⟨.hbm, 346, rfl⟩
abbrev main_call1_call0_call0_v48 : Ref sig .tc := ⟨.hbm, 347, rfl⟩
abbrev main_call1_call0_call0_v49 : Ref sig .tc := ⟨.hbm, 348, rfl⟩
abbrev main_call1_call0_call0_v50 : Ref sig .tc := ⟨.hbm, 349, rfl⟩
abbrev main_call1_call0_call0_c_11 : Ref sig .tc := ⟨.hbm, 350, rfl⟩
abbrev main_call1_call0_call0_v51 : Ref sig .tc := ⟨.hbm, 351, rfl⟩
abbrev main_call1_call0_call0_v52 : Ref sig .tc := ⟨.hbm, 352, rfl⟩
abbrev main_call1_call0_call0_c_12 : Ref sig .tc := ⟨.hbm, 353, rfl⟩
abbrev main_call1_call0_call0_v53 : Ref sig .tc := ⟨.hbm, 354, rfl⟩
abbrev main_call1_call0_call0_v54 : Ref sig .tc := ⟨.hbm, 355, rfl⟩
abbrev main_call1_call0_call0_v55 : Ref sig .tc := ⟨.hbm, 356, rfl⟩
abbrev main_call1_call0_call0_v56 : Ref sig .tc := ⟨.hbm, 357, rfl⟩
abbrev main_call1_call0_call0_v57 : Ref sig .tc := ⟨.hbm, 358, rfl⟩
abbrev main_call1_call0_call0_c_13 : Ref sig .tc := ⟨.hbm, 359, rfl⟩
abbrev main_call1_call0_call0_v58 : Ref sig .tc := ⟨.hbm, 360, rfl⟩
abbrev main_call1_call0_call0_v59 : Ref sig .tc := ⟨.hbm, 361, rfl⟩
abbrev main_call1_call0_call0_c_14 : Ref sig .tc := ⟨.hbm, 362, rfl⟩
abbrev main_call1_call0_call0_v60 : Ref sig .tc := ⟨.hbm, 363, rfl⟩
abbrev main_call1_call0_call0_v61 : Ref sig .tc := ⟨.hbm, 364, rfl⟩
abbrev main_call1_call0_call0_v62 : Ref sig .tc := ⟨.hbm, 365, rfl⟩
abbrev main_call1_call0_call0_v63 : Ref sig .tc := ⟨.hbm, 366, rfl⟩
abbrev main_call1_call0_call0_v64 : Ref sig .tc := ⟨.hbm, 367, rfl⟩
abbrev main_call1_call0_call0_c_15 : Ref sig .tc := ⟨.hbm, 368, rfl⟩
abbrev main_call1_call0_call0_v65 : Ref sig .tc := ⟨.hbm, 369, rfl⟩
abbrev main_call1_call0_call0_v66 : Ref sig .tc := ⟨.hbm, 370, rfl⟩
abbrev main_call1_call0_call0_c_16 : Ref sig .tc := ⟨.hbm, 371, rfl⟩
abbrev main_call1_call0_call0_v67 : Ref sig .tc := ⟨.hbm, 372, rfl⟩
abbrev main_call1_call0_call0_v68 : Ref sig .tc := ⟨.hbm, 373, rfl⟩
abbrev main_call1_call0_call0_v69 : Ref sig .tc := ⟨.hbm, 374, rfl⟩
abbrev main_call1_call0_call0_v70 : Ref sig .tc := ⟨.hbm, 375, rfl⟩
abbrev main_call1_call0_call0_v71 : Ref sig .tc := ⟨.hbm, 376, rfl⟩
abbrev main_call1_call0_call0_v72 : Ref sig .tc := ⟨.hbm, 377, rfl⟩
abbrev main_call1_call0_call0_v73 : Ref sig .tc := ⟨.hbm, 378, rfl⟩
abbrev main_call1_call0_call0_v74 : Ref sig .tc := ⟨.hbm, 379, rfl⟩
abbrev main_call1_call0_call0_c_17 : Ref sig .tc := ⟨.hbm, 380, rfl⟩
abbrev main_call1_call0_call0_v75 : Ref sig .tc := ⟨.hbm, 381, rfl⟩
abbrev main_call1_call0_call0_v76 : Ref sig .tc := ⟨.hbm, 382, rfl⟩
abbrev main_call1_call0_call0_v77 : Ref sig .tc := ⟨.hbm, 383, rfl⟩
abbrev main_call1_call0_call0_c_18 : Ref sig .tc := ⟨.hbm, 384, rfl⟩
abbrev main_call1_call0_call0_v78 : Ref sig .tc := ⟨.hbm, 385, rfl⟩
abbrev main_call1_call0_call0_v79 : Ref sig .tc := ⟨.hbm, 386, rfl⟩
abbrev main_call1_call0_call0_c_19 : Ref sig .tc := ⟨.hbm, 387, rfl⟩
abbrev main_call1_call0_call0_v80 : Ref sig .tc := ⟨.hbm, 388, rfl⟩
abbrev main_call1_call0_call0_v81 : Ref sig .tc := ⟨.hbm, 389, rfl⟩
abbrev main_call1_call0_call0_v82 : Ref sig .tc := ⟨.hbm, 390, rfl⟩
abbrev main_call1_call0_call0_v83 : Ref sig .tc := ⟨.hbm, 391, rfl⟩
abbrev main_call1_call0_call0_v84 : Ref sig .tc := ⟨.hbm, 392, rfl⟩
abbrev main_call1_call0_call0_c_20 : Ref sig .tc := ⟨.hbm, 393, rfl⟩
abbrev main_call1_call0_call0_v85 : Ref sig .tc := ⟨.hbm, 394, rfl⟩
abbrev main_call1_call0_call0_v86 : Ref sig .tc := ⟨.hbm, 395, rfl⟩
abbrev main_call1_call0_call0_c_21 : Ref sig .tc := ⟨.hbm, 396, rfl⟩
abbrev main_call1_call0_call0_v87 : Ref sig .tc := ⟨.hbm, 397, rfl⟩
abbrev main_call1_call0_call0_v88 : Ref sig .tc := ⟨.hbm, 398, rfl⟩
abbrev main_call1_call0_call0_v89 : Ref sig .tc := ⟨.hbm, 399, rfl⟩
abbrev main_call1_call0_call0_v90 : Ref sig .tc := ⟨.hbm, 400, rfl⟩
abbrev main_call1_call0_call0_v91 : Ref sig .tc := ⟨.hbm, 401, rfl⟩
abbrev main_call1_call0_call0_c_22 : Ref sig .tc := ⟨.hbm, 402, rfl⟩
abbrev main_call1_call0_call0_v92 : Ref sig .tc := ⟨.hbm, 403, rfl⟩
abbrev main_call1_call0_call0_v93 : Ref sig .tc := ⟨.hbm, 404, rfl⟩
abbrev main_call1_call0_call0_c_23 : Ref sig .tc := ⟨.hbm, 405, rfl⟩
abbrev main_call1_call0_call0_v94 : Ref sig .tc := ⟨.hbm, 406, rfl⟩
abbrev main_call1_call0_call0_v95 : Ref sig .tc := ⟨.hbm, 407, rfl⟩
abbrev main_call1_call0_call0_v96 : Ref sig .tc := ⟨.hbm, 408, rfl⟩
abbrev main_call1_call0_call0_v97 : Ref sig .tc := ⟨.hbm, 409, rfl⟩
abbrev main_call1_call0_call0_v98 : Ref sig .tc := ⟨.hbm, 410, rfl⟩
abbrev main_call1_call0_call0_c_24 : Ref sig .tc := ⟨.hbm, 411, rfl⟩
abbrev main_call1_call0_call0_v99 : Ref sig .tc := ⟨.hbm, 412, rfl⟩
abbrev main_call1_call0_call0_v100 : Ref sig .tc := ⟨.hbm, 413, rfl⟩
abbrev main_call1_call0_call0_c_25 : Ref sig .tc := ⟨.hbm, 414, rfl⟩
abbrev main_call1_call0_call0_v101 : Ref sig .tc := ⟨.hbm, 415, rfl⟩
abbrev main_call1_call0_call0_v102 : Ref sig .tc := ⟨.hbm, 416, rfl⟩
abbrev main_call1_call0_call0_v103 : Ref sig .tc := ⟨.hbm, 417, rfl⟩
abbrev main_call1_call0_call0_v104 : Ref sig .tc := ⟨.hbm, 418, rfl⟩
abbrev main_call1_call0_call0_v105 : Ref sig .tc := ⟨.hbm, 419, rfl⟩
abbrev main_call1_call0_call0_v106 : Ref sig .tc := ⟨.hbm, 420, rfl⟩
abbrev main_call1_call0_call0_v107 : Ref sig .tc := ⟨.hbm, 421, rfl⟩
abbrev main_call1_call0_call0_v108 : Ref sig .tc := ⟨.hbm, 422, rfl⟩
abbrev main_call1_call0_call0_c_26 : Ref sig .tc := ⟨.hbm, 423, rfl⟩
abbrev main_call1_call0_call0_v109 : Ref sig .tc := ⟨.hbm, 424, rfl⟩
abbrev main_call1_call0_call0_v110 : Ref sig .tc := ⟨.hbm, 425, rfl⟩
abbrev main_call1_call0_call0_v111 : Ref sig .tc := ⟨.hbm, 426, rfl⟩
abbrev main_call1_call0_call0_c_27 : Ref sig .tc := ⟨.hbm, 427, rfl⟩
abbrev main_call1_call0_call0_v112 : Ref sig .tc := ⟨.hbm, 428, rfl⟩
abbrev main_call1_call0_call0_v113 : Ref sig .tc := ⟨.hbm, 429, rfl⟩
abbrev main_call1_call0_call0_c_28 : Ref sig .tc := ⟨.hbm, 430, rfl⟩
abbrev main_call1_call0_call0_v114 : Ref sig .tc := ⟨.hbm, 431, rfl⟩
abbrev main_call1_call0_call0_v115 : Ref sig .tc := ⟨.hbm, 432, rfl⟩
abbrev main_call1_call0_call0_v116 : Ref sig .tc := ⟨.hbm, 433, rfl⟩
abbrev main_call1_call0_call0_v117 : Ref sig .tc := ⟨.hbm, 434, rfl⟩
abbrev main_call1_call0_call0_v118 : Ref sig .tc := ⟨.hbm, 435, rfl⟩
abbrev main_call1_call0_call0_c_29 : Ref sig .tc := ⟨.hbm, 436, rfl⟩
abbrev main_call1_call0_call0_v119 : Ref sig .tc := ⟨.hbm, 437, rfl⟩
abbrev main_call1_call0_call0_v120 : Ref sig .tc := ⟨.hbm, 438, rfl⟩
abbrev main_call1_call0_call0_c_30 : Ref sig .tc := ⟨.hbm, 439, rfl⟩
abbrev main_call1_call0_call0_v121 : Ref sig .tc := ⟨.hbm, 440, rfl⟩
abbrev main_call1_call0_call0_v122 : Ref sig .tc := ⟨.hbm, 441, rfl⟩
abbrev main_call1_call0_call0_v123 : Ref sig .tc := ⟨.hbm, 442, rfl⟩
abbrev main_call1_call0_call0_v124 : Ref sig .tc := ⟨.hbm, 443, rfl⟩
abbrev main_call1_call0_call0_v125 : Ref sig .tc := ⟨.hbm, 444, rfl⟩
abbrev main_call1_call0_call0_c_31 : Ref sig .tc := ⟨.hbm, 445, rfl⟩
abbrev main_call1_call0_call0_v126 : Ref sig .tc := ⟨.hbm, 446, rfl⟩
abbrev main_call1_call0_call0_v127 : Ref sig .tc := ⟨.hbm, 447, rfl⟩
abbrev main_call1_call0_call0_c_32 : Ref sig .tc := ⟨.hbm, 448, rfl⟩
abbrev main_call1_call0_call0_v128 : Ref sig .tc := ⟨.hbm, 449, rfl⟩
abbrev main_call1_call0_call0_v129 : Ref sig .tc := ⟨.hbm, 450, rfl⟩
abbrev main_call1_call0_call0_v130 : Ref sig .tc := ⟨.hbm, 451, rfl⟩
abbrev main_call1_call0_call0_v131 : Ref sig .tc := ⟨.hbm, 452, rfl⟩
abbrev main_call1_call0_call0_v132 : Ref sig .tc := ⟨.hbm, 453, rfl⟩
abbrev main_call1_call0_call0_c_33 : Ref sig .tc := ⟨.hbm, 454, rfl⟩
abbrev main_call1_call0_call0_v133 : Ref sig .tc := ⟨.hbm, 455, rfl⟩
abbrev main_call1_call0_call0_v134 : Ref sig .tc := ⟨.hbm, 456, rfl⟩
abbrev main_call1_call0_call0_c_34 : Ref sig .tc := ⟨.hbm, 457, rfl⟩
abbrev main_call1_call0_call0_v135 : Ref sig .tc := ⟨.hbm, 458, rfl⟩
abbrev main_call1_call0_call0_v136 : Ref sig .tc := ⟨.hbm, 459, rfl⟩
abbrev main_call1_call0_call0_v137 : Ref sig .tc := ⟨.hbm, 460, rfl⟩
abbrev main_call1_call0_call0_v138 : Ref sig .tc := ⟨.hbm, 461, rfl⟩
abbrev main_call1_call0_call0_v139 : Ref sig .tc := ⟨.hbm, 462, rfl⟩
abbrev main_call1_call0_call0_v140 : Ref sig .tc := ⟨.hbm, 463, rfl⟩
abbrev main_call1_call0_call0_v141 : Ref sig .tc := ⟨.hbm, 464, rfl⟩
abbrev main_call1_call0_call0_v142 : Ref sig .tc := ⟨.hbm, 465, rfl⟩
abbrev main_call1_call0_call0_c_35 : Ref sig .tc := ⟨.hbm, 466, rfl⟩
abbrev main_call1_call0_call0_v143 : Ref sig .tc := ⟨.hbm, 467, rfl⟩
abbrev main_call1_call0_call0_v144 : Ref sig .tc := ⟨.hbm, 468, rfl⟩
abbrev main_call1_call0_call0_v145 : Ref sig .tc := ⟨.hbm, 469, rfl⟩
abbrev main_call1_call0_call0_c_36 : Ref sig .tc := ⟨.hbm, 470, rfl⟩
abbrev main_call1_call0_call0_v146 : Ref sig .tc := ⟨.hbm, 471, rfl⟩
abbrev main_call1_call0_call0_v147 : Ref sig .tc := ⟨.hbm, 472, rfl⟩
abbrev main_call1_call0_call0_c_37 : Ref sig .tc := ⟨.hbm, 473, rfl⟩
abbrev main_call1_call0_call0_v148 : Ref sig .tc := ⟨.hbm, 474, rfl⟩
abbrev main_call1_call0_call0_v149 : Ref sig .tc := ⟨.hbm, 475, rfl⟩
abbrev main_call1_call0_call0_v150 : Ref sig .tc := ⟨.hbm, 476, rfl⟩
abbrev main_call1_call0_call0_v151 : Ref sig .tc := ⟨.hbm, 477, rfl⟩
abbrev main_call1_call0_call0_v152 : Ref sig .tc := ⟨.hbm, 478, rfl⟩
abbrev main_call1_call0_call0_c_38 : Ref sig .tc := ⟨.hbm, 479, rfl⟩
abbrev main_call1_call0_call0_v153 : Ref sig .tc := ⟨.hbm, 480, rfl⟩
abbrev main_call1_call0_call0_v154 : Ref sig .tc := ⟨.hbm, 481, rfl⟩
abbrev main_call1_call0_call0_c_39 : Ref sig .tc := ⟨.hbm, 482, rfl⟩
abbrev main_call1_call0_call0_v155 : Ref sig .tc := ⟨.hbm, 483, rfl⟩
abbrev main_call1_call0_call0_v156 : Ref sig .tc := ⟨.hbm, 484, rfl⟩
abbrev main_call1_call0_call0_v157 : Ref sig .tc := ⟨.hbm, 485, rfl⟩
abbrev main_call1_call0_call0_v158 : Ref sig .tc := ⟨.hbm, 486, rfl⟩
abbrev main_call1_call0_call0_v159 : Ref sig .tc := ⟨.hbm, 487, rfl⟩
abbrev main_call1_call0_call0_c_40 : Ref sig .tc := ⟨.hbm, 488, rfl⟩
abbrev main_call1_call0_call0_v160 : Ref sig .tc := ⟨.hbm, 489, rfl⟩
abbrev main_call1_call0_call0_v161 : Ref sig .tc := ⟨.hbm, 490, rfl⟩
abbrev main_call1_call0_call0_c_41 : Ref sig .tc := ⟨.hbm, 491, rfl⟩
abbrev main_call1_call0_call0_v162 : Ref sig .tc := ⟨.hbm, 492, rfl⟩
abbrev main_call1_call0_call0_v163 : Ref sig .tc := ⟨.hbm, 493, rfl⟩
abbrev main_call1_call0_call0_v164 : Ref sig .tc := ⟨.hbm, 494, rfl⟩
abbrev main_call1_call0_call0_v165 : Ref sig .tc := ⟨.hbm, 495, rfl⟩
abbrev main_call1_call0_call0_v166 : Ref sig .tc := ⟨.hbm, 496, rfl⟩
abbrev main_call1_call0_call0_c_42 : Ref sig .tc := ⟨.hbm, 497, rfl⟩
abbrev main_call1_call0_call0_v167 : Ref sig .tc := ⟨.hbm, 498, rfl⟩
abbrev main_call1_call0_call0_v168 : Ref sig .tc := ⟨.hbm, 499, rfl⟩
abbrev main_call1_call0_call0_c_43 : Ref sig .tc := ⟨.hbm, 500, rfl⟩
abbrev main_call1_call0_call0_v169 : Ref sig .tc := ⟨.hbm, 501, rfl⟩
abbrev main_call1_call0_call0_v170 : Ref sig .tc := ⟨.hbm, 502, rfl⟩
abbrev main_call1_call0_call0_v171 : Ref sig .tc := ⟨.hbm, 503, rfl⟩
abbrev main_call1_call0_call0_v172 : Ref sig .tc := ⟨.hbm, 504, rfl⟩
abbrev main_call1_call0_call0_v173 : Ref sig .tc := ⟨.hbm, 505, rfl⟩
abbrev main_call1_call0_v22_0 : Ref sig .tc := ⟨.hbm, 506, rfl⟩
abbrev main_call1_call0_call0_v175 : Ref sig .tc := ⟨.hbm, 507, rfl⟩
abbrev main_call1_call0_call0_v176 : Ref sig .tc := ⟨.hbm, 508, rfl⟩
abbrev main_call1_call0_call0_c_44 : Ref sig .tc := ⟨.hbm, 509, rfl⟩
abbrev main_call1_call0_call0_v177 : Ref sig .tc := ⟨.hbm, 510, rfl⟩
abbrev main_call1_call0_v22_1 : Ref sig .tc := ⟨.hbm, 511, rfl⟩
abbrev main_call1_call0_v23 : Ref sig .tc := ⟨.hbm, 512, rfl⟩
abbrev main_call1_call0_c_2 : Ref sig .tc := ⟨.hbm, 513, rfl⟩
abbrev main_call1_call0_v24 : Ref sig .tc := ⟨.hbm, 514, rfl⟩
abbrev main_call1_call0_v25 : Ref sig .tc := ⟨.hbm, 515, rfl⟩
abbrev main_call1_call0_c_3 : Ref sig .tc := ⟨.hbm, 516, rfl⟩
abbrev main_call1_call0_v26 : Ref sig .tc := ⟨.hbm, 517, rfl⟩
abbrev main_call1_call0_v27 : Ref sig .tc := ⟨.hbm, 518, rfl⟩
abbrev main_call1_call0_v28 : Ref sig .tc := ⟨.hbm, 519, rfl⟩
abbrev main_call1_call0_cst : Ref sig .tc := ⟨.hbm, 520, rfl⟩
abbrev main_call1_call0_v29 : Ref sig .tc := ⟨.hbm, 521, rfl⟩
abbrev main_call1_call0_v30 : Ref sig .tc := ⟨.hbm, 522, rfl⟩
abbrev main_call1_call0_v31 : Ref sig .tc := ⟨.hbm, 523, rfl⟩
abbrev main_call1_call0_v32 : Ref sig .tc := ⟨.hbm, 524, rfl⟩
abbrev main_call1_call0_v33 : Ref sig .tc := ⟨.hbm, 525, rfl⟩
abbrev main_call1_call0_v34 : Ref sig .tc := ⟨.hbm, 526, rfl⟩
abbrev main_call1_call0_v35 : Ref sig .tc := ⟨.hbm, 527, rfl⟩
abbrev main_call1_call0_v36 : Ref sig .tc := ⟨.hbm, 528, rfl⟩
abbrev main_call1_call0_v37 : Ref sig .tc := ⟨.hbm, 529, rfl⟩
abbrev main_call1_call0_v38 : Ref sig .tc := ⟨.hbm, 530, rfl⟩
abbrev main_call1_call0_v39 : Ref sig .tc := ⟨.hbm, 531, rfl⟩
abbrev main_call1_v0 : Ref sig .tc := ⟨.hbm, 532, rfl⟩
abbrev main_call1_v1 : Ref sig .tc := ⟨.hbm, 533, rfl⟩
abbrev main_call1_v2 : Ref sig .tc := ⟨.hbm, 534, rfl⟩
abbrev main_call1_v3 : Ref sig .tc := ⟨.hbm, 535, rfl⟩
abbrev main_v10 : Ref sig .tc := ⟨.hbm, 536, rfl⟩
abbrev main_v11 : Ref sig .tc := ⟨.hbm, 537, rfl⟩
abbrev main_v12 : Ref sig .tc := ⟨.hbm, 538, rfl⟩
abbrev main_v13 : Ref sig .tc := ⟨.hbm, 539, rfl⟩
abbrev main_v14 : Ref sig .tc := ⟨.hbm, 540, rfl⟩
abbrev main_v15 : Ref sig .tc := ⟨.hbm, 541, rfl⟩
abbrev main_v16 : Ref sig .tc := ⟨.hbm, 542, rfl⟩
abbrev main_v17_0 : Ref sig .tc := ⟨.hbm, 543, rfl⟩
abbrev main_v17_1 : Ref sig .tc := ⟨.hbm, 544, rfl⟩
abbrev main_v17_2 : Ref sig .tc := ⟨.hbm, 545, rfl⟩
abbrev main_v18 : Ref sig .tc := ⟨.hbm, 546, rfl⟩
abbrev main_v19 : Ref sig .tc := ⟨.hbm, 547, rfl⟩
abbrev main_v20 : Ref sig .tc := ⟨.hbm, 548, rfl⟩
abbrev main_v21 : Ref sig .tc := ⟨.hbm, 549, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![512], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v151 : BitVec 32) : Fin 2 → Nat :=
  let v152 : Index := Scalar.indexCast v151
  let c0_73 : Index := 0#32
  ![v152.toNat, 0]

def k0_chk1 (i : grid0.Coords) (v151 : BitVec 32) : Prop :=
  (∀ (k0_h1 : k0_cond1 i = 1#1), ∀ a, (k0_off1 v151) a + S1x512.size a ≤ S1024x512.size a)
theorem k0_off1_inb : ∀ (i : grid0.Coords) (v151 : BitVec 32) (k0_hw1 : k0_chk1 i v151), ∀ (k0_h1 : k0_cond1 i = 1#1), ∀ a, (k0_off1 v151) a + S1x512.size a ≤ S1024x512.size a := fun i v151 k0_hw1 k0_h1 => k0_hw1 k0_h1

def k0_off2 (v157 : BitVec 32) : Fin 2 → Nat :=
  let v158 : Index := Scalar.indexCast v157
  let c0_77 : Index := 0#32
  ![v158.toNat, 0]

def k0_chk2 (i : grid0.Coords) (v157 : BitVec 32) : Prop :=
  (∀ (k0_h1 : k0_cond1 i = 1#1), ∀ a, (k0_off2 v157) a + S1x512.size a ≤ S1024x512.size a)
theorem k0_off2_inb : ∀ (i : grid0.Coords) (v157 : BitVec 32) (k0_hw2 : k0_chk2 i v157), ∀ (k0_h1 : k0_cond1 i = 1#1), ∀ a, (k0_off2 v157) a + S1x512.size a ≤ S1024x512.size a := fun i v157 k0_hw2 k0_h1 => k0_hw2 k0_h1

def k0_off3 (v163 : BitVec 32) : Fin 2 → Nat :=
  let v164 : Index := Scalar.indexCast v163
  let c0_81 : Index := 0#32
  ![v164.toNat, 0]

def k0_chk3 (i : grid0.Coords) (v163 : BitVec 32) : Prop :=
  (∀ (k0_h1 : k0_cond1 i = 1#1), ∀ a, (k0_off3 v163) a + S1x512.size a ≤ S1024x512.size a)
theorem k0_off3_inb : ∀ (i : grid0.Coords) (v163 : BitVec 32) (k0_hw3 : k0_chk3 i v163), ∀ (k0_h1 : k0_cond1 i = 1#1), ∀ a, (k0_off3 v163) a + S1x512.size a ≤ S1024x512.size a := fun i v163 k0_hw3 k0_h1 => k0_hw3 k0_h1

def k0_off4 (v169 : BitVec 32) : Fin 2 → Nat :=
  let v170 : Index := Scalar.indexCast v169
  let c0_85 : Index := 0#32
  ![v170.toNat, 0]

def k0_chk4 (i : grid0.Coords) (v169 : BitVec 32) : Prop :=
  (∀ (k0_h1 : k0_cond1 i = 1#1), ∀ a, (k0_off4 v169) a + S1x512.size a ≤ S1024x512.size a)
theorem k0_off4_inb : ∀ (i : grid0.Coords) (v169 : BitVec 32) (k0_hw4 : k0_chk4 i v169), ∀ (k0_h1 : k0_cond1 i = 1#1), ∀ a, (k0_off4 v169) a + S1x512.size a ≤ S1024x512.size a := fun i v169 k0_hw4 k0_h1 => k0_hw4 k0_h1

def k0_off5 (v175 : BitVec 32) : Fin 2 → Nat :=
  let v176 : Index := Scalar.indexCast v175
  let c0_89 : Index := 0#32
  ![v176.toNat, 0]

def k0_chk5 (i : grid0.Coords) (v175 : BitVec 32) : Prop :=
  (∀ (k0_h1 : k0_cond1 i = 1#1), ∀ a, (k0_off5 v175) a + S1x512.size a ≤ S1024x512.size a)
theorem k0_off5_inb : ∀ (i : grid0.Coords) (v175 : BitVec 32) (k0_hw5 : k0_chk5 i v175), ∀ (k0_h1 : k0_cond1 i = 1#1), ∀ a, (k0_off5 v175) a + S1x512.size a ≤ S1024x512.size a := fun i v175 k0_hw5 k0_h1 => k0_hw5 k0_h1

def k0_off6 (v181 : BitVec 32) : Fin 2 → Nat :=
  let v182 : Index := Scalar.indexCast v181
  let c0_93 : Index := 0#32
  ![v182.toNat, 0]

def k0_chk6 (i : grid0.Coords) (v181 : BitVec 32) : Prop :=
  (∀ (k0_h1 : k0_cond1 i = 1#1), ∀ a, (k0_off6 v181) a + S1x512.size a ≤ S1024x512.size a)
theorem k0_off6_inb : ∀ (i : grid0.Coords) (v181 : BitVec 32) (k0_hw6 : k0_chk6 i v181), ∀ (k0_h1 : k0_cond1 i = 1#1), ∀ a, (k0_off6 v181) a + S1x512.size a ≤ S1024x512.size a := fun i v181 k0_hw6 k0_h1 => k0_hw6 k0_h1

def k0_off7 (v187 : BitVec 32) : Fin 2 → Nat :=
  let v188 : Index := Scalar.indexCast v187
  let c0_97 : Index := 0#32
  ![v188.toNat, 0]

def k0_chk7 (i : grid0.Coords) (v187 : BitVec 32) : Prop :=
  (∀ (k0_h1 : k0_cond1 i = 1#1), ∀ a, (k0_off7 v187) a + S1x512.size a ≤ S1024x512.size a)
theorem k0_off7_inb : ∀ (i : grid0.Coords) (v187 : BitVec 32) (k0_hw7 : k0_chk7 i v187), ∀ (k0_h1 : k0_cond1 i = 1#1), ∀ a, (k0_off7 v187) a + S1x512.size a ≤ S1024x512.size a := fun i v187 k0_hw7 k0_h1 => k0_hw7 k0_h1

def k0_off8 (v193 : BitVec 32) : Fin 2 → Nat :=
  let v194 : Index := Scalar.indexCast v193
  let c0_101 : Index := 0#32
  ![v194.toNat, 0]

def k0_chk8 (i : grid0.Coords) (v193 : BitVec 32) : Prop :=
  (∀ (k0_h1 : k0_cond1 i = 1#1), ∀ a, (k0_off8 v193) a + S1x512.size a ≤ S1024x512.size a)
theorem k0_off8_inb : ∀ (i : grid0.Coords) (v193 : BitVec 32) (k0_hw8 : k0_chk8 i v193), ∀ (k0_h1 : k0_cond1 i = 1#1), ∀ a, (k0_off8 v193) a + S1x512.size a ≤ S1024x512.size a := fun i v193 k0_hw8 k0_h1 => k0_hw8 k0_h1

def k0_off9 (v4 : BitVec 32) : Fin 2 → Nat :=
  let v5 : Index := Scalar.indexCast v4
  let c0_2 : Index := 0#32
  ![v5.toNat, 0]

def k0_chk9 (v4 : BitVec 32) : Prop :=
  (∀ a, (k0_off9 v4) a + S1x512.size a ≤ S4096x512.size a)
theorem k0_off9_inb : ∀ (v4 : BitVec 32) (k0_hw9 : k0_chk9 v4), ∀ a, (k0_off9 v4) a + S1x512.size a ≤ S4096x512.size a := fun v4 k0_hw9 => k0_hw9

def k0_off10 (v8 : BitVec 32) : Fin 2 → Nat :=
  let v9 : Index := Scalar.indexCast v8
  let c0_4 : Index := 0#32
  ![v9.toNat, 0]

def k0_chk10 (v8 : BitVec 32) : Prop :=
  (∀ a, (k0_off10 v8) a + S1x512.size a ≤ S4096x512.size a)
theorem k0_off10_inb : ∀ (v8 : BitVec 32) (k0_hw10 : k0_chk10 v8), ∀ a, (k0_off10 v8) a + S1x512.size a ≤ S4096x512.size a := fun v8 k0_hw10 => k0_hw10

def k0_off11 (v12 : BitVec 32) : Fin 2 → Nat :=
  let v13 : Index := Scalar.indexCast v12
  let c0_6 : Index := 0#32
  ![v13.toNat, 0]

def k0_chk11 (v12 : BitVec 32) : Prop :=
  (∀ a, (k0_off11 v12) a + S1x512.size a ≤ S4096x512.size a)
theorem k0_off11_inb : ∀ (v12 : BitVec 32) (k0_hw11 : k0_chk11 v12), ∀ a, (k0_off11 v12) a + S1x512.size a ≤ S4096x512.size a := fun v12 k0_hw11 => k0_hw11

def k0_off12 (v16 : BitVec 32) : Fin 2 → Nat :=
  let v17 : Index := Scalar.indexCast v16
  let c0_8 : Index := 0#32
  ![v17.toNat, 0]

def k0_chk12 (v16 : BitVec 32) : Prop :=
  (∀ a, (k0_off12 v16) a + S1x512.size a ≤ S4096x512.size a)
theorem k0_off12_inb : ∀ (v16 : BitVec 32) (k0_hw12 : k0_chk12 v16), ∀ a, (k0_off12 v16) a + S1x512.size a ≤ S4096x512.size a := fun v16 k0_hw12 => k0_hw12

def k0_off13 (v20 : BitVec 32) : Fin 2 → Nat :=
  let v21 : Index := Scalar.indexCast v20
  let c0_10 : Index := 0#32
  ![v21.toNat, 0]

def k0_chk13 (v20 : BitVec 32) : Prop :=
  (∀ a, (k0_off13 v20) a + S1x512.size a ≤ S4096x512.size a)
theorem k0_off13_inb : ∀ (v20 : BitVec 32) (k0_hw13 : k0_chk13 v20), ∀ a, (k0_off13 v20) a + S1x512.size a ≤ S4096x512.size a := fun v20 k0_hw13 => k0_hw13

def k0_off14 (v24 : BitVec 32) : Fin 2 → Nat :=
  let v25 : Index := Scalar.indexCast v24
  let c0_12 : Index := 0#32
  ![v25.toNat, 0]

def k0_chk14 (v24 : BitVec 32) : Prop :=
  (∀ a, (k0_off14 v24) a + S1x512.size a ≤ S4096x512.size a)
theorem k0_off14_inb : ∀ (v24 : BitVec 32) (k0_hw14 : k0_chk14 v24), ∀ a, (k0_off14 v24) a + S1x512.size a ≤ S4096x512.size a := fun v24 k0_hw14 => k0_hw14

def k0_off15 (v28 : BitVec 32) : Fin 2 → Nat :=
  let v29 : Index := Scalar.indexCast v28
  let c0_14 : Index := 0#32
  ![v29.toNat, 0]

def k0_chk15 (v28 : BitVec 32) : Prop :=
  (∀ a, (k0_off15 v28) a + S1x512.size a ≤ S4096x512.size a)
theorem k0_off15_inb : ∀ (v28 : BitVec 32) (k0_hw15 : k0_chk15 v28), ∀ a, (k0_off15 v28) a + S1x512.size a ≤ S4096x512.size a := fun v28 k0_hw15 => k0_hw15

def k0_off16 (v32 : BitVec 32) : Fin 2 → Nat :=
  let v33 : Index := Scalar.indexCast v32
  let c0_16 : Index := 0#32
  ![v33.toNat, 0]

def k0_chk16 (v32 : BitVec 32) : Prop :=
  (∀ a, (k0_off16 v32) a + S1x512.size a ≤ S4096x512.size a)
theorem k0_off16_inb : ∀ (v32 : BitVec 32) (k0_hw16 : k0_chk16 v32), ∀ a, (k0_off16 v32) a + S1x512.size a ≤ S4096x512.size a := fun v32 k0_hw16 => k0_hw16

def k0_cond2 (i : grid0.Coords) : BitVec 1 :=
  let arg0 : BitVec 32 := BitVec.ofNat 32 (i 0).val
  let c511_i32 : BitVec 32 := 511#32
  let v148 : BitVec 1 := Scalar.cmpi .eq arg0 c511_i32
  let v149 : BitVec 32 := Scalar.extui v148
  let c0_i32_71 : BitVec 32 := 0#32
  let v150 : BitVec 1 := Scalar.cmpi .ne v149 c0_i32_71
  v150

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8 : Shape := ⟨1, ![8]⟩
abbrev S1024x512 : Shape := ⟨2, ![1024, 512]⟩
abbrev S4096x512 : Shape := ⟨2, ![4096, 512]⟩
abbrev S1536x512 : Shape := ⟨2, ![1536, 512]⟩
abbrev S1536 : Shape := ⟨1, ![1536]⟩
abbrev S4096 : Shape := ⟨1, ![4096]⟩
abbrev S_ : Shape := ⟨0, ![]⟩
abbrev S8x1 : Shape := ⟨2, ![8, 1]⟩
abbrev S8x512 : Shape := ⟨2, ![8, 512]⟩
abbrev S1 : Shape := ⟨1, ![1]⟩
abbrev S2 : Shape := ⟨1, ![2]⟩
abbrev S512 : Shape := ⟨1, ![512]⟩
abbrev S512x8 : Shape := ⟨2, ![512, 8]⟩
abbrev S512x1536 : Shape := ⟨2, ![512, 1536]⟩
abbrev S8x1536 : Shape := ⟨2, ![8, 1536]⟩
abbrev S1x1536 : Shape := ⟨2, ![1, 1536]⟩
abbrev S512x4096 : Shape := ⟨2, ![512, 4096]⟩
abbrev S8x4096 : Shape := ⟨2, ![8, 4096]⟩
abbrev S1x4096 : Shape := ⟨2, ![1, 4096]⟩
abbrev S1x1 : Shape := ⟨2, ![1, 1]⟩
abbrev S8x1x1 : Shape := ⟨3, ![8, 1, 1]⟩
abbrev S1x1x1 : Shape := ⟨3, ![1, 1, 1]⟩
abbrev S1x8 : Shape := ⟨2, ![1, 8]⟩

abbrev nBuf : Space → Nat
  | .hbm => 698
  | .vmem => 0
  | .smem => 0
  | _ => 0

abbrev hbmTy0_0 (i : Nat) : BufTy := match i % 128 with
  | 0 => ⟨S8, .i32⟩
  | 1 => ⟨S8, .i32⟩
  | 2 => ⟨S1024x512, .f32⟩
  | 3 => ⟨S4096x512, .f32⟩
  | 4 => ⟨S1536x512, .f32⟩
  | 5 => ⟨S1536x512, .f32⟩
  | 6 => ⟨S1536, .f32⟩
  | 7 => ⟨S1536, .f32⟩
  | 8 => ⟨S4096x512, .f32⟩
  | 9 => ⟨S4096, .f32⟩
  | 10 => ⟨S_, .i32⟩
  | 11 => ⟨S8, .i32⟩
  | 12 => ⟨S8, .i1⟩
  | 13 => ⟨S_, .i32⟩
  | 14 => ⟨S8, .i32⟩
  | 15 => ⟨S8, .i32⟩
  | 16 => ⟨S8, .i32⟩
  | 17 => ⟨S8x1, .i32⟩
  | 18 => ⟨S8x512, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .i32⟩
  | 30 => ⟨S8, .i32⟩
  | 31 => ⟨S_, .i1⟩
  | 32 => ⟨S8, .i1⟩
  | 33 => ⟨S_, .i32⟩
  | 34 => ⟨S8, .i32⟩
  | 35 => ⟨S_, .f32⟩
  | 36 => ⟨S8, .f32⟩
  | 37 => ⟨S512, .i32⟩
  | 38 => ⟨S_, .i32⟩
  | 39 => ⟨S512x8, .i32⟩
  | 40 => ⟨S_, .i32⟩
  | 41 => ⟨S512, .i32⟩
  | 42 => ⟨S4096x512, .f32⟩
  | 43 => ⟨S1536x512, .f32⟩
  | 44 => ⟨S1536, .f32⟩
  | 45 => ⟨S1536x512, .f32⟩
  | 46 => ⟨S1536, .f32⟩
  | 47 => ⟨S4096x512, .f32⟩
  | 48 => ⟨S4096, .f32⟩
  | 49 => ⟨S2, .i32⟩
  | 50 => ⟨S_, .i32⟩
  | 51 => ⟨S8x512, .f32⟩
  | 52 => ⟨S8, .i32⟩
  | 53 => ⟨S8, .i1⟩
  | 54 => ⟨S8, .i32⟩
  | 55 => ⟨S8, .f32⟩
  | 56 => ⟨S512x8, .i32⟩
  | 57 => ⟨S_, .i32⟩
  | 58 => ⟨S_, .i1⟩
  | 59 => ⟨S1, .i32⟩
  | 60 => ⟨S_, .i32⟩
  | 61 => ⟨S_, .i32⟩
  | 62 => ⟨S8, .i32⟩
  | 63 => ⟨S8, .i1⟩
  | 64 => ⟨S_, .i32⟩
  | 65 => ⟨S8, .i32⟩
  | 66 => ⟨S8, .i32⟩
  | 67 => ⟨S8, .i32⟩
  | 68 => ⟨S8x1, .i32⟩
  | 69 => ⟨S8x512, .f32⟩
  | 70 => ⟨S512x1536, .f32⟩
  | 71 => ⟨S8x1536, .f32⟩
  | 72 => ⟨S1x1536, .f32⟩
  | 73 => ⟨S8x1536, .f32⟩
  | 74 => ⟨S8x1536, .f32⟩
  | 75 => ⟨S512x1536, .f32⟩
  | 76 => ⟨S8x1536, .f32⟩
  | 77 => ⟨S1x1536, .f32⟩
  | 78 => ⟨S8x1536, .f32⟩
  | 79 => ⟨S8x1536, .f32⟩
  | 80 => ⟨S8x512, .f32⟩
  | 81 => ⟨S8x512, .f32⟩
  | 82 => ⟨S8x512, .f32⟩
  | 83 => ⟨S8x512, .f32⟩
  | 84 => ⟨S8x512, .f32⟩
  | 85 => ⟨S8x512, .f32⟩
  | 86 => ⟨S8x512, .f32⟩
  | 87 => ⟨S8x512, .f32⟩
  | 88 => ⟨S8x512, .f32⟩
  | 89 => ⟨S_, .f32⟩
  | 90 => ⟨S8x512, .f32⟩
  | 91 => ⟨S8x512, .f32⟩
  | 92 => ⟨S_, .f32⟩
  | 93 => ⟨S8x512, .f32⟩
  | 94 => ⟨S8x512, .f32⟩
  | 95 => ⟨S8x512, .f32⟩
  | 96 => ⟨S8x512, .f32⟩
  | 97 => ⟨S8x512, .f32⟩
  | 98 => ⟨S_, .f32⟩
  | 99 => ⟨S8x512, .f32⟩
  | 100 => ⟨S8x512, .f32⟩
  | 101 => ⟨S_, .f32⟩
  | 102 => ⟨S8x512, .f32⟩
  | 103 => ⟨S8x512, .f32⟩
  | 104 => ⟨S8x512, .f32⟩
  | 105 => ⟨S8x512, .f32⟩
  | 106 => ⟨S8x512, .f32⟩
  | 107 => ⟨S_, .f32⟩
  | 108 => ⟨S8x512, .f32⟩
  | 109 => ⟨S8x512, .f32⟩
  | 110 => ⟨S8x512, .f32⟩
  | 111 => ⟨S8x512, .f32⟩
  | 112 => ⟨S8x512, .f32⟩
  | 113 => ⟨S512x4096, .f32⟩
  | 114 => ⟨S8x4096, .f32⟩
  | 115 => ⟨S1x4096, .f32⟩
  | 116 => ⟨S8x4096, .f32⟩
  | 117 => ⟨S8x4096, .f32⟩
  | 118 => ⟨S_, .i32⟩
  | 119 => ⟨S_, .i32⟩
  | 120 => ⟨S_, .i32⟩
  | 121 => ⟨S1, .i32⟩
  | 122 => ⟨S_, .i32⟩
  | 123 => ⟨S_, .i32⟩
  | 124 => ⟨S1, .i32⟩
  | 125 => ⟨S2, .i32⟩
  | 126 => ⟨S1, .i32⟩
  | 127 => ⟨S_, .i32⟩
  | _ => ⟨S8, .i32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S_, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S_, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S1, .i32⟩
  | 38 => ⟨S1, .i32⟩
  | 39 => ⟨S_, .i32⟩
  | 40 => ⟨S1, .i32⟩
  | 41 => ⟨S1, .i32⟩
  | 42 => ⟨S_, .i32⟩
  | 43 => ⟨S1, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S_, .i32⟩
  | 74 => ⟨S1, .i32⟩
  | 75 => ⟨S1, .i32⟩
  | 76 => ⟨S_, .i32⟩
  | 77 => ⟨S1, .i32⟩
  | 78 => ⟨S1, .i32⟩
  | 79 => ⟨S1, .i32⟩
  | 80 => ⟨S1, .i32⟩
  | 81 => ⟨S1, .i32⟩
  | 82 => ⟨S_, .i32⟩
  | 83 => ⟨S1, .i32⟩
  | 84 => ⟨S1, .i32⟩
  | 85 => ⟨S_, .i32⟩
  | 86 => ⟨S1, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S_, .i32⟩
  | 99 => ⟨S1, .i32⟩
  | 100 => ⟨S1, .i32⟩
  | 101 => ⟨S_, .i32⟩
  | 102 => ⟨S1, .i32⟩
  | 103 => ⟨S1, .i32⟩
  | 104 => ⟨S1, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i32⟩
  | 113 => ⟨S1, .i32⟩
  | 114 => ⟨S1, .i32⟩
  | 115 => ⟨S1, .i32⟩
  | 116 => ⟨S_, .i32⟩
  | 117 => ⟨S1, .i32⟩
  | 118 => ⟨S1, .i32⟩
  | 119 => ⟨S_, .i32⟩
  | 120 => ⟨S1, .i32⟩
  | 121 => ⟨S1, .i32⟩
  | 122 => ⟨S1, .i32⟩
  | 123 => ⟨S1, .i32⟩
  | 124 => ⟨S1, .i32⟩
  | 125 => ⟨S_, .i32⟩
  | 126 => ⟨S1, .i32⟩
  | 127 => ⟨S1, .i32⟩
  | _ => ⟨S8, .i32⟩

abbrev hbmTy0_2 (i : Nat) : BufTy := match i % 128 with
  | 0 => ⟨S_, .i32⟩
  | 1 => ⟨S1, .i32⟩
  | 2 => ⟨S1, .i32⟩
  | 3 => ⟨S1, .i32⟩
  | 4 => ⟨S1, .i32⟩
  | 5 => ⟨S1, .i32⟩
  | 6 => ⟨S1, .i32⟩
  | 7 => ⟨S1, .i32⟩
  | 8 => ⟨S1, .i32⟩
  | 9 => ⟨S_, .i32⟩
  | 10 => ⟨S1, .i32⟩
  | 11 => ⟨S1, .i32⟩
  | 12 => ⟨S1, .i32⟩
  | 13 => ⟨S_, .i32⟩
  | 14 => ⟨S1, .i32⟩
  | 15 => ⟨S1, .i32⟩
  | 16 => ⟨S_, .i32⟩
  | 17 => ⟨S1, .i32⟩
  | 18 => ⟨S1, .i32⟩
  | 19 => ⟨S1, .i32⟩
  | 20 => ⟨S1, .i32⟩
  | 21 => ⟨S1, .i32⟩
  | 22 => ⟨S_, .i32⟩
  | 23 => ⟨S1, .i32⟩
  | 24 => ⟨S1, .i32⟩
  | 25 => ⟨S_, .i32⟩
  | 26 => ⟨S1, .i32⟩
  | 27 => ⟨S1, .i32⟩
  | 28 => ⟨S1, .i32⟩
  | 29 => ⟨S1, .i32⟩
  | 30 => ⟨S1, .i32⟩
  | 31 => ⟨S_, .i32⟩
  | 32 => ⟨S1, .i32⟩
  | 33 => ⟨S1, .i32⟩
  | 34 => ⟨S_, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S_, .i32⟩
  | 44 => ⟨S1, .i32⟩
  | 45 => ⟨S1, .i32⟩
  | 46 => ⟨S1, .i32⟩
  | 47 => ⟨S1, .i32⟩
  | 48 => ⟨S1, .i32⟩
  | 49 => ⟨S1, .i32⟩
  | 50 => ⟨S1, .i32⟩
  | 51 => ⟨S1, .i32⟩
  | 52 => ⟨S_, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S1, .i32⟩
  | 91 => ⟨S1, .i32⟩
  | 92 => ⟨S1, .i32⟩
  | 93 => ⟨S1, .i32⟩
  | 94 => ⟨S1, .i32⟩
  | 95 => ⟨S_, .i32⟩
  | 96 => ⟨S1, .i32⟩
  | 97 => ⟨S1, .i32⟩
  | 98 => ⟨S2, .i32⟩
  | 99 => ⟨S_, .f32⟩
  | 100 => ⟨S_, .f32⟩
  | 101 => ⟨S_, .f32⟩
  | 102 => ⟨S1x1, .f32⟩
  | 103 => ⟨S1x1, .f32⟩
  | 104 => ⟨S1, .i32⟩
  | 105 => ⟨S_, .i32⟩
  | 106 => ⟨S1, .i32⟩
  | 107 => ⟨S_, .i32⟩
  | 108 => ⟨S8x4096, .i64⟩
  | 109 => ⟨S8x4096, .i64⟩
  | 110 => ⟨S_, .i64⟩
  | 111 => ⟨S8x4096, .i64⟩
  | 112 => ⟨S8x4096, .i64⟩
  | 113 => ⟨S_, .i64⟩
  | 114 => ⟨S8x4096, .i64⟩
  | 115 => ⟨S8x4096, .i64⟩
  | 116 => ⟨S8x4096, .i64⟩
  | 117 => ⟨S_, .i64⟩
  | 118 => ⟨S8x4096, .i64⟩
  | 119 => ⟨S8x4096, .i64⟩
  | 120 => ⟨S8x4096, .i32⟩
  | 121 => ⟨S8x4096, .i32⟩
  | 122 => ⟨S_, .i32⟩
  | 123 => ⟨S_, .i32⟩
  | 124 => ⟨S_, .i32⟩
  | 125 => ⟨S8x4096, .i32⟩
  | 126 => ⟨S8x4096, .i32⟩
  | 127 => ⟨S8x4096, .i32⟩
  | _ => ⟨S8, .i32⟩

abbrev hbmTy0_3 (i : Nat) : BufTy := match i % 128 with
  | 0 => ⟨S8x4096, .i32⟩
  | 1 => ⟨S8x4096, .i32⟩
  | 2 => ⟨S_, .i32⟩
  | 3 => ⟨S8x4096, .i32⟩
  | 4 => ⟨S8x4096, .i32⟩
  | 5 => ⟨S_, .i32⟩
  | 6 => ⟨S8x4096, .i32⟩
  | 7 => ⟨S8x4096, .i32⟩
  | 8 => ⟨S8x4096, .i32⟩
  | 9 => ⟨S8x4096, .i32⟩
  | 10 => ⟨S8x4096, .i32⟩
  | 11 => ⟨S_, .i32⟩
  | 12 => ⟨S8x4096, .i32⟩
  | 13 => ⟨S8x4096, .i32⟩
  | 14 => ⟨S_, .i32⟩
  | 15 => ⟨S8x4096, .i32⟩
  | 16 => ⟨S8x4096, .i32⟩
  | 17 => ⟨S8x4096, .i32⟩
  | 18 => ⟨S8x4096, .i32⟩
  | 19 => ⟨S8x4096, .i32⟩
  | 20 => ⟨S_, .i32⟩
  | 21 => ⟨S8x4096, .i32⟩
  | 22 => ⟨S8x4096, .i32⟩
  | 23 => ⟨S_, .i32⟩
  | 24 => ⟨S8x4096, .i32⟩
  | 25 => ⟨S8x4096, .i32⟩
  | 26 => ⟨S8x4096, .i32⟩
  | 27 => ⟨S8x4096, .i32⟩
  | 28 => ⟨S8x4096, .i32⟩
  | 29 => ⟨S_, .i32⟩
  | 30 => ⟨S8x4096, .i32⟩
  | 31 => ⟨S8x4096, .i32⟩
  | 32 => ⟨S_, .i32⟩
  | 33 => ⟨S8x4096, .i32⟩
  | 34 => ⟨S8x4096, .i32⟩
  | 35 => ⟨S8x4096, .i32⟩
  | 36 => ⟨S8x4096, .i32⟩
  | 37 => ⟨S8x4096, .i32⟩
  | 38 => ⟨S8x4096, .i32⟩
  | 39 => ⟨S8x4096, .i32⟩
  | 40 => ⟨S8x4096, .i32⟩
  | 41 => ⟨S_, .i32⟩
  | 42 => ⟨S8x4096, .i32⟩
  | 43 => ⟨S8x4096, .i32⟩
  | 44 => ⟨S8x4096, .i32⟩
  | 45 => ⟨S_, .i32⟩
  | 46 => ⟨S8x4096, .i32⟩
  | 47 => ⟨S8x4096, .i32⟩
  | 48 => ⟨S_, .i32⟩
  | 49 => ⟨S8x4096, .i32⟩
  | 50 => ⟨S8x4096, .i32⟩
  | 51 => ⟨S8x4096, .i32⟩
  | 52 => ⟨S8x4096, .i32⟩
  | 53 => ⟨S8x4096, .i32⟩
  | 54 => ⟨S_, .i32⟩
  | 55 => ⟨S8x4096, .i32⟩
  | 56 => ⟨S8x4096, .i32⟩
  | 57 => ⟨S_, .i32⟩
  | 58 => ⟨S8x4096, .i32⟩
  | 59 => ⟨S8x4096, .i32⟩
  | 60 => ⟨S8x4096, .i32⟩
  | 61 => ⟨S8x4096, .i32⟩
  | 62 => ⟨S8x4096, .i32⟩
  | 63 => ⟨S_, .i32⟩
  | 64 => ⟨S8x4096, .i32⟩
  | 65 => ⟨S8x4096, .i32⟩
  | 66 => ⟨S_, .i32⟩
  | 67 => ⟨S8x4096, .i32⟩
  | 68 => ⟨S8x4096, .i32⟩
  | 69 => ⟨S8x4096, .i32⟩
  | 70 => ⟨S8x4096, .i32⟩
  | 71 => ⟨S8x4096, .i32⟩
  | 72 => ⟨S_, .i32⟩
  | 73 => ⟨S8x4096, .i32⟩
  | 74 => ⟨S8x4096, .i32⟩
  | 75 => ⟨S_, .i32⟩
  | 76 => ⟨S8x4096, .i32⟩
  | 77 => ⟨S8x4096, .i32⟩
  | 78 => ⟨S8x4096, .i32⟩
  | 79 => ⟨S8x4096, .i32⟩
  | 80 => ⟨S8x4096, .i32⟩
  | 81 => ⟨S8x4096, .i32⟩
  | 82 => ⟨S8x4096, .i32⟩
  | 83 => ⟨S8x4096, .i32⟩
  | 84 => ⟨S_, .i32⟩
  | 85 => ⟨S8x4096, .i32⟩
  | 86 => ⟨S8x4096, .i32⟩
  | 87 => ⟨S8x4096, .i32⟩
  | 88 => ⟨S_, .i32⟩
  | 89 => ⟨S8x4096, .i32⟩
  | 90 => ⟨S8x4096, .i32⟩
  | 91 => ⟨S_, .i32⟩
  | 92 => ⟨S8x4096, .i32⟩
  | 93 => ⟨S8x4096, .i32⟩
  | 94 => ⟨S8x4096, .i32⟩
  | 95 => ⟨S8x4096, .i32⟩
  | 96 => ⟨S8x4096, .i32⟩
  | 97 => ⟨S_, .i32⟩
  | 98 => ⟨S8x4096, .i32⟩
  | 99 => ⟨S8x4096, .i32⟩
  | 100 => ⟨S_, .i32⟩
  | 101 => ⟨S8x4096, .i32⟩
  | 102 => ⟨S8x4096, .i32⟩
  | 103 => ⟨S8x4096, .i32⟩
  | 104 => ⟨S8x4096, .i32⟩
  | 105 => ⟨S8x4096, .i32⟩
  | 106 => ⟨S_, .i32⟩
  | 107 => ⟨S8x4096, .i32⟩
  | 108 => ⟨S8x4096, .i32⟩
  | 109 => ⟨S_, .i32⟩
  | 110 => ⟨S8x4096, .i32⟩
  | 111 => ⟨S8x4096, .i32⟩
  | 112 => ⟨S8x4096, .i32⟩
  | 113 => ⟨S8x4096, .i32⟩
  | 114 => ⟨S8x4096, .i32⟩
  | 115 => ⟨S_, .i32⟩
  | 116 => ⟨S8x4096, .i32⟩
  | 117 => ⟨S8x4096, .i32⟩
  | 118 => ⟨S_, .i32⟩
  | 119 => ⟨S8x4096, .i32⟩
  | 120 => ⟨S8x4096, .i32⟩
  | 121 => ⟨S8x4096, .i32⟩
  | 122 => ⟨S8x4096, .i32⟩
  | 123 => ⟨S8x4096, .i32⟩
  | 124 => ⟨S8x4096, .i32⟩
  | 125 => ⟨S8x4096, .i32⟩
  | 126 => ⟨S8x4096, .i32⟩
  | 127 => ⟨S_, .i32⟩
  | _ => ⟨S8, .i32⟩

abbrev hbmTy0_4 (i : Nat) : BufTy := match i % 128 with
  | 0 => ⟨S8x4096, .i32⟩
  | 1 => ⟨S8x4096, .i32⟩
  | 2 => ⟨S8x4096, .i32⟩
  | 3 => ⟨S_, .i32⟩
  | 4 => ⟨S8x4096, .i32⟩
  | 5 => ⟨S8x4096, .i32⟩
  | 6 => ⟨S_, .i32⟩
  | 7 => ⟨S8x4096, .i32⟩
  | 8 => ⟨S8x4096, .i32⟩
  | 9 => ⟨S8x4096, .i32⟩
  | 10 => ⟨S8x4096, .i32⟩
  | 11 => ⟨S8x4096, .i32⟩
  | 12 => ⟨S_, .i32⟩
  | 13 => ⟨S8x4096, .i32⟩
  | 14 => ⟨S8x4096, .i32⟩
  | 15 => ⟨S_, .i32⟩
  | 16 => ⟨S8x4096, .i32⟩
  | 17 => ⟨S8x4096, .i32⟩
  | 18 => ⟨S8x4096, .i32⟩
  | 19 => ⟨S8x4096, .i32⟩
  | 20 => ⟨S8x4096, .i32⟩
  | 21 => ⟨S_, .i32⟩
  | 22 => ⟨S8x4096, .i32⟩
  | 23 => ⟨S8x4096, .i32⟩
  | 24 => ⟨S_, .i32⟩
  | 25 => ⟨S8x4096, .i32⟩
  | 26 => ⟨S8x4096, .i32⟩
  | 27 => ⟨S8x4096, .i32⟩
  | 28 => ⟨S8x4096, .i32⟩
  | 29 => ⟨S8x4096, .i32⟩
  | 30 => ⟨S_, .i32⟩
  | 31 => ⟨S8x4096, .i32⟩
  | 32 => ⟨S8x4096, .i32⟩
  | 33 => ⟨S_, .i32⟩
  | 34 => ⟨S8x4096, .i32⟩
  | 35 => ⟨S8x4096, .i32⟩
  | 36 => ⟨S8x4096, .i32⟩
  | 37 => ⟨S8x4096, .i32⟩
  | 38 => ⟨S8x4096, .i32⟩
  | 39 => ⟨S8x4096, .i32⟩
  | 40 => ⟨S8x4096, .i32⟩
  | 41 => ⟨S8x4096, .i32⟩
  | 42 => ⟨S_, .i32⟩
  | 43 => ⟨S8x4096, .i32⟩
  | 44 => ⟨S8x4096, .i32⟩
  | 45 => ⟨S8x4096, .i32⟩
  | 46 => ⟨S_, .i32⟩
  | 47 => ⟨S8x4096, .i32⟩
  | 48 => ⟨S8x4096, .i32⟩
  | 49 => ⟨S_, .i32⟩
  | 50 => ⟨S8x4096, .i32⟩
  | 51 => ⟨S8x4096, .i32⟩
  | 52 => ⟨S8x4096, .i32⟩
  | 53 => ⟨S8x4096, .i32⟩
  | 54 => ⟨S8x4096, .i32⟩
  | 55 => ⟨S_, .i32⟩
  | 56 => ⟨S8x4096, .i32⟩
  | 57 => ⟨S8x4096, .i32⟩
  | 58 => ⟨S_, .i32⟩
  | 59 => ⟨S8x4096, .i32⟩
  | 60 => ⟨S8x4096, .i32⟩
  | 61 => ⟨S8x4096, .i32⟩
  | 62 => ⟨S8x4096, .i32⟩
  | 63 => ⟨S8x4096, .i32⟩
  | 64 => ⟨S_, .i32⟩
  | 65 => ⟨S8x4096, .i32⟩
  | 66 => ⟨S8x4096, .i32⟩
  | 67 => ⟨S_, .i32⟩
  | 68 => ⟨S8x4096, .i32⟩
  | 69 => ⟨S8x4096, .i32⟩
  | 70 => ⟨S8x4096, .i32⟩
  | 71 => ⟨S8x4096, .i32⟩
  | 72 => ⟨S8x4096, .i32⟩
  | 73 => ⟨S_, .i32⟩
  | 74 => ⟨S8x4096, .i32⟩
  | 75 => ⟨S8x4096, .i32⟩
  | 76 => ⟨S_, .i32⟩
  | 77 => ⟨S8x4096, .i32⟩
  | 78 => ⟨S8x4096, .i32⟩
  | 79 => ⟨S8x4096, .i32⟩
  | 80 => ⟨S8x4096, .i32⟩
  | 81 => ⟨S8x4096, .i32⟩
  | 82 => ⟨S8x4096, .i32⟩
  | 83 => ⟨S8x4096, .i32⟩
  | 84 => ⟨S8x4096, .i32⟩
  | 85 => ⟨S_, .i32⟩
  | 86 => ⟨S8x4096, .i32⟩
  | 87 => ⟨S8x4096, .i32⟩
  | 88 => ⟨S8x4096, .i32⟩
  | 89 => ⟨S_, .i32⟩
  | 90 => ⟨S8x4096, .i32⟩
  | 91 => ⟨S8x4096, .i32⟩
  | 92 => ⟨S_, .i32⟩
  | 93 => ⟨S8x4096, .i32⟩
  | 94 => ⟨S8x4096, .i32⟩
  | 95 => ⟨S8x4096, .f32⟩
  | 96 => ⟨S_, .f32⟩
  | 97 => ⟨S8x4096, .f32⟩
  | 98 => ⟨S8x4096, .f32⟩
  | 99 => ⟨S1x1, .f32⟩
  | 100 => ⟨S8x4096, .f32⟩
  | 101 => ⟨S8x4096, .f32⟩
  | 102 => ⟨S8x4096, .f32⟩
  | 103 => ⟨S8x4096, .f32⟩
  | 104 => ⟨S8x4096, .f32⟩
  | 105 => ⟨S8x4096, .f32⟩
  | 106 => ⟨S8x4096, .f32⟩
  | 107 => ⟨S8x4096, .f32⟩
  | 108 => ⟨S8x4096, .f32⟩
  | 109 => ⟨S8x4096, .f32⟩
  | 110 => ⟨S8x4096, .f32⟩
  | 111 => ⟨S8x4096, .i32⟩
  | 112 => ⟨S_, .f32⟩
  | 113 => ⟨S_, .i32⟩
  | 114 => ⟨S8, .f32⟩
  | 115 => ⟨S8, .i32⟩
  | 116 => ⟨S_, .f32⟩
  | 117 => ⟨S8, .f32⟩
  | 118 => ⟨S_, .f32⟩
  | 119 => ⟨S8, .f32⟩
  | 120 => ⟨S8, .f32⟩
  | 121 => ⟨S8x1, .f32⟩
  | 122 => ⟨S8x4096, .f32⟩
  | 123 => ⟨S8x4096, .f32⟩
  | 124 => ⟨S8x4096, .f32⟩
  | 125 => ⟨S_, .f32⟩
  | 126 => ⟨S8, .f32⟩
  | 127 => ⟨S8x1, .f32⟩
  | _ => ⟨S8, .i32⟩

abbrev hbmTy0_5 (i : Nat) : BufTy := match i % 128 with
  | 0 => ⟨S8x1, .f32⟩
  | 1 => ⟨S8x4096, .f32⟩
  | 2 => ⟨S8x4096, .f32⟩
  | 3 => ⟨S8x1, .i32⟩
  | 4 => ⟨S_, .i32⟩
  | 5 => ⟨S8x1, .i32⟩
  | 6 => ⟨S8x1, .i1⟩
  | 7 => ⟨S_, .i32⟩
  | 8 => ⟨S8x1, .i32⟩
  | 9 => ⟨S8x1, .i32⟩
  | 10 => ⟨S8x1, .i32⟩
  | 11 => ⟨S8x1x1, .i32⟩
  | 12 => ⟨S1, .i32⟩
  | 13 => ⟨S_, .i32⟩
  | 14 => ⟨S8x1x1, .i32⟩
  | 15 => ⟨S8x1x1, .i1⟩
  | 16 => ⟨S1x1x1, .i32⟩
  | 17 => ⟨S8x1x1, .i32⟩
  | 18 => ⟨S8x1x1, .i1⟩
  | 19 => ⟨S8x1x1, .i1⟩
  | 20 => ⟨S_, .i1⟩
  | 21 => ⟨S8x1, .i1⟩
  | 22 => ⟨S8x1, .f32⟩
  | 23 => ⟨S_, .f32⟩
  | 24 => ⟨S8x1, .f32⟩
  | 25 => ⟨S8x1, .f32⟩
  | 26 => ⟨S8, .f32⟩
  | 27 => ⟨S_, .i32⟩
  | 28 => ⟨S_, .i32⟩
  | 29 => ⟨S8, .i32⟩
  | 30 => ⟨S8, .i32⟩
  | 31 => ⟨S_, .f32⟩
  | 32 => ⟨S_, .f32⟩
  | 33 => ⟨S8, .f32⟩
  | 34 => ⟨S8, .f32⟩
  | 35 => ⟨S8, .f32⟩
  | 36 => ⟨S_, .i32⟩
  | 37 => ⟨S8, .i32⟩
  | 38 => ⟨S8, .i1⟩
  | 39 => ⟨S8, .i1⟩
  | 40 => ⟨S_, .i32⟩
  | 41 => ⟨S_, .i32⟩
  | 42 => ⟨S8, .i32⟩
  | 43 => ⟨S8, .i32⟩
  | 44 => ⟨S_, .i32⟩
  | 45 => ⟨S8, .i32⟩
  | 46 => ⟨S8, .i1⟩
  | 47 => ⟨S8, .i1⟩
  | 48 => ⟨S8x1, .i1⟩
  | 49 => ⟨S8x512, .i1⟩
  | 50 => ⟨S8x512, .f32⟩
  | 51 => ⟨S8, .i32⟩
  | 52 => ⟨S1x8, .i32⟩
  | 53 => ⟨S_, .i32⟩
  | 54 => ⟨S512x8, .i32⟩
  | 55 => ⟨S_, .i32⟩
  | 56 => ⟨S_, .i32⟩
  | 57 => ⟨S8x512, .i32⟩
  | _ => ⟨S8, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_c_6 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_c_7 : Ref sig .tc := ⟨.hbm, 38, rfl⟩
abbrev main_v19 : Ref sig .tc := ⟨.hbm, 39, rfl⟩
abbrev main_c_8 : Ref sig .tc := ⟨.hbm, 40, rfl⟩
abbrev main_v20_0 : Ref sig .tc := ⟨.hbm, 41, rfl⟩
abbrev main_v20_1 : Ref sig .tc := ⟨.hbm, 42, rfl⟩
abbrev main_v20_2 : Ref sig .tc := ⟨.hbm, 43, rfl⟩
abbrev main_v20_3 : Ref sig .tc := ⟨.hbm, 44, rfl⟩
abbrev main_v20_4 : Ref sig .tc := ⟨.hbm, 45, rfl⟩
abbrev main_v20_5 : Ref sig .tc := ⟨.hbm, 46, rfl⟩
abbrev main_v20_6 : Ref sig .tc := ⟨.hbm, 47, rfl⟩
abbrev main_v20_7 : Ref sig .tc := ⟨.hbm, 48, rfl⟩
abbrev main_v20_8 : Ref sig .tc := ⟨.hbm, 49, rfl⟩
abbrev main_v20_9 : Ref sig .tc := ⟨.hbm, 50, rfl⟩
abbrev main_v20_10 : Ref sig .tc := ⟨.hbm, 51, rfl⟩
abbrev main_v20_11 : Ref sig .tc := ⟨.hbm, 52, rfl⟩
abbrev main_v20_12 : Ref sig .tc := ⟨.hbm, 53, rfl⟩
abbrev main_v20_13 : Ref sig .tc := ⟨.hbm, 54, rfl⟩
abbrev main_v20_14 : Ref sig .tc := ⟨.hbm, 55, rfl⟩
abbrev main_v20_15 : Ref sig .tc := ⟨.hbm, 56, rfl⟩
abbrev main_while0c_c_24 : Ref sig .tc := ⟨.hbm, 57, rfl⟩
abbrev main_while0c_v22 : Ref sig .tc := ⟨.hbm, 58, rfl⟩
abbrev main_while0b_call0_v0 : Ref sig .tc := ⟨.hbm, 59, rfl⟩
abbrev main_while0b_v22 : Ref sig .tc := ⟨.hbm, 60, rfl⟩
abbrev main_while0b_c_24 : Ref sig .tc := ⟨.hbm, 61, rfl⟩
abbrev main_while0b_v23 : Ref sig .tc := ⟨.hbm, 62, rfl⟩
abbrev main_while0b_v24 : Ref sig .tc := ⟨.hbm, 63, rfl⟩
abbrev main_while0b_c_25 : Ref sig .tc := ⟨.hbm, 64, rfl⟩
abbrev main_while0b_v25 : Ref sig .tc := ⟨.hbm, 65, rfl⟩
abbrev main_while0b_v26 : Ref sig .tc := ⟨.hbm, 66, rfl⟩
abbrev main_while0b_v27 : Ref sig .tc := ⟨.hbm, 67, rfl⟩
abbrev main_while0b_v28 : Ref sig .tc := ⟨.hbm, 68, rfl⟩
abbrev main_while0b_v29 : Ref sig .tc := ⟨.hbm, 69, rfl⟩
abbrev main_while0b_v30 : Ref sig .tc := ⟨.hbm, 70, rfl⟩
abbrev main_while0b_v31 : Ref sig .tc := ⟨.hbm, 71, rfl⟩
abbrev main_while0b_v32 : Ref sig .tc := ⟨.hbm, 72, rfl⟩
abbrev main_while0b_v33 : Ref sig .tc := ⟨.hbm, 73, rfl⟩
abbrev main_while0b_v34 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_v39 : Ref sig .tc := ⟨.hbm, 79, rfl⟩
abbrev main_while0b_v40 : Ref sig .tc := ⟨.hbm, 80, rfl⟩
abbrev main_while0b_v41 : Ref sig .tc := ⟨.hbm, 81, rfl⟩
abbrev main_while0b_v42 : Ref sig .tc := ⟨.hbm, 82, rfl⟩
abbrev main_while0b_v43 : Ref sig .tc := ⟨.hbm, 83, rfl⟩
abbrev main_while0b_v44 : Ref sig .tc := ⟨.hbm, 84, rfl⟩
abbrev main_while0b_v45 : Ref sig .tc := ⟨.hbm, 85, rfl⟩
abbrev main_while0b_v46 : Ref sig .tc := ⟨.hbm, 86, rfl⟩
abbrev main_while0b_v47 : Ref sig .tc := ⟨.hbm, 87, rfl⟩
abbrev main_while0b_v48 : Ref sig .tc := ⟨.hbm, 88, rfl⟩
abbrev main_while0b_cst_26 : Ref sig .tc := ⟨.hbm, 89, rfl⟩
abbrev main_while0b_v49 : Ref sig .tc := ⟨.hbm, 90, rfl⟩
abbrev main_while0b_v50 : Ref sig .tc := ⟨.hbm, 91, rfl⟩
abbrev main_while0b_cst_27 : Ref sig .tc := ⟨.hbm, 92, rfl⟩
abbrev main_while0b_v51 : Ref sig .tc := ⟨.hbm, 93, rfl⟩
abbrev main_while0b_v52 : Ref sig .tc := ⟨.hbm, 94, rfl⟩
abbrev main_while0b_v53 : Ref sig .tc := ⟨.hbm, 95, rfl⟩
abbrev main_while0b_v54 : Ref sig .tc := ⟨.hbm, 96, rfl⟩
abbrev main_while0b_v55 : Ref sig .tc := ⟨.hbm, 97, rfl⟩
abbrev main_while0b_cst_28 : Ref sig .tc := ⟨.hbm, 98, rfl⟩
abbrev main_while0b_v56 : Ref sig .tc := ⟨.hbm, 99, rfl⟩
abbrev main_while0b_v57 : Ref sig .tc := ⟨.hbm, 100, rfl⟩
abbrev main_while0b_cst_29 : Ref sig .tc := ⟨.hbm, 101, rfl⟩
abbrev main_while0b_v58 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_cst_30 : Ref sig .tc := ⟨.hbm, 107, rfl⟩
abbrev main_while0b_v63 : Ref sig .tc := ⟨.hbm, 108, rfl⟩
abbrev main_while0b_v64 : Ref sig .tc := ⟨.hbm, 109, rfl⟩
abbrev main_while0b_v65 : Ref sig .tc := ⟨.hbm, 110, rfl⟩
abbrev main_while0b_v66 : Ref sig .tc := ⟨.hbm, 111, rfl⟩
abbrev main_while0b_v67 : Ref sig .tc := ⟨.hbm, 112, rfl⟩
abbrev main_while0b_v68 : Ref sig .tc := ⟨.hbm, 113, rfl⟩
abbrev main_while0b_v69 : Ref sig .tc := ⟨.hbm, 114, rfl⟩
abbrev main_while0b_v70 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_call1_c : Ref sig .tc := ⟨.hbm, 119, rfl⟩
abbrev main_while0b_call1_v0 : Ref sig .tc := ⟨.hbm, 120, rfl⟩
abbrev main_while0b_call1_v1 : Ref sig .tc := ⟨.hbm, 121, rfl⟩
abbrev main_while0b_call1_c_0 : Ref sig .tc := ⟨.hbm, 122, rfl⟩
abbrev main_while0b_call1_v2 : Ref sig .tc := ⟨.hbm, 123, rfl⟩
abbrev main_while0b_call1_v3 : Ref sig .tc := ⟨.hbm, 124, rfl⟩
abbrev main_while0b_call1_v4 : Ref sig .tc := ⟨.hbm, 125, rfl⟩
abbrev main_while0b_call1_v5 : Ref sig .tc := ⟨.hbm, 126, rfl⟩
abbrev main_while0b_call1_v6 : Ref sig .tc := ⟨.hbm, 127, rfl⟩
abbrev main_while0b_call1_v7 : Ref sig .tc := ⟨.hbm, 128, rfl⟩
abbrev main_while0b_call1_v8 : Ref sig .tc := ⟨.hbm, 129, rfl⟩
abbrev main_while0b_call1_v9 : Ref sig .tc := ⟨.hbm, 130, rfl⟩
abbrev main_while0b_call1_v10 : Ref sig .tc := ⟨.hbm, 131, rfl⟩
abbrev main_while0b_call1_call0_v0 : Ref sig .tc := ⟨.hbm, 132, rfl⟩
abbrev main_while0b_call1_call0_c : Ref sig .tc := ⟨.hbm, 133, rfl⟩
abbrev main_while0b_call1_call0_v1 : Ref sig .tc := ⟨.hbm, 134, rfl⟩
abbrev main_while0b_call1_call0_v2 : Ref sig .tc := ⟨.hbm, 135, rfl⟩
abbrev main_while0b_call1_call0_v3 : Ref sig .tc := ⟨.hbm, 136, rfl⟩
abbrev main_while0b_call1_call0_v4 : Ref sig .tc := ⟨.hbm, 137, rfl⟩
abbrev main_while0b_call1_call0_v5 : Ref sig .tc := ⟨.hbm, 138, rfl⟩
abbrev main_while0b_call1_call0_v6 : Ref sig .tc := ⟨.hbm, 139, rfl⟩
abbrev main_while0b_call1_call0_c_0 : Ref sig .tc := ⟨.hbm, 140, rfl⟩
abbrev main_while0b_call1_call0_v7 : Ref sig .tc := ⟨.hbm, 141, rfl⟩
abbrev main_while0b_call1_call0_v8 : Ref sig .tc := ⟨.hbm, 142, rfl⟩
abbrev main_while0b_call1_call0_c_1 : Ref sig .tc := ⟨.hbm, 143, rfl⟩
abbrev main_while0b_call1_call0_v9 : Ref sig .tc := ⟨.hbm, 144, rfl⟩
abbrev main_while0b_call1_call0_v10 : Ref sig .tc := ⟨.hbm, 145, rfl⟩
abbrev main_while0b_call1_call0_v11 : Ref sig .tc := ⟨.hbm, 146, rfl⟩
abbrev main_while0b_call1_call0_v12 : Ref sig .tc := ⟨.hbm, 147, rfl⟩
abbrev main_while0b_call1_call0_v13 : Ref sig .tc := ⟨.hbm, 148, rfl⟩
abbrev main_while0b_call1_call0_c_2 : Ref sig .tc := ⟨.hbm, 149, rfl⟩
abbrev main_while0b_call1_call0_v14 : Ref sig .tc := ⟨.hbm, 150, rfl⟩
abbrev main_while0b_call1_call0_v15 : Ref sig .tc := ⟨.hbm, 151, rfl⟩
abbrev main_while0b_call1_call0_c_3 : Ref sig .tc := ⟨.hbm, 152, rfl⟩
abbrev main_while0b_call1_call0_v16 : Ref sig .tc := ⟨.hbm, 153, rfl⟩
abbrev main_while0b_call1_call0_v17 : Ref sig .tc := ⟨.hbm, 154, rfl⟩
abbrev main_while0b_call1_call0_v18 : Ref sig .tc := ⟨.hbm, 155, rfl⟩
abbrev main_while0b_call1_call0_v19 : Ref sig .tc := ⟨.hbm, 156, rfl⟩
abbrev main_while0b_call1_call0_v20 : Ref sig .tc := ⟨.hbm, 157, rfl⟩
abbrev main_while0b_call1_call0_c_4 : Ref sig .tc := ⟨.hbm, 158, rfl⟩
abbrev main_while0b_call1_call0_v21 : Ref sig .tc := ⟨.hbm, 159, rfl⟩
abbrev main_while0b_call1_call0_v22 : Ref sig .tc := ⟨.hbm, 160, rfl⟩
abbrev main_while0b_call1_call0_c_5 : Ref sig .tc := ⟨.hbm, 161, rfl⟩
abbrev main_while0b_call1_call0_v23 : Ref sig .tc := ⟨.hbm, 162, rfl⟩
abbrev main_while0b_call1_call0_v24 : Ref sig .tc := ⟨.hbm, 163, rfl⟩
abbrev main_while0b_call1_call0_v25 : Ref sig .tc := ⟨.hbm, 164, rfl⟩
abbrev main_while0b_call1_call0_v26 : Ref sig .tc := ⟨.hbm, 165, rfl⟩
abbrev main_while0b_call1_call0_v27 : Ref sig .tc := ⟨.hbm, 166, rfl⟩
abbrev main_while0b_call1_call0_c_6 : Ref sig .tc := ⟨.hbm, 167, rfl⟩
abbrev main_while0b_call1_call0_v28 : Ref sig .tc := ⟨.hbm, 168, rfl⟩
abbrev main_while0b_call1_call0_v29 : Ref sig .tc := ⟨.hbm, 169, rfl⟩
abbrev main_while0b_call1_call0_c_7 : Ref sig .tc := ⟨.hbm, 170, rfl⟩
abbrev main_while0b_call1_call0_v30 : Ref sig .tc := ⟨.hbm, 171, rfl⟩
abbrev main_while0b_call1_call0_v31 : Ref sig .tc := ⟨.hbm, 172, rfl⟩
abbrev main_while0b_call1_call0_v32 : Ref sig .tc := ⟨.hbm, 173, rfl⟩
abbrev main_while0b_call1_call0_v33 : Ref sig .tc := ⟨.hbm, 174, rfl⟩
abbrev main_while0b_call1_call0_v34 : Ref sig .tc := ⟨.hbm, 175, rfl⟩
abbrev main_while0b_call1_call0_v35 : Ref sig .tc := ⟨.hbm, 176, rfl⟩
abbrev main_while0b_call1_call0_v36 : Ref sig .tc := ⟨.hbm, 177, rfl⟩
abbrev main_while0b_call1_call0_v37 : Ref sig .tc := ⟨.hbm, 178, rfl⟩
abbrev main_while0b_call1_call0_c_8 : Ref sig .tc := ⟨.hbm, 179, rfl⟩
abbrev main_while0b_call1_call0_v38 : Ref sig .tc := ⟨.hbm, 180, rfl⟩
abbrev main_while0b_call1_call0_v39 : Ref sig .tc := ⟨.hbm, 181, rfl⟩
abbrev main_while0b_call1_call0_v40 : Ref sig .tc := ⟨.hbm, 182, rfl⟩
abbrev main_while0b_call1_call0_c_9 : Ref sig .tc := ⟨.hbm, 183, rfl⟩
abbrev main_while0b_call1_call0_v41 : Ref sig .tc := ⟨.hbm, 184, rfl⟩
abbrev main_while0b_call1_call0_v42 : Ref sig .tc := ⟨.hbm, 185, rfl⟩
abbrev main_while0b_call1_call0_c_10 : Ref sig .tc := ⟨.hbm, 186, rfl⟩
abbrev main_while0b_call1_call0_v43 : Ref sig .tc := ⟨.hbm, 187, rfl⟩
abbrev main_while0b_call1_call0_v44 : Ref sig .tc := ⟨.hbm, 188, rfl⟩
abbrev main_while0b_call1_call0_v45 : Ref sig .tc := ⟨.hbm, 189, rfl⟩
abbrev main_while0b_call1_call0_v46 : Ref sig .tc := ⟨.hbm, 190, rfl⟩
abbrev main_while0b_call1_call0_v47 : Ref sig .tc := ⟨.hbm, 191, rfl⟩
abbrev main_while0b_call1_call0_c_11 : Ref sig .tc := ⟨.hbm, 192, rfl⟩
abbrev main_while0b_call1_call0_v48 : Ref sig .tc := ⟨.hbm, 193, rfl⟩
abbrev main_while0b_call1_call0_v49 : Ref sig .tc := ⟨.hbm, 194, rfl⟩
abbrev main_while0b_call1_call0_c_12 : Ref sig .tc := ⟨.hbm, 195, rfl⟩
abbrev main_while0b_call1_call0_v50 : Ref sig .tc := ⟨.hbm, 196, rfl⟩
abbrev main_while0b_call1_call0_v51 : Ref sig .tc := ⟨.hbm, 197, rfl⟩
abbrev main_while0b_call1_call0_v52 : Ref sig .tc := ⟨.hbm, 198, rfl⟩
abbrev main_while0b_call1_call0_v53 : Ref sig .tc := ⟨.hbm, 199, rfl⟩
abbrev main_while0b_call1_call0_v54 : Ref sig .tc := ⟨.hbm, 200, rfl⟩
abbrev main_while0b_call1_call0_c_13 : Ref sig .tc := ⟨.hbm, 201, rfl⟩
abbrev main_while0b_call1_call0_v55 : Ref sig .tc := ⟨.hbm, 202, rfl⟩
abbrev main_while0b_call1_call0_v56 : Ref sig .tc := ⟨.hbm, 203, rfl⟩
abbrev main_while0b_call1_call0_c_14 : Ref sig .tc := ⟨.hbm, 204, rfl⟩
abbrev main_while0b_call1_call0_v57 : Ref sig .tc := ⟨.hbm, 205, rfl⟩
abbrev main_while0b_call1_call0_v58 : Ref sig .tc := ⟨.hbm, 206, rfl⟩
abbrev main_while0b_call1_call0_v59 : Ref sig .tc := ⟨.hbm, 207, rfl⟩
abbrev main_while0b_call1_call0_v60 : Ref sig .tc := ⟨.hbm, 208, rfl⟩
abbrev main_while0b_call1_call0_v61 : Ref sig .tc := ⟨.hbm, 209, rfl⟩
abbrev main_while0b_call1_call0_c_15 : Ref sig .tc := ⟨.hbm, 210, rfl⟩
abbrev main_while0b_call1_call0_v62 : Ref sig .tc := ⟨.hbm, 211, rfl⟩
abbrev main_while0b_call1_call0_v63 : Ref sig .tc := ⟨.hbm, 212, rfl⟩
abbrev main_while0b_call1_call0_c_16 : Ref sig .tc := ⟨.hbm, 213, rfl⟩
abbrev main_while0b_call1_call0_v64 : Ref sig .tc := ⟨.hbm, 214, rfl⟩
abbrev main_while0b_call1_call0_v65 : Ref sig .tc := ⟨.hbm, 215, rfl⟩
abbrev main_while0b_call1_call0_v66 : Ref sig .tc := ⟨.hbm, 216, rfl⟩
abbrev main_while0b_call1_call0_v67 : Ref sig .tc := ⟨.hbm, 217, rfl⟩
abbrev main_while0b_call1_call0_v68 : Ref sig .tc := ⟨.hbm, 218, rfl⟩
abbrev main_while0b_call1_call0_v69 : Ref sig .tc := ⟨.hbm, 219, rfl⟩
abbrev main_while0b_call1_call0_v70 : Ref sig .tc := ⟨.hbm, 220, rfl⟩
abbrev main_while0b_call1_call0_v71 : Ref sig .tc := ⟨.hbm, 221, rfl⟩
abbrev main_while0b_call1_call0_c_17 : Ref sig .tc := ⟨.hbm, 222, rfl⟩
abbrev main_while0b_call1_call0_v72 : Ref sig .tc := ⟨.hbm, 223, rfl⟩
abbrev main_while0b_call1_call0_v73 : Ref sig .tc := ⟨.hbm, 224, rfl⟩
abbrev main_while0b_call1_call0_v74 : Ref sig .tc := ⟨.hbm, 225, rfl⟩
abbrev main_while0b_call1_call0_c_18 : Ref sig .tc := ⟨.hbm, 226, rfl⟩
abbrev main_while0b_call1_call0_v75 : Ref sig .tc := ⟨.hbm, 227, rfl⟩
abbrev main_while0b_call1_call0_v76 : Ref sig .tc := ⟨.hbm, 228, rfl⟩
abbrev main_while0b_call1_call0_c_19 : Ref sig .tc := ⟨.hbm, 229, rfl⟩
abbrev main_while0b_call1_call0_v77 : Ref sig .tc := ⟨.hbm, 230, rfl⟩
abbrev main_while0b_call1_call0_v78 : Ref sig .tc := ⟨.hbm, 231, rfl⟩
abbrev main_while0b_call1_call0_v79 : Ref sig .tc := ⟨.hbm, 232, rfl⟩
abbrev main_while0b_call1_call0_v80 : Ref sig .tc := ⟨.hbm, 233, rfl⟩
abbrev main_while0b_call1_call0_v81 : Ref sig .tc := ⟨.hbm, 234, rfl⟩
abbrev main_while0b_call1_call0_c_20 : Ref sig .tc := ⟨.hbm, 235, rfl⟩
abbrev main_while0b_call1_call0_v82 : Ref sig .tc := ⟨.hbm, 236, rfl⟩
abbrev main_while0b_call1_call0_v83 : Ref sig .tc := ⟨.hbm, 237, rfl⟩
abbrev main_while0b_call1_call0_c_21 : Ref sig .tc := ⟨.hbm, 238, rfl⟩
abbrev main_while0b_call1_call0_v84 : Ref sig .tc := ⟨.hbm, 239, rfl⟩
abbrev main_while0b_call1_call0_v85 : Ref sig .tc := ⟨.hbm, 240, rfl⟩
abbrev main_while0b_call1_call0_v86 : Ref sig .tc := ⟨.hbm, 241, rfl⟩
abbrev main_while0b_call1_call0_v87 : Ref sig .tc := ⟨.hbm, 242, rfl⟩
abbrev main_while0b_call1_call0_v88 : Ref sig .tc := ⟨.hbm, 243, rfl⟩
abbrev main_while0b_call1_call0_c_22 : Ref sig .tc := ⟨.hbm, 244, rfl⟩
abbrev main_while0b_call1_call0_v89 : Ref sig .tc := ⟨.hbm, 245, rfl⟩
abbrev main_while0b_call1_call0_v90 : Ref sig .tc := ⟨.hbm, 246, rfl⟩
abbrev main_while0b_call1_call0_c_23 : Ref sig .tc := ⟨.hbm, 247, rfl⟩
abbrev main_while0b_call1_call0_v91 : Ref sig .tc := ⟨.hbm, 248, rfl⟩
abbrev main_while0b_call1_call0_v92 : Ref sig .tc := ⟨.hbm, 249, rfl⟩
abbrev main_while0b_call1_call0_v93 : Ref sig .tc := ⟨.hbm, 250, rfl⟩
abbrev main_while0b_call1_call0_v94 : Ref sig .tc := ⟨.hbm, 251, rfl⟩
abbrev main_while0b_call1_call0_v95 : Ref sig .tc := ⟨.hbm, 252, rfl⟩
abbrev main_while0b_call1_call0_c_24 : Ref sig .tc := ⟨.hbm, 253, rfl⟩
abbrev main_while0b_call1_call0_v96 : Ref sig .tc := ⟨.hbm, 254, rfl⟩
abbrev main_while0b_call1_call0_v97 : Ref sig .tc := ⟨.hbm, 255, rfl⟩
abbrev main_while0b_call1_call0_c_25 : Ref sig .tc := ⟨.hbm, 256, rfl⟩
abbrev main_while0b_call1_call0_v98 : Ref sig .tc := ⟨.hbm, 257, rfl⟩
abbrev main_while0b_call1_call0_v99 : Ref sig .tc := ⟨.hbm, 258, rfl⟩
abbrev main_while0b_call1_call0_v100 : Ref sig .tc := ⟨.hbm, 259, rfl⟩
abbrev main_while0b_call1_call0_v101 : Ref sig .tc := ⟨.hbm, 260, rfl⟩
abbrev main_while0b_call1_call0_v102 : Ref sig .tc := ⟨.hbm, 261, rfl⟩
abbrev main_while0b_call1_call0_v103 : Ref sig .tc := ⟨.hbm, 262, rfl⟩
abbrev main_while0b_call1_call0_v104 : Ref sig .tc := ⟨.hbm, 263, rfl⟩
abbrev main_while0b_call1_call0_v105 : Ref sig .tc := ⟨.hbm, 264, rfl⟩
abbrev main_while0b_call1_call0_c_26 : Ref sig .tc := ⟨.hbm, 265, rfl⟩
abbrev main_while0b_call1_call0_v106 : Ref sig .tc := ⟨.hbm, 266, rfl⟩
abbrev main_while0b_call1_call0_v107 : Ref sig .tc := ⟨.hbm, 267, rfl⟩
abbrev main_while0b_call1_call0_v108 : Ref sig .tc := ⟨.hbm, 268, rfl⟩
abbrev main_while0b_call1_call0_c_27 : Ref sig .tc := ⟨.hbm, 269, rfl⟩
abbrev main_while0b_call1_call0_v109 : Ref sig .tc := ⟨.hbm, 270, rfl⟩
abbrev main_while0b_call1_call0_v110 : Ref sig .tc := ⟨.hbm, 271, rfl⟩
abbrev main_while0b_call1_call0_c_28 : Ref sig .tc := ⟨.hbm, 272, rfl⟩
abbrev main_while0b_call1_call0_v111 : Ref sig .tc := ⟨.hbm, 273, rfl⟩
abbrev main_while0b_call1_call0_v112 : Ref sig .tc := ⟨.hbm, 274, rfl⟩
abbrev main_while0b_call1_call0_v113 : Ref sig .tc := ⟨.hbm, 275, rfl⟩
abbrev main_while0b_call1_call0_v114 : Ref sig .tc := ⟨.hbm, 276, rfl⟩
abbrev main_while0b_call1_call0_v115 : Ref sig .tc := ⟨.hbm, 277, rfl⟩
abbrev main_while0b_call1_call0_c_29 : Ref sig .tc := ⟨.hbm, 278, rfl⟩
abbrev main_while0b_call1_call0_v116 : Ref sig .tc := ⟨.hbm, 279, rfl⟩
abbrev main_while0b_call1_call0_v117 : Ref sig .tc := ⟨.hbm, 280, rfl⟩
abbrev main_while0b_call1_call0_c_30 : Ref sig .tc := ⟨.hbm, 281, rfl⟩
abbrev main_while0b_call1_call0_v118 : Ref sig .tc := ⟨.hbm, 282, rfl⟩
abbrev main_while0b_call1_call0_v119 : Ref sig .tc := ⟨.hbm, 283, rfl⟩
abbrev main_while0b_call1_call0_v120 : Ref sig .tc := ⟨.hbm, 284, rfl⟩
abbrev main_while0b_call1_call0_v121 : Ref sig .tc := ⟨.hbm, 285, rfl⟩
abbrev main_while0b_call1_call0_v122 : Ref sig .tc := ⟨.hbm, 286, rfl⟩
abbrev main_while0b_call1_call0_c_31 : Ref sig .tc := ⟨.hbm, 287, rfl⟩
abbrev main_while0b_call1_call0_v123 : Ref sig .tc := ⟨.hbm, 288, rfl⟩
abbrev main_while0b_call1_call0_v124 : Ref sig .tc := ⟨.hbm, 289, rfl⟩
abbrev main_while0b_call1_call0_c_32 : Ref sig .tc := ⟨.hbm, 290, rfl⟩
abbrev main_while0b_call1_call0_v125 : Ref sig .tc := ⟨.hbm, 291, rfl⟩
abbrev main_while0b_call1_call0_v126 : Ref sig .tc := ⟨.hbm, 292, rfl⟩
abbrev main_while0b_call1_call0_v127 : Ref sig .tc := ⟨.hbm, 293, rfl⟩
abbrev main_while0b_call1_call0_v128 : Ref sig .tc := ⟨.hbm, 294, rfl⟩
abbrev main_while0b_call1_call0_v129 : Ref sig .tc := ⟨.hbm, 295, rfl⟩
abbrev main_while0b_call1_call0_c_33 : Ref sig .tc := ⟨.hbm, 296, rfl⟩
abbrev main_while0b_call1_call0_v130 : Ref sig .tc := ⟨.hbm, 297, rfl⟩
abbrev main_while0b_call1_call0_v131 : Ref sig .tc := ⟨.hbm, 298, rfl⟩
abbrev main_while0b_call1_call0_c_34 : Ref sig .tc := ⟨.hbm, 299, rfl⟩
abbrev main_while0b_call1_call0_v132 : Ref sig .tc := ⟨.hbm, 300, rfl⟩
abbrev main_while0b_call1_call0_v133 : Ref sig .tc := ⟨.hbm, 301, rfl⟩
abbrev main_while0b_call1_call0_v134 : Ref sig .tc := ⟨.hbm, 302, rfl⟩
abbrev main_while0b_call1_call0_v135 : Ref sig .tc := ⟨.hbm, 303, rfl⟩
abbrev main_while0b_call1_call0_v136 : Ref sig .tc := ⟨.hbm, 304, rfl⟩
abbrev main_while0b_call1_call0_v137 : Ref sig .tc := ⟨.hbm, 305, rfl⟩
abbrev main_while0b_call1_call0_v138 : Ref sig .tc := ⟨.hbm, 306, rfl⟩
abbrev main_while0b_call1_call0_v139 : Ref sig .tc := ⟨.hbm, 307, rfl⟩
abbrev main_while0b_call1_call0_c_35 : Ref sig .tc := ⟨.hbm, 308, rfl⟩
abbrev main_while0b_call1_call0_v140 : Ref sig .tc := ⟨.hbm, 309, rfl⟩
abbrev main_while0b_call1_call0_v141 : Ref sig .tc := ⟨.hbm, 310, rfl⟩
abbrev main_while0b_call1_call0_v142 : Ref sig .tc := ⟨.hbm, 311, rfl⟩
abbrev main_while0b_call1_call0_c_36 : Ref sig .tc := ⟨.hbm, 312, rfl⟩
abbrev main_while0b_call1_call0_v143 : Ref sig .tc := ⟨.hbm, 313, rfl⟩
abbrev main_while0b_call1_call0_v144 : Ref sig .tc := ⟨.hbm, 314, rfl⟩
abbrev main_while0b_call1_call0_c_37 : Ref sig .tc := ⟨.hbm, 315, rfl⟩
abbrev main_while0b_call1_call0_v145 : Ref sig .tc := ⟨.hbm, 316, rfl⟩
abbrev main_while0b_call1_call0_v146 : Ref sig .tc := ⟨.hbm, 317, rfl⟩
abbrev main_while0b_call1_call0_v147 : Ref sig .tc := ⟨.hbm, 318, rfl⟩
abbrev main_while0b_call1_call0_v148 : Ref sig .tc := ⟨.hbm, 319, rfl⟩
abbrev main_while0b_call1_call0_v149 : Ref sig .tc := ⟨.hbm, 320, rfl⟩
abbrev main_while0b_call1_call0_c_38 : Ref sig .tc := ⟨.hbm, 321, rfl⟩
abbrev main_while0b_call1_call0_v150 : Ref sig .tc := ⟨.hbm, 322, rfl⟩
abbrev main_while0b_call1_call0_v151 : Ref sig .tc := ⟨.hbm, 323, rfl⟩
abbrev main_while0b_call1_call0_c_39 : Ref sig .tc := ⟨.hbm, 324, rfl⟩
abbrev main_while0b_call1_call0_v152 : Ref sig .tc := ⟨.hbm, 325, rfl⟩
abbrev main_while0b_call1_call0_v153 : Ref sig .tc := ⟨.hbm, 326, rfl⟩
abbrev main_while0b_call1_call0_v154 : Ref sig .tc := ⟨.hbm, 327, rfl⟩
abbrev main_while0b_call1_call0_v155 : Ref sig .tc := ⟨.hbm, 328, rfl⟩
abbrev main_while0b_call1_call0_v156 : Ref sig .tc := ⟨.hbm, 329, rfl⟩
abbrev main_while0b_call1_call0_c_40 : Ref sig .tc := ⟨.hbm, 330, rfl⟩
abbrev main_while0b_call1_call0_v157 : Ref sig .tc := ⟨.hbm, 331, rfl⟩
abbrev main_while0b_call1_call0_v158 : Ref sig .tc := ⟨.hbm, 332, rfl⟩
abbrev main_while0b_call1_call0_c_41 : Ref sig .tc := ⟨.hbm, 333, rfl⟩
abbrev main_while0b_call1_call0_v159 : Ref sig .tc := ⟨.hbm, 334, rfl⟩
abbrev main_while0b_call1_call0_v160 : Ref sig .tc := ⟨.hbm, 335, rfl⟩
abbrev main_while0b_call1_call0_v161 : Ref sig .tc := ⟨.hbm, 336, rfl⟩
abbrev main_while0b_call1_call0_v162 : Ref sig .tc := ⟨.hbm, 337, rfl⟩
abbrev main_while0b_call1_call0_v163 : Ref sig .tc := ⟨.hbm, 338, rfl⟩
abbrev main_while0b_call1_call0_c_42 : Ref sig .tc := ⟨.hbm, 339, rfl⟩
abbrev main_while0b_call1_call0_v164 : Ref sig .tc := ⟨.hbm, 340, rfl⟩
abbrev main_while0b_call1_call0_v165 : Ref sig .tc := ⟨.hbm, 341, rfl⟩
abbrev main_while0b_call1_call0_c_43 : Ref sig .tc := ⟨.hbm, 342, rfl⟩
abbrev main_while0b_call1_call0_v166 : Ref sig .tc := ⟨.hbm, 343, rfl⟩
abbrev main_while0b_call1_call0_v167 : Ref sig .tc := ⟨.hbm, 344, rfl⟩
abbrev main_while0b_call1_call0_v168 : Ref sig .tc := ⟨.hbm, 345, rfl⟩
abbrev main_while0b_call1_call0_v169 : Ref sig .tc := ⟨.hbm, 346, rfl⟩
abbrev main_while0b_call1_call0_v170 : Ref sig .tc := ⟨.hbm, 347, rfl⟩
abbrev main_while0b_call1_v11_0 : Ref sig .tc := ⟨.hbm, 348, rfl⟩
abbrev main_while0b_call1_call0_v172 : Ref sig .tc := ⟨.hbm, 349, rfl⟩
abbrev main_while0b_call1_call0_v173 : Ref sig .tc := ⟨.hbm, 350, rfl⟩
abbrev main_while0b_call1_call0_c_44 : Ref sig .tc := ⟨.hbm, 351, rfl⟩
abbrev main_while0b_call1_call0_v174 : Ref sig .tc := ⟨.hbm, 352, rfl⟩
abbrev main_while0b_call1_v11_1 : Ref sig .tc := ⟨.hbm, 353, rfl⟩
abbrev main_while0b_v74 : Ref sig .tc := ⟨.hbm, 354, rfl⟩
abbrev main_while0b_call2_cst : Ref sig .tc := ⟨.hbm, 355, rfl⟩
abbrev main_while0b_call2_cst_0 : Ref sig .tc := ⟨.hbm, 356, rfl⟩
abbrev main_while0b_call2_call0_v0 : Ref sig .tc := ⟨.hbm, 357, rfl⟩
abbrev main_while0b_call2_call0_v1 : Ref sig .tc := ⟨.hbm, 358, rfl⟩
abbrev main_while0b_call2_call0_v2 : Ref sig .tc := ⟨.hbm, 359, rfl⟩
abbrev main_while0b_call2_call0_v3 : Ref sig .tc := ⟨.hbm, 360, rfl⟩
abbrev main_while0b_call2_call0_v4 : Ref sig .tc := ⟨.hbm, 361, rfl⟩
abbrev main_while0b_call2_call0_v5 : Ref sig .tc := ⟨.hbm, 362, rfl⟩
abbrev main_while0b_call2_call0_v6 : Ref sig .tc := ⟨.hbm, 363, rfl⟩
abbrev main_while0b_call2_call0_v7 : Ref sig .tc := ⟨.hbm, 364, rfl⟩
abbrev main_while0b_call2_call0_v8 : Ref sig .tc := ⟨.hbm, 365, rfl⟩
abbrev main_while0b_call2_call0_c : Ref sig .tc := ⟨.hbm, 366, rfl⟩
abbrev main_while0b_call2_call0_v9 : Ref sig .tc := ⟨.hbm, 367, rfl⟩
abbrev main_while0b_call2_call0_v10 : Ref sig .tc := ⟨.hbm, 368, rfl⟩
abbrev main_while0b_call2_call0_c_0 : Ref sig .tc := ⟨.hbm, 369, rfl⟩
abbrev main_while0b_call2_call0_v11 : Ref sig .tc := ⟨.hbm, 370, rfl⟩
abbrev main_while0b_call2_call0_v12 : Ref sig .tc := ⟨.hbm, 371, rfl⟩
abbrev main_while0b_call2_call0_v13 : Ref sig .tc := ⟨.hbm, 372, rfl⟩
abbrev main_while0b_call2_call0_c_1 : Ref sig .tc := ⟨.hbm, 373, rfl⟩
abbrev main_while0b_call2_call0_v14 : Ref sig .tc := ⟨.hbm, 374, rfl⟩
abbrev main_while0b_call2_call0_v15 : Ref sig .tc := ⟨.hbm, 375, rfl⟩
abbrev main_while0b_call2_call0_v16 : Ref sig .tc := ⟨.hbm, 376, rfl⟩
abbrev main_while0b_call2_call0_v17 : Ref sig .tc := ⟨.hbm, 377, rfl⟩
abbrev main_while0b_call2_call0_call0_v0 : Ref sig .tc := ⟨.hbm, 378, rfl⟩
abbrev main_while0b_call2_call0_call0_c : Ref sig .tc := ⟨.hbm, 379, rfl⟩
abbrev main_while0b_call2_call0_call0_v1 : Ref sig .tc := ⟨.hbm, 380, rfl⟩
abbrev main_while0b_call2_call0_call0_v2 : Ref sig .tc := ⟨.hbm, 381, rfl⟩
abbrev main_while0b_call2_call0_call0_v3 : Ref sig .tc := ⟨.hbm, 382, rfl⟩
abbrev main_while0b_call2_call0_call0_v4 : Ref sig .tc := ⟨.hbm, 383, rfl⟩
abbrev main_while0b_call2_call0_call0_v5 : Ref sig .tc := ⟨.hbm, 384, rfl⟩
abbrev main_while0b_call2_call0_call0_v6 : Ref sig .tc := ⟨.hbm, 385, rfl⟩
abbrev main_while0b_call2_call0_call0_c_0 : Ref sig .tc := ⟨.hbm, 386, rfl⟩
abbrev main_while0b_call2_call0_call0_v7 : Ref sig .tc := ⟨.hbm, 387, rfl⟩
abbrev main_while0b_call2_call0_call0_v8 : Ref sig .tc := ⟨.hbm, 388, rfl⟩
abbrev main_while0b_call2_call0_call0_c_1 : Ref sig .tc := ⟨.hbm, 389, rfl⟩
abbrev main_while0b_call2_call0_call0_v9 : Ref sig .tc := ⟨.hbm, 390, rfl⟩
abbrev main_while0b_call2_call0_call0_v10 : Ref sig .tc := ⟨.hbm, 391, rfl⟩
abbrev main_while0b_call2_call0_call0_v11 : Ref sig .tc := ⟨.hbm, 392, rfl⟩
abbrev main_while0b_call2_call0_call0_v12 : Ref sig .tc := ⟨.hbm, 393, rfl⟩
abbrev main_while0b_call2_call0_call0_v13 : Ref sig .tc := ⟨.hbm, 394, rfl⟩
abbrev main_while0b_call2_call0_call0_c_2 : Ref sig .tc := ⟨.hbm, 395, rfl⟩
abbrev main_while0b_call2_call0_call0_v14 : Ref sig .tc := ⟨.hbm, 396, rfl⟩
abbrev main_while0b_call2_call0_call0_v15 : Ref sig .tc := ⟨.hbm, 397, rfl⟩
abbrev main_while0b_call2_call0_call0_c_3 : Ref sig .tc := ⟨.hbm, 398, rfl⟩
abbrev main_while0b_call2_call0_call0_v16 : Ref sig .tc := ⟨.hbm, 399, rfl⟩
abbrev main_while0b_call2_call0_call0_v17 : Ref sig .tc := ⟨.hbm, 400, rfl⟩
abbrev main_while0b_call2_call0_call0_v18 : Ref sig .tc := ⟨.hbm, 401, rfl⟩
abbrev main_while0b_call2_call0_call0_v19 : Ref sig .tc := ⟨.hbm, 402, rfl⟩
abbrev main_while0b_call2_call0_call0_v20 : Ref sig .tc := ⟨.hbm, 403, rfl⟩
abbrev main_while0b_call2_call0_call0_c_4 : Ref sig .tc := ⟨.hbm, 404, rfl⟩
abbrev main_while0b_call2_call0_call0_v21 : Ref sig .tc := ⟨.hbm, 405, rfl⟩
abbrev main_while0b_call2_call0_call0_v22 : Ref sig .tc := ⟨.hbm, 406, rfl⟩
abbrev main_while0b_call2_call0_call0_c_5 : Ref sig .tc := ⟨.hbm, 407, rfl⟩
abbrev main_while0b_call2_call0_call0_v23 : Ref sig .tc := ⟨.hbm, 408, rfl⟩
abbrev main_while0b_call2_call0_call0_v24 : Ref sig .tc := ⟨.hbm, 409, rfl⟩
abbrev main_while0b_call2_call0_call0_v25 : Ref sig .tc := ⟨.hbm, 410, rfl⟩
abbrev main_while0b_call2_call0_call0_v26 : Ref sig .tc := ⟨.hbm, 411, rfl⟩
abbrev main_while0b_call2_call0_call0_v27 : Ref sig .tc := ⟨.hbm, 412, rfl⟩
abbrev main_while0b_call2_call0_call0_c_6 : Ref sig .tc := ⟨.hbm, 413, rfl⟩
abbrev main_while0b_call2_call0_call0_v28 : Ref sig .tc := ⟨.hbm, 414, rfl⟩
abbrev main_while0b_call2_call0_call0_v29 : Ref sig .tc := ⟨.hbm, 415, rfl⟩
abbrev main_while0b_call2_call0_call0_c_7 : Ref sig .tc := ⟨.hbm, 416, rfl⟩
abbrev main_while0b_call2_call0_call0_v30 : Ref sig .tc := ⟨.hbm, 417, rfl⟩
abbrev main_while0b_call2_call0_call0_v31 : Ref sig .tc := ⟨.hbm, 418, rfl⟩
abbrev main_while0b_call2_call0_call0_v32 : Ref sig .tc := ⟨.hbm, 419, rfl⟩
abbrev main_while0b_call2_call0_call0_v33 : Ref sig .tc := ⟨.hbm, 420, rfl⟩
abbrev main_while0b_call2_call0_call0_v34 : Ref sig .tc := ⟨.hbm, 421, rfl⟩
abbrev main_while0b_call2_call0_call0_v35 : Ref sig .tc := ⟨.hbm, 422, rfl⟩
abbrev main_while0b_call2_call0_call0_v36 : Ref sig .tc := ⟨.hbm, 423, rfl⟩
abbrev main_while0b_call2_call0_call0_v37 : Ref sig .tc := ⟨.hbm, 424, rfl⟩
abbrev main_while0b_call2_call0_call0_c_8 : Ref sig .tc := ⟨.hbm, 425, rfl⟩
abbrev main_while0b_call2_call0_call0_v38 : Ref sig .tc := ⟨.hbm, 426, rfl⟩
abbrev main_while0b_call2_call0_call0_v39 : Ref sig .tc := ⟨.hbm, 427, rfl⟩
abbrev main_while0b_call2_call0_call0_v40 : Ref sig .tc := ⟨.hbm, 428, rfl⟩
abbrev main_while0b_call2_call0_call0_c_9 : Ref sig .tc := ⟨.hbm, 429, rfl⟩
abbrev main_while0b_call2_call0_call0_v41 : Ref sig .tc := ⟨.hbm, 430, rfl⟩
abbrev main_while0b_call2_call0_call0_v42 : Ref sig .tc := ⟨.hbm, 431, rfl⟩
abbrev main_while0b_call2_call0_call0_c_10 : Ref sig .tc := ⟨.hbm, 432, rfl⟩
abbrev main_while0b_call2_call0_call0_v43 : Ref sig .tc := ⟨.hbm, 433, rfl⟩
abbrev main_while0b_call2_call0_call0_v44 : Ref sig .tc := ⟨.hbm, 434, rfl⟩
abbrev main_while0b_call2_call0_call0_v45 : Ref sig .tc := ⟨.hbm, 435, rfl⟩
abbrev main_while0b_call2_call0_call0_v46 : Ref sig .tc := ⟨.hbm, 436, rfl⟩
abbrev main_while0b_call2_call0_call0_v47 : Ref sig .tc := ⟨.hbm, 437, rfl⟩
abbrev main_while0b_call2_call0_call0_c_11 : Ref sig .tc := ⟨.hbm, 438, rfl⟩
abbrev main_while0b_call2_call0_call0_v48 : Ref sig .tc := ⟨.hbm, 439, rfl⟩
abbrev main_while0b_call2_call0_call0_v49 : Ref sig .tc := ⟨.hbm, 440, rfl⟩
abbrev main_while0b_call2_call0_call0_c_12 : Ref sig .tc := ⟨.hbm, 441, rfl⟩
abbrev main_while0b_call2_call0_call0_v50 : Ref sig .tc := ⟨.hbm, 442, rfl⟩
abbrev main_while0b_call2_call0_call0_v51 : Ref sig .tc := ⟨.hbm, 443, rfl⟩
abbrev main_while0b_call2_call0_call0_v52 : Ref sig .tc := ⟨.hbm, 444, rfl⟩
abbrev main_while0b_call2_call0_call0_v53 : Ref sig .tc := ⟨.hbm, 445, rfl⟩
abbrev main_while0b_call2_call0_call0_v54 : Ref sig .tc := ⟨.hbm, 446, rfl⟩
abbrev main_while0b_call2_call0_call0_c_13 : Ref sig .tc := ⟨.hbm, 447, rfl⟩
abbrev main_while0b_call2_call0_call0_v55 : Ref sig .tc := ⟨.hbm, 448, rfl⟩
abbrev main_while0b_call2_call0_call0_v56 : Ref sig .tc := ⟨.hbm, 449, rfl⟩
abbrev main_while0b_call2_call0_call0_c_14 : Ref sig .tc := ⟨.hbm, 450, rfl⟩
abbrev main_while0b_call2_call0_call0_v57 : Ref sig .tc := ⟨.hbm, 451, rfl⟩
abbrev main_while0b_call2_call0_call0_v58 : Ref sig .tc := ⟨.hbm, 452, rfl⟩
abbrev main_while0b_call2_call0_call0_v59 : Ref sig .tc := ⟨.hbm, 453, rfl⟩
abbrev main_while0b_call2_call0_call0_v60 : Ref sig .tc := ⟨.hbm, 454, rfl⟩
abbrev main_while0b_call2_call0_call0_v61 : Ref sig .tc := ⟨.hbm, 455, rfl⟩
abbrev main_while0b_call2_call0_call0_c_15 : Ref sig .tc := ⟨.hbm, 456, rfl⟩
abbrev main_while0b_call2_call0_call0_v62 : Ref sig .tc := ⟨.hbm, 457, rfl⟩
abbrev main_while0b_call2_call0_call0_v63 : Ref sig .tc := ⟨.hbm, 458, rfl⟩
abbrev main_while0b_call2_call0_call0_c_16 : Ref sig .tc := ⟨.hbm, 459, rfl⟩
abbrev main_while0b_call2_call0_call0_v64 : Ref sig .tc := ⟨.hbm, 460, rfl⟩
abbrev main_while0b_call2_call0_call0_v65 : Ref sig .tc := ⟨.hbm, 461, rfl⟩
abbrev main_while0b_call2_call0_call0_v66 : Ref sig .tc := ⟨.hbm, 462, rfl⟩
abbrev main_while0b_call2_call0_call0_v67 : Ref sig .tc := ⟨.hbm, 463, rfl⟩
abbrev main_while0b_call2_call0_call0_v68 : Ref sig .tc := ⟨.hbm, 464, rfl⟩
abbrev main_while0b_call2_call0_call0_v69 : Ref sig .tc := ⟨.hbm, 465, rfl⟩
abbrev main_while0b_call2_call0_call0_v70 : Ref sig .tc := ⟨.hbm, 466, rfl⟩
abbrev main_while0b_call2_call0_call0_v71 : Ref sig .tc := ⟨.hbm, 467, rfl⟩
abbrev main_while0b_call2_call0_call0_c_17 : Ref sig .tc := ⟨.hbm, 468, rfl⟩
abbrev main_while0b_call2_call0_call0_v72 : Ref sig .tc := ⟨.hbm, 469, rfl⟩
abbrev main_while0b_call2_call0_call0_v73 : Ref sig .tc := ⟨.hbm, 470, rfl⟩
abbrev main_while0b_call2_call0_call0_v74 : Ref sig .tc := ⟨.hbm, 471, rfl⟩
abbrev main_while0b_call2_call0_call0_c_18 : Ref sig .tc := ⟨.hbm, 472, rfl⟩
abbrev main_while0b_call2_call0_call0_v75 : Ref sig .tc := ⟨.hbm, 473, rfl⟩
abbrev main_while0b_call2_call0_call0_v76 : Ref sig .tc := ⟨.hbm, 474, rfl⟩
abbrev main_while0b_call2_call0_call0_c_19 : Ref sig .tc := ⟨.hbm, 475, rfl⟩
abbrev main_while0b_call2_call0_call0_v77 : Ref sig .tc := ⟨.hbm, 476, rfl⟩
abbrev main_while0b_call2_call0_call0_v78 : Ref sig .tc := ⟨.hbm, 477, rfl⟩
abbrev main_while0b_call2_call0_call0_v79 : Ref sig .tc := ⟨.hbm, 478, rfl⟩
abbrev main_while0b_call2_call0_call0_v80 : Ref sig .tc := ⟨.hbm, 479, rfl⟩
abbrev main_while0b_call2_call0_call0_v81 : Ref sig .tc := ⟨.hbm, 480, rfl⟩
abbrev main_while0b_call2_call0_call0_c_20 : Ref sig .tc := ⟨.hbm, 481, rfl⟩
abbrev main_while0b_call2_call0_call0_v82 : Ref sig .tc := ⟨.hbm, 482, rfl⟩
abbrev main_while0b_call2_call0_call0_v83 : Ref sig .tc := ⟨.hbm, 483, rfl⟩
abbrev main_while0b_call2_call0_call0_c_21 : Ref sig .tc := ⟨.hbm, 484, rfl⟩
abbrev main_while0b_call2_call0_call0_v84 : Ref sig .tc := ⟨.hbm, 485, rfl⟩
abbrev main_while0b_call2_call0_call0_v85 : Ref sig .tc := ⟨.hbm, 486, rfl⟩
abbrev main_while0b_call2_call0_call0_v86 : Ref sig .tc := ⟨.hbm, 487, rfl⟩
abbrev main_while0b_call2_call0_call0_v87 : Ref sig .tc := ⟨.hbm, 488, rfl⟩
abbrev main_while0b_call2_call0_call0_v88 : Ref sig .tc := ⟨.hbm, 489, rfl⟩
abbrev main_while0b_call2_call0_call0_c_22 : Ref sig .tc := ⟨.hbm, 490, rfl⟩
abbrev main_while0b_call2_call0_call0_v89 : Ref sig .tc := ⟨.hbm, 491, rfl⟩
abbrev main_while0b_call2_call0_call0_v90 : Ref sig .tc := ⟨.hbm, 492, rfl⟩
abbrev main_while0b_call2_call0_call0_c_23 : Ref sig .tc := ⟨.hbm, 493, rfl⟩
abbrev main_while0b_call2_call0_call0_v91 : Ref sig .tc := ⟨.hbm, 494, rfl⟩
abbrev main_while0b_call2_call0_call0_v92 : Ref sig .tc := ⟨.hbm, 495, rfl⟩
abbrev main_while0b_call2_call0_call0_v93 : Ref sig .tc := ⟨.hbm, 496, rfl⟩
abbrev main_while0b_call2_call0_call0_v94 : Ref sig .tc := ⟨.hbm, 497, rfl⟩
abbrev main_while0b_call2_call0_call0_v95 : Ref sig .tc := ⟨.hbm, 498, rfl⟩
abbrev main_while0b_call2_call0_call0_c_24 : Ref sig .tc := ⟨.hbm, 499, rfl⟩
abbrev main_while0b_call2_call0_call0_v96 : Ref sig .tc := ⟨.hbm, 500, rfl⟩
abbrev main_while0b_call2_call0_call0_v97 : Ref sig .tc := ⟨.hbm, 501, rfl⟩
abbrev main_while0b_call2_call0_call0_c_25 : Ref sig .tc := ⟨.hbm, 502, rfl⟩
abbrev main_while0b_call2_call0_call0_v98 : Ref sig .tc := ⟨.hbm, 503, rfl⟩
abbrev main_while0b_call2_call0_call0_v99 : Ref sig .tc := ⟨.hbm, 504, rfl⟩
abbrev main_while0b_call2_call0_call0_v100 : Ref sig .tc := ⟨.hbm, 505, rfl⟩
abbrev main_while0b_call2_call0_call0_v101 : Ref sig .tc := ⟨.hbm, 506, rfl⟩
abbrev main_while0b_call2_call0_call0_v102 : Ref sig .tc := ⟨.hbm, 507, rfl⟩
abbrev main_while0b_call2_call0_call0_v103 : Ref sig .tc := ⟨.hbm, 508, rfl⟩
abbrev main_while0b_call2_call0_call0_v104 : Ref sig .tc := ⟨.hbm, 509, rfl⟩
abbrev main_while0b_call2_call0_call0_v105 : Ref sig .tc := ⟨.hbm, 510, rfl⟩
abbrev main_while0b_call2_call0_call0_c_26 : Ref sig .tc := ⟨.hbm, 511, rfl⟩
abbrev main_while0b_call2_call0_call0_v106 : Ref sig .tc := ⟨.hbm, 512, rfl⟩
abbrev main_while0b_call2_call0_call0_v107 : Ref sig .tc := ⟨.hbm, 513, rfl⟩
abbrev main_while0b_call2_call0_call0_v108 : Ref sig .tc := ⟨.hbm, 514, rfl⟩
abbrev main_while0b_call2_call0_call0_c_27 : Ref sig .tc := ⟨.hbm, 515, rfl⟩
abbrev main_while0b_call2_call0_call0_v109 : Ref sig .tc := ⟨.hbm, 516, rfl⟩
abbrev main_while0b_call2_call0_call0_v110 : Ref sig .tc := ⟨.hbm, 517, rfl⟩
abbrev main_while0b_call2_call0_call0_c_28 : Ref sig .tc := ⟨.hbm, 518, rfl⟩
abbrev main_while0b_call2_call0_call0_v111 : Ref sig .tc := ⟨.hbm, 519, rfl⟩
abbrev main_while0b_call2_call0_call0_v112 : Ref sig .tc := ⟨.hbm, 520, rfl⟩
abbrev main_while0b_call2_call0_call0_v113 : Ref sig .tc := ⟨.hbm, 521, rfl⟩
abbrev main_while0b_call2_call0_call0_v114 : Ref sig .tc := ⟨.hbm, 522, rfl⟩
abbrev main_while0b_call2_call0_call0_v115 : Ref sig .tc := ⟨.hbm, 523, rfl⟩
abbrev main_while0b_call2_call0_call0_c_29 : Ref sig .tc := ⟨.hbm, 524, rfl⟩
abbrev main_while0b_call2_call0_call0_v116 : Ref sig .tc := ⟨.hbm, 525, rfl⟩
abbrev main_while0b_call2_call0_call0_v117 : Ref sig .tc := ⟨.hbm, 526, rfl⟩
abbrev main_while0b_call2_call0_call0_c_30 : Ref sig .tc := ⟨.hbm, 527, rfl⟩
abbrev main_while0b_call2_call0_call0_v118 : Ref sig .tc := ⟨.hbm, 528, rfl⟩
abbrev main_while0b_call2_call0_call0_v119 : Ref sig .tc := ⟨.hbm, 529, rfl⟩
abbrev main_while0b_call2_call0_call0_v120 : Ref sig .tc := ⟨.hbm, 530, rfl⟩
abbrev main_while0b_call2_call0_call0_v121 : Ref sig .tc := ⟨.hbm, 531, rfl⟩
abbrev main_while0b_call2_call0_call0_v122 : Ref sig .tc := ⟨.hbm, 532, rfl⟩
abbrev main_while0b_call2_call0_call0_c_31 : Ref sig .tc := ⟨.hbm, 533, rfl⟩
abbrev main_while0b_call2_call0_call0_v123 : Ref sig .tc := ⟨.hbm, 534, rfl⟩
abbrev main_while0b_call2_call0_call0_v124 : Ref sig .tc := ⟨.hbm, 535, rfl⟩
abbrev main_while0b_call2_call0_call0_c_32 : Ref sig .tc := ⟨.hbm, 536, rfl⟩
abbrev main_while0b_call2_call0_call0_v125 : Ref sig .tc := ⟨.hbm, 537, rfl⟩
abbrev main_while0b_call2_call0_call0_v126 : Ref sig .tc := ⟨.hbm, 538, rfl⟩
abbrev main_while0b_call2_call0_call0_v127 : Ref sig .tc := ⟨.hbm, 539, rfl⟩
abbrev main_while0b_call2_call0_call0_v128 : Ref sig .tc := ⟨.hbm, 540, rfl⟩
abbrev main_while0b_call2_call0_call0_v129 : Ref sig .tc := ⟨.hbm, 541, rfl⟩
abbrev main_while0b_call2_call0_call0_c_33 : Ref sig .tc := ⟨.hbm, 542, rfl⟩
abbrev main_while0b_call2_call0_call0_v130 : Ref sig .tc := ⟨.hbm, 543, rfl⟩
abbrev main_while0b_call2_call0_call0_v131 : Ref sig .tc := ⟨.hbm, 544, rfl⟩
abbrev main_while0b_call2_call0_call0_c_34 : Ref sig .tc := ⟨.hbm, 545, rfl⟩
abbrev main_while0b_call2_call0_call0_v132 : Ref sig .tc := ⟨.hbm, 546, rfl⟩
abbrev main_while0b_call2_call0_call0_v133 : Ref sig .tc := ⟨.hbm, 547, rfl⟩
abbrev main_while0b_call2_call0_call0_v134 : Ref sig .tc := ⟨.hbm, 548, rfl⟩
abbrev main_while0b_call2_call0_call0_v135 : Ref sig .tc := ⟨.hbm, 549, rfl⟩
abbrev main_while0b_call2_call0_call0_v136 : Ref sig .tc := ⟨.hbm, 550, rfl⟩
abbrev main_while0b_call2_call0_call0_v137 : Ref sig .tc := ⟨.hbm, 551, rfl⟩
abbrev main_while0b_call2_call0_call0_v138 : Ref sig .tc := ⟨.hbm, 552, rfl⟩
abbrev main_while0b_call2_call0_call0_v139 : Ref sig .tc := ⟨.hbm, 553, rfl⟩
abbrev main_while0b_call2_call0_call0_c_35 : Ref sig .tc := ⟨.hbm, 554, rfl⟩
abbrev main_while0b_call2_call0_call0_v140 : Ref sig .tc := ⟨.hbm, 555, rfl⟩
abbrev main_while0b_call2_call0_call0_v141 : Ref sig .tc := ⟨.hbm, 556, rfl⟩
abbrev main_while0b_call2_call0_call0_v142 : Ref sig .tc := ⟨.hbm, 557, rfl⟩
abbrev main_while0b_call2_call0_call0_c_36 : Ref sig .tc := ⟨.hbm, 558, rfl⟩
abbrev main_while0b_call2_call0_call0_v143 : Ref sig .tc := ⟨.hbm, 559, rfl⟩
abbrev main_while0b_call2_call0_call0_v144 : Ref sig .tc := ⟨.hbm, 560, rfl⟩
abbrev main_while0b_call2_call0_call0_c_37 : Ref sig .tc := ⟨.hbm, 561, rfl⟩
abbrev main_while0b_call2_call0_call0_v145 : Ref sig .tc := ⟨.hbm, 562, rfl⟩
abbrev main_while0b_call2_call0_call0_v146 : Ref sig .tc := ⟨.hbm, 563, rfl⟩
abbrev main_while0b_call2_call0_call0_v147 : Ref sig .tc := ⟨.hbm, 564, rfl⟩
abbrev main_while0b_call2_call0_call0_v148 : Ref sig .tc := ⟨.hbm, 565, rfl⟩
abbrev main_while0b_call2_call0_call0_v149 : Ref sig .tc := ⟨.hbm, 566, rfl⟩
abbrev main_while0b_call2_call0_call0_c_38 : Ref sig .tc := ⟨.hbm, 567, rfl⟩
abbrev main_while0b_call2_call0_call0_v150 : Ref sig .tc := ⟨.hbm, 568, rfl⟩
abbrev main_while0b_call2_call0_call0_v151 : Ref sig .tc := ⟨.hbm, 569, rfl⟩
abbrev main_while0b_call2_call0_call0_c_39 : Ref sig .tc := ⟨.hbm, 570, rfl⟩
abbrev main_while0b_call2_call0_call0_v152 : Ref sig .tc := ⟨.hbm, 571, rfl⟩
abbrev main_while0b_call2_call0_call0_v153 : Ref sig .tc := ⟨.hbm, 572, rfl⟩
abbrev main_while0b_call2_call0_call0_v154 : Ref sig .tc := ⟨.hbm, 573, rfl⟩
abbrev main_while0b_call2_call0_call0_v155 : Ref sig .tc := ⟨.hbm, 574, rfl⟩
abbrev main_while0b_call2_call0_call0_v156 : Ref sig .tc := ⟨.hbm, 575, rfl⟩
abbrev main_while0b_call2_call0_call0_c_40 : Ref sig .tc := ⟨.hbm, 576, rfl⟩
abbrev main_while0b_call2_call0_call0_v157 : Ref sig .tc := ⟨.hbm, 577, rfl⟩
abbrev main_while0b_call2_call0_call0_v158 : Ref sig .tc := ⟨.hbm, 578, rfl⟩
abbrev main_while0b_call2_call0_call0_c_41 : Ref sig .tc := ⟨.hbm, 579, rfl⟩
abbrev main_while0b_call2_call0_call0_v159 : Ref sig .tc := ⟨.hbm, 580, rfl⟩
abbrev main_while0b_call2_call0_call0_v160 : Ref sig .tc := ⟨.hbm, 581, rfl⟩
abbrev main_while0b_call2_call0_call0_v161 : Ref sig .tc := ⟨.hbm, 582, rfl⟩
abbrev main_while0b_call2_call0_call0_v162 : Ref sig .tc := ⟨.hbm, 583, rfl⟩
abbrev main_while0b_call2_call0_call0_v163 : Ref sig .tc := ⟨.hbm, 584, rfl⟩
abbrev main_while0b_call2_call0_call0_c_42 : Ref sig .tc := ⟨.hbm, 585, rfl⟩
abbrev main_while0b_call2_call0_call0_v164 : Ref sig .tc := ⟨.hbm, 586, rfl⟩
abbrev main_while0b_call2_call0_call0_v165 : Ref sig .tc := ⟨.hbm, 587, rfl⟩
abbrev main_while0b_call2_call0_call0_c_43 : Ref sig .tc := ⟨.hbm, 588, rfl⟩
abbrev main_while0b_call2_call0_call0_v166 : Ref sig .tc := ⟨.hbm, 589, rfl⟩
abbrev main_while0b_call2_call0_call0_v167 : Ref sig .tc := ⟨.hbm, 590, rfl⟩
abbrev main_while0b_call2_call0_call0_v168 : Ref sig .tc := ⟨.hbm, 591, rfl⟩
abbrev main_while0b_call2_call0_call0_v169 : Ref sig .tc := ⟨.hbm, 592, rfl⟩
abbrev main_while0b_call2_call0_call0_v170 : Ref sig .tc := ⟨.hbm, 593, rfl⟩
abbrev main_while0b_call2_call0_v18_0 : Ref sig .tc := ⟨.hbm, 594, rfl⟩
abbrev main_while0b_call2_call0_call0_v172 : Ref sig .tc := ⟨.hbm, 595, rfl⟩
abbrev main_while0b_call2_call0_call0_v173 : Ref sig .tc := ⟨.hbm, 596, rfl⟩
abbrev main_while0b_call2_call0_call0_c_44 : Ref sig .tc := ⟨.hbm, 597, rfl⟩
abbrev main_while0b_call2_call0_call0_v174 : Ref sig .tc := ⟨.hbm, 598, rfl⟩
abbrev main_while0b_call2_call0_v18_1 : Ref sig .tc := ⟨.hbm, 599, rfl⟩
abbrev main_while0b_call2_call0_v19 : Ref sig .tc := ⟨.hbm, 600, rfl⟩
abbrev main_while0b_call2_call0_c_2 : Ref sig .tc := ⟨.hbm, 601, rfl⟩
abbrev main_while0b_call2_call0_v20 : Ref sig .tc := ⟨.hbm, 602, rfl⟩
abbrev main_while0b_call2_call0_v21 : Ref sig .tc := ⟨.hbm, 603, rfl⟩
abbrev main_while0b_call2_call0_c_3 : Ref sig .tc := ⟨.hbm, 604, rfl⟩
abbrev main_while0b_call2_call0_v22 : Ref sig .tc := ⟨.hbm, 605, rfl⟩
abbrev main_while0b_call2_call0_v23 : Ref sig .tc := ⟨.hbm, 606, rfl⟩
abbrev main_while0b_call2_call0_v24 : Ref sig .tc := ⟨.hbm, 607, rfl⟩
abbrev main_while0b_call2_call0_cst : Ref sig .tc := ⟨.hbm, 608, rfl⟩
abbrev main_while0b_call2_call0_v25 : Ref sig .tc := ⟨.hbm, 609, rfl⟩
abbrev main_while0b_call2_call0_v26 : Ref sig .tc := ⟨.hbm, 610, rfl⟩
abbrev main_while0b_call2_call0_v27 : Ref sig .tc := ⟨.hbm, 611, rfl⟩
abbrev main_while0b_call2_call0_v28 : Ref sig .tc := ⟨.hbm, 612, rfl⟩
abbrev main_while0b_call2_call0_v29 : Ref sig .tc := ⟨.hbm, 613, rfl⟩
abbrev main_while0b_call2_call0_v30 : Ref sig .tc := ⟨.hbm, 614, rfl⟩
abbrev main_while0b_call2_call0_v31 : Ref sig .tc := ⟨.hbm, 615, rfl⟩
abbrev main_while0b_call2_call0_v32 : Ref sig .tc := ⟨.hbm, 616, rfl⟩
abbrev main_while0b_call2_v0 : Ref sig .tc := ⟨.hbm, 617, rfl⟩
abbrev main_while0b_call2_v1 : Ref sig .tc := ⟨.hbm, 618, rfl⟩
abbrev main_while0b_call2_v2 : Ref sig .tc := ⟨.hbm, 619, rfl⟩
abbrev main_while0b_call2_v3 : Ref sig .tc := ⟨.hbm, 620, rfl⟩
abbrev main_while0b_v75 : Ref sig .tc := ⟨.hbm, 621, rfl⟩
abbrev main_while0b_v76 : Ref sig .tc := ⟨.hbm, 622, rfl⟩
abbrev main_while0b_call3_v0 : Ref sig .tc := ⟨.hbm, 623, rfl⟩
abbrev main_while0b_call3_cst : Ref sig .tc := ⟨.hbm, 624, rfl⟩
abbrev main_while0b_call3_c : Ref sig .tc := ⟨.hbm, 625, rfl⟩
abbrev main_while0b_call3_v1_0 : Ref sig .tc := ⟨.hbm, 626, rfl⟩
abbrev main_while0b_v77 : Ref sig .tc := ⟨.hbm, 627, rfl⟩
abbrev main_while0b_call4_cst : Ref sig .tc := ⟨.hbm, 628, rfl⟩
abbrev main_while0b_call4_v0 : Ref sig .tc := ⟨.hbm, 629, rfl⟩
abbrev main_while0b_call4_cst_0 : Ref sig .tc := ⟨.hbm, 630, rfl⟩
abbrev main_while0b_call4_v1 : Ref sig .tc := ⟨.hbm, 631, rfl⟩
abbrev main_while0b_call4_v2 : Ref sig .tc := ⟨.hbm, 632, rfl⟩
abbrev main_while0b_call4_v3 : Ref sig .tc := ⟨.hbm, 633, rfl⟩
abbrev main_while0b_call4_v4 : Ref sig .tc := ⟨.hbm, 634, rfl⟩
abbrev main_while0b_call4_v5 : Ref sig .tc := ⟨.hbm, 635, rfl⟩
abbrev main_while0b_call4_v6 : Ref sig .tc := ⟨.hbm, 636, rfl⟩
abbrev main_while0b_call4_cst_1 : Ref sig .tc := ⟨.hbm, 637, rfl⟩
abbrev main_while0b_call4_v7 : Ref sig .tc := ⟨.hbm, 638, rfl⟩
abbrev main_while0b_call4_v8 : Ref sig .tc := ⟨.hbm, 639, rfl⟩
abbrev main_while0b_call4_v9 : Ref sig .tc := ⟨.hbm, 640, rfl⟩
abbrev main_while0b_call4_v10 : Ref sig .tc := ⟨.hbm, 641, rfl⟩
abbrev main_while0b_v78 : Ref sig .tc := ⟨.hbm, 642, rfl⟩
abbrev main_while0b_v79 : Ref sig .tc := ⟨.hbm, 643, rfl⟩
abbrev main_while0b_call5_c : Ref sig .tc := ⟨.hbm, 644, rfl⟩
abbrev main_while0b_call5_v0 : Ref sig .tc := ⟨.hbm, 645, rfl⟩
abbrev main_while0b_call5_v1 : Ref sig .tc := ⟨.hbm, 646, rfl⟩
abbrev main_while0b_call5_c_0 : Ref sig .tc := ⟨.hbm, 647, rfl⟩
abbrev main_while0b_call5_v2 : Ref sig .tc := ⟨.hbm, 648, rfl⟩
abbrev main_while0b_call5_v3 : Ref sig .tc := ⟨.hbm, 649, rfl⟩
abbrev main_while0b_call5_v4 : Ref sig .tc := ⟨.hbm, 650, rfl⟩
abbrev main_while0b_call5_v5 : Ref sig .tc := ⟨.hbm, 651, rfl⟩
abbrev main_while0b_call5_c_1 : Ref sig .tc := ⟨.hbm, 652, rfl⟩
abbrev main_while0b_call5_c_2 : Ref sig .tc := ⟨.hbm, 653, rfl⟩
abbrev main_while0b_call5_v6 : Ref sig .tc := ⟨.hbm, 654, rfl⟩
abbrev main_while0b_call5_v7 : Ref sig .tc := ⟨.hbm, 655, rfl⟩
abbrev main_while0b_call5_v8 : Ref sig .tc := ⟨.hbm, 656, rfl⟩
abbrev main_while0b_call5_v9 : Ref sig .tc := ⟨.hbm, 657, rfl⟩
abbrev main_while0b_call5_v10 : Ref sig .tc := ⟨.hbm, 658, rfl⟩
abbrev main_while0b_call5_v11 : Ref sig .tc := ⟨.hbm, 659, rfl⟩
abbrev main_while0b_call5_c_3 : Ref sig .tc := ⟨.hbm, 660, rfl⟩
abbrev main_while0b_call5_v12 : Ref sig .tc := ⟨.hbm, 661, rfl⟩
abbrev main_while0b_call5_v13 : Ref sig .tc := ⟨.hbm, 662, rfl⟩
abbrev main_while0b_call5_cst : Ref sig .tc := ⟨.hbm, 663, rfl⟩
abbrev main_while0b_call5_v14 : Ref sig .tc := ⟨.hbm, 664, rfl⟩
abbrev main_while0b_v80 : Ref sig .tc := ⟨.hbm, 665, rfl⟩
abbrev main_while0b_v81 : Ref sig .tc := ⟨.hbm, 666, rfl⟩
abbrev main_while0b_c_31 : Ref sig .tc := ⟨.hbm, 667, rfl⟩
abbrev main_while0b_call6_v0 : Ref sig .tc := ⟨.hbm, 668, rfl⟩
abbrev main_while0b_call6_v1 : Ref sig .tc := ⟨.hbm, 669, rfl⟩
abbrev main_while0b_v82 : Ref sig .tc := ⟨.hbm, 670, rfl⟩
abbrev main_while0b_cst_32 : Ref sig .tc := ⟨.hbm, 671, rfl⟩
abbrev main_while0b_call7_v0 : Ref sig .tc := ⟨.hbm, 672, rfl⟩
abbrev main_while0b_call7_v1 : Ref sig .tc := ⟨.hbm, 673, rfl⟩
abbrev main_while0b_v83 : Ref sig .tc := ⟨.hbm, 674, rfl⟩
abbrev main_while0b_v84 : Ref sig .tc := ⟨.hbm, 675, rfl⟩
abbrev main_while0b_c_33 : Ref sig .tc := ⟨.hbm, 676, rfl⟩
abbrev main_while0b_v85 : Ref sig .tc := ⟨.hbm, 677, rfl⟩
abbrev main_while0b_v86 : Ref sig .tc := ⟨.hbm, 678, rfl⟩
abbrev main_while0b_v87 : Ref sig .tc := ⟨.hbm, 679, rfl⟩
abbrev main_while0b_c_34 : Ref sig .tc := ⟨.hbm, 680, rfl⟩
abbrev main_while0b_v88 : Ref sig .tc := ⟨.hbm, 681, rfl⟩
abbrev main_while0b_call8_v0 : Ref sig .tc := ⟨.hbm, 682, rfl⟩
abbrev main_while0b_v89 : Ref sig .tc := ⟨.hbm, 683, rfl⟩
abbrev main_while0b_c_35 : Ref sig .tc := ⟨.hbm, 684, rfl⟩
abbrev main_while0b_v90 : Ref sig .tc := ⟨.hbm, 685, rfl⟩
abbrev main_while0b_v91 : Ref sig .tc := ⟨.hbm, 686, rfl⟩
abbrev main_while0b_v92 : Ref sig .tc := ⟨.hbm, 687, rfl⟩
abbrev main_while0b_v93 : Ref sig .tc := ⟨.hbm, 688, rfl⟩
abbrev main_while0b_call9_v0 : Ref sig .tc := ⟨.hbm, 689, rfl⟩
abbrev main_while0b_v94 : Ref sig .tc := ⟨.hbm, 690, rfl⟩
abbrev main_while0b_v95 : Ref sig .tc := ⟨.hbm, 691, rfl⟩
abbrev main_while0b_call11_v0 : Ref sig .tc := ⟨.hbm, 692, rfl⟩
abbrev main_while0b_call11_c : Ref sig .tc := ⟨.hbm, 693, rfl⟩
abbrev main_while0b_v96 : Ref sig .tc := ⟨.hbm, 694, rfl⟩
abbrev main_while0b_c_36 : Ref sig .tc := ⟨.hbm, 695, rfl⟩
abbrev main_while0b_v97 : Ref sig .tc := ⟨.hbm, 696, rfl⟩
abbrev main_v21 : Ref sig .tc := ⟨.hbm, 697, rfl⟩

abbrev nD : Nat := 1
abbrev τ : Topo := Topo.v7x

variable {F : FTy → Type} [FloatOps F]

abbrev main_while0_count : Scf.Loop 32 := ⟨0#32, 512#32, 1#32⟩
-- ==== Proof.Step.lean ====
/-
One step of the decoder, as a function of what the kernel holds between two grid points: the hidden state, the last
token, whether a row is still alive, the number of symbols and the log probability. The arithmetic is the kernel's own.
-/
module

public import proofs.«01_k».proof.Proof.Gen.KernelIdeal.Skeleton
public import Idealize.ShloMosaic.Lib.ValueIdxCore
public import Idealize.ShloMosaic.Lib.Pipeline.ValueKit.Tiles

@[expose] public section

noncomputable section

namespace Cert.KernelIdeal.Hand

open Idealize.ShloMosaic Idealize.ShloMosaic.ValueIdx Idealize.SL.Sem
open Cert.KernelIdeal.Gen

variable {F : FTy → Type} [FloatOps F]

/-- What is carried from one grid point to the next. -/
structure Carry (F : FTy → Type) where
  /-- the hidden state of the eight rows -/
  hid : Vec F S8x512 .f32
  /-- the token each row spoke last -/
  tok : Vec F S8x1 .i32
  /-- whether a row still speaks: 1 or 0 -/
  alive : Vec F S8x1 .i32
  /-- the number of symbols spoken -/
  count : Vec F S8x1 .i32
  /-- the log probability of what was spoken -/
  logp : Vec F S8x1 .f32

/-- The tables and the matrices, as the kernel is given them. -/
structure Weights (F : FTy → Type) where
  /-- the embedding of the words spoken -/
  emb : Vec F S4096x512 .f32
  /-- the cell's input matrix, transposed -/
  wih : Vec F S512x1536 .f32
  /-- the cell's recurrent matrix, transposed -/
  whh : Vec F S512x1536 .f32
  /-- the cell's input bias -/
  bih : Vec F S1x1536 .f32
  /-- the cell's recurrent bias -/
  bhh : Vec F S1x1536 .f32
  /-- the output matrix, transposed -/
  wout : Vec F S512x4096 .f32
  /-- the output bias -/
  bout : Vec F S1x4096 .f32

/-- Row `w` of a table of 4096 rows (`w` taken modulo 4096, which it is below wherever this is used). -/
def embRow (x : Vec F S4096x512 .f32) (w : BitVec 32) : Vec F S1x512 .f32 :=
  fun j => x (ix2 ⟨w.toNat % 4096, Nat.mod_lt _ (by decide)⟩ (j 1))

/-- Row `w` of a table of 1024 rows (`w` taken modulo 1024, which it is below wherever this is used). -/
def actRow (x : Vec F S1024x512 .f32) (w : BitVec 32) : Vec F S1x512 .f32 :=
  fun j => x (ix2 ⟨w.toNat % 1024, Nat.mod_lt _ (by decide)⟩ (j 1))

/-- What is carried into the first step: the rows of the first table the actions name, and the start values. -/
def start (acts : Vec F S8 .i32) (tab : Vec F S1024x512 .f32) : Carry F where
  hid := fun j => actRow tab (acts (ix1 (j 0))) (ix2 0 (j 1))
  tok := k0_pay10
  alive := k0_pay11
  count := k0_pay12
  logp := k0_pay13

/-- The cell's new state, from the embedding of the last token and the state. -/
def cell (W : Weights F) (s : Carry F) : FVec F S8x512 .f32 :=
  k0_pay14 (embRow W.emb (s.tok (ix2 0 0))) (embRow W.emb (s.tok (ix2 1 0))) (embRow W.emb (s.tok (ix2 2 0)))
    (embRow W.emb (s.tok (ix2 3 0))) (embRow W.emb (s.tok (ix2 4 0))) (embRow W.emb (s.tok (ix2 5 0)))
    (embRow W.emb (s.tok (ix2 6 0))) (embRow W.emb (s.tok (ix2 7 0))) s.hid W.wih W.bih W.whh W.bhh

/-- The token each row draws, from the noise `z`. -/
def drawn (W : Weights F) (z : Vec F S1x8x4096 .f32) (s : Carry F) : IVec S8x1 32 :=
  k0_pay16 (cell W s) W.wout W.bout z

/-- What a step writes out: the token drawn, 0 where the row is not alive. -/
def spoken (W : Weights F) (z : Vec F S1x8x4096 .f32) (s : Carry F) : IVec S1x8x1 32 :=
  k0_pay20 (k0_pay19 (cell W s) W.wout W.bout z s.alive)

/-- One step, the `n`-th. -/
def step (W : Weights F) (n : BitVec 32) (z : Vec F S1x8x4096 .f32) (s : Carry F) : Carry F where
  hid := k0_pay24 s.hid (cell W s) (k0_pay18 (F := F) s.alive)
  tok := k0_pay1 (F := F) (drawn W z s) (k0_pay18 (F := F) s.alive) s.tok
  alive := k0_pay23 (drawn W z s) (k0_pay18 (F := F) s.alive)
  count := k0_pay22 (F := F) n (drawn W z s) (k0_pay18 (F := F) s.alive) s.count
  logp := k0_pay21 (k0_pay17 (cell W s) W.wout W.bout z) (k0_pay18 (F := F) s.alive) s.logp

end Cert.KernelIdeal.Hand

end
-- ==== Proof.Loads.lean ====
/- The kernel's loads as values, and what its body owns at a grid point. -/
module

public import proofs.«01_k».proof.Proof.Gen.KernelIdeal.Frame
public import proofs.«01_k».proof.Proof.Step
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A load of everything reads what is held. -/
theorem load_full {κ : Kind} {sp : Space} {s : Shape} {e : EltTy} {a : Memref sig κ sp s e} (ha : a.IsWhole) (x : s.Idx → Elt F e)
    {off : Fin s.rank → ℕ} (inb : ∀ d, off d + s.size d ≤ s.size d) :
    a.view.readAt (Elt F) (Rect.unit off s.size inb).toLoadRect (ha.unread x) = x := by
  rw [View.readAt_full, Memref.IsWhole.read_unread]

/-- What a load of one entry of a column of eight reads. -/
theorem load_word {a : Memref sig .tc .vmem S8x1 .i32} (ha : a.IsWhole) (x : Vec F S8x1 .i32) (b : ℕ) (hb : b < 8)
    (inb : ∀ d, (![b, 0] : Fin 2 → ℕ) d + S1x1.size d ≤ S8x1.size d) (hp : ∀ d, (![0, 0] : Fin 2 → ℕ) d < S1x1.size d) :
    (extractAt ![0, 0] (a.view.readAt (Elt F) (Rect.unit (s := S8x1) ![b, 0] S1x1.size inb).toLoadRect (ha.unread x)) hp : BitVec 32)
      = x (ix2 ⟨b, hb⟩ 0) := by
  unfold extractAt
  rw [Memref.IsWhole.readAt_unread]
  exact congrArg x (funext fun d => match d with
    | ⟨0, _⟩ => rfl
    | ⟨1, _⟩ => rfl)

/-- What a load of row `w` of a table of 4096 rows reads. -/
theorem load_emb {a : Memref sig .tc .vmem S4096x512 .f32} (ha : a.IsWhole) (x : Vec F S4096x512 .f32) (v w : BitVec 32) (hv : v = w)
    (hw : w.toNat < 4096) (inb : ∀ d, (![v.toNat, 0] : Fin 2 → ℕ) d + S1x512.size d ≤ S4096x512.size d) :
    a.view.readAt (Elt F) (Rect.unit (s := S4096x512) ![v.toNat, 0] S1x512.size inb).toLoadRect (ha.unread x) = embRow x w := by
  subst hv
  funext j
  rw [Memref.IsWhole.readAt_unread]
  refine congrArg x (funext fun d => match d with
    | ⟨0, _⟩ => Fin.ext ?_
    | ⟨1, _⟩ => Fin.ext ?_)
  · have h0 : (j 0).val = 0 := by have := (j 0).isLt; simp at this; omega
    show v.toNat + 1 * (j 0).val = v.toNat % 4096
    rw [h0, Nat.mod_eq_of_lt hw]; omega
  · show 0 + 1 * (j 1).val = (j 1).val
    omega

/-- A token below 4096 is a row of the table. -/
theorem emb_inb {w : BitVec 32} (hw : w.toNat < 4096) : ∀ d, (![w.toNat, 0] : Fin 2 → ℕ) d + S1x512.size d ≤ S4096x512.size d := by
  intro d
  match d with
  | ⟨0, _⟩ => show w.toNat + 1 ≤ 4096; omega
  | ⟨1, _⟩ => show 0 + 512 ≤ 512; omega

/-- An entry of a column all of whose entries are below 4096, as a load finds it, is a row of the table. -/
theorem word_inb {a : Memref sig .tc .vmem S8x1 .i32} (ha : a.IsWhole) (x : Vec F S8x1 .i32) (hx : ∀ j, (x j : BitVec 32).toNat < 4096)
    (B : LoadRect S8x1) (p : Fin B.shape.rank → Nat) (hp : ∀ d, p d < B.shape.size d) :
    ∀ d, (![(extractAt p (View.readAt (Elt F) a.view B (ha.unread x)) hp : BitVec 32).toNat, 0] : Fin 2 → ℕ) d + S1x512.size d
      ≤ S4096x512.size d := by
  apply emb_inb
  unfold extractAt
  rw [Memref.IsWhole.readAt_unread]
  exact hx _

/-- An action below 1024 is a row of the first table. -/
theorem act_row_inb {w : BitVec 32} (hw : w.toNat < 1024) : ∀ d, (![w.toNat, 0] : Fin 2 → ℕ) d + S1x512.size d ≤ S1024x512.size d := by
  intro d
  match d with
  | ⟨0, _⟩ => show w.toNat + 1 ≤ 1024; omega
  | ⟨1, _⟩ => show 0 + 512 ≤ 512; omega

/-- An entry of the actions, all of them below 1024, as a load finds it, is a row of the first table. -/
theorem act_inb {a : Memref sig .tc .smem S8 .i32} (ha : a.IsWhole) (x : Vec F S8 .i32) (hx : ∀ j, (x j : BitVec 32).toNat < 1024)
    (B : LoadRect S8) (p : B.shape.Idx) :
    ∀ d, (![(View.readAt (Elt F) a.view B (ha.unread x) p : BitVec 32).toNat, 0] : Fin 2 → ℕ) d + S1x512.size d
      ≤ S1024x512.size d := by
  apply act_row_inb
  rw [Memref.IsWhole.readAt_unread]
  exact hx _

/-! The kernel's terms over its loads are the step's, once the loads are read. -/

section Terms

variable {W : Weights F} {s : Carry F} {n : BitVec 32} {z z' : Vec F S1x8x4096 .f32} {r0 r1 r2 r3 r4 r5 r6 r7 : Vec F S1x512 .f32}
  {h : Vec F S8x512 .f32} {wih whh : Vec F S512x1536 .f32} {bih bhh : Vec F S1x1536 .f32} {wout : Vec F S512x4096 .f32}
  {bout : Vec F S1x4096 .f32} {k : FVec F S8x512 .f32} {t : IVec S8x1 32} {a q : Vec F S8x1 .i32} {l : FVec F S8x1 .f32} {p : Vec F S8x1 .f32}

theorem cell_of (e0 : r0 = embRow W.emb (s.tok (ix2 0 0))) (e1 : r1 = embRow W.emb (s.tok (ix2 1 0)))
    (e2 : r2 = embRow W.emb (s.tok (ix2 2 0))) (e3 : r3 = embRow W.emb (s.tok (ix2 3 0))) (e4 : r4 = embRow W.emb (s.tok (ix2 4 0)))
    (e5 : r5 = embRow W.emb (s.tok (ix2 5 0))) (e6 : r6 = embRow W.emb (s.tok (ix2 6 0))) (e7 : r7 = embRow W.emb (s.tok (ix2 7 0)))
    (eh : h = s.hid) (ei : wih = W.wih) (ej : bih = W.bih) (ek : whh = W.whh) (el : bhh = W.bhh) :
    k0_pay14 r0 r1 r2 r3 r4 r5 r6 r7 h wih bih whh bhh = cell W s := by
  subst e0 e1 e2 e3 e4 e5 e6 e7 eh ei ej ek el; rfl

theorem drawn_of (ek : k = cell W s) (eo : wout = W.wout) (eb : bout = W.bout) (ez : z' = z) : k0_pay16 k wout bout z' = drawn W z s := by
  subst ek eo eb ez; rfl

theorem spoken_of (ek : k = cell W s) (eo : wout = W.wout) (eb : bout = W.bout) (ez : z' = z) (ea : a = s.alive) :
    k0_pay20 (k0_pay19 k wout bout z' a) = spoken W z s := by
  subst ek eo eb ez ea; rfl

theorem hid_of (eh : h = s.hid) (ek : k = cell W s) (ea : a = s.alive) : k0_pay24 h k (k0_pay18 (F := F) a) = (step W n z s).hid := by
  subst eh ek ea; rfl

theorem tok_of (et : t = drawn W z s) (ea : a = s.alive) (eq : q = s.tok) : k0_pay1 (F := F) t (k0_pay18 (F := F) a) q = (step W n z s).tok := by
  subst et ea eq; rfl

theorem alive_of (et : t = drawn W z s) (ea : a = s.alive) : k0_pay23 t (k0_pay18 (F := F) a) = (step W n z s).alive := by
  subst et ea; rfl

theorem count_of (et : t = drawn W z s) (ea : a = s.alive) (eq : q = s.count) :
    k0_pay22 (F := F) n t (k0_pay18 (F := F) a) q = (step W n z s).count := by
  subst et ea eq; rfl

theorem logp_of (ek : k = cell W s) (eo : wout = W.wout) (eb : bout = W.bout) (ez : z' = z) (ea : a = s.alive) (ep : p = s.logp) :
    k0_pay21 (k0_pay17 k wout bout z') (k0_pay18 (F := F) a) p = (step W n z s).logp := by
  subst ek eo eb ez ea ep; rfl

end Terms

section Held

variable (c : Dev nD) (arg1 : Memref sig .tc .smem S8 .i32) (arg2 : Memref sig .tc .vmem S1x8x4096 .f32)
  (arg3 : Memref sig .tc .vmem S1024x512 .f32) (arg4 : Memref sig .tc .vmem S4096x512 .f32)
  (arg5 arg6 : Memref sig .tc .vmem S512x1536 .f32) (arg7 arg8 : Memref sig .tc .vmem S1x1536 .f32)
  (arg9 : Memref sig .tc .vmem S512x4096 .f32) (arg10 : Memref sig .tc .vmem S1x4096 .f32)
  (arg14 : Memref sig .tc .vmem S8x512 .f32) (arg15 arg16 arg17 : Memref sig .tc .vmem S8x1 .i32)
  (arg18 : Memref sig .tc .vmem S8x1 .f32)

/-- The ten inputs, at what they hold. -/
def inputs (acts : Vec F S8 .i32) (z : Vec F S1x8x4096 .f32) (tab : Vec F S1024x512 .f32) (W : Weights F) : sProp 𝕄 :=
  iprop(owns (c : Thread nD τ) arg1 fullShare acts ∗ owns (c : Thread nD τ) arg2 fullShare z ∗ owns (c : Thread nD τ) arg3 fullShare tab
    ∗ owns (c : Thread nD τ) arg4 fullShare W.emb ∗ owns (c : Thread nD τ) arg5 fullShare W.wih ∗ owns (c : Thread nD τ) arg6 fullShare W.whh
    ∗ owns (c : Thread nD τ) arg7 fullShare W.bih ∗ owns (c : Thread nD τ) arg8 fullShare W.bhh ∗ owns (c : Thread nD τ) arg9 fullShare W.wout
    ∗ owns (c : Thread nD τ) arg10 fullShare W.bout)

/-- The five buffers carried between points, at `s`. -/
def carried (s : Carry F) : sProp 𝕄 :=
  iprop(owns (c : Thread nD τ) arg14 fullShare s.hid ∗ owns (c : Thread nD τ) arg15 fullShare s.tok
    ∗ owns (c : Thread nD τ) arg16 fullShare s.alive ∗ owns (c : Thread nD τ) arg17 fullShare s.count
    ∗ owns (c : Thread nD τ) arg18 fullShare s.logp)

end Held

end Cert.KernelIdeal.Hand

end
-- ==== Proof.BodyFirst.lean ====
/- The kernel's body at the first grid point: the start values, then one step. -/
module

public import proofs.«01_k».proof.Proof.Loads

@[expose] public section

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A load of one entry of a column of eight that was just stored whole. -/
theorem load_word_cov (v : View sig .tc .vmem S8x1 .i32) (w : S8x1.Idx → Elt F .i32) (b : ℕ) (hb : b < 8)
    (inb : ∀ d, (![b, 0] : Fin 2 → ℕ) d + S1x1.size d ≤ S8x1.size d) (inb' : ∀ d, (![0, 0] : Fin 2 → ℕ) d + S8x1.size d ≤ S8x1.size d)
    (hp : ∀ d, (![0, 0] : Fin 2 → ℕ) d < S1x1.size d) :
    (extractAt ![0, 0] (v.readCov [(⟨Rect.unit ![0, 0] S8x1.size inb', w⟩ : View.Piece (Elt F) S8x1 .i32)]
        (Rect.unit (s := S8x1) ![b, 0] S1x1.size inb).toLoadRect) hp : BitVec 32) = w (ix2 ⟨b, hb⟩ 0) := by
  unfold extractAt View.readCov
  rw [View.readAt_apply, View.read_writes_full]
  exact congrArg w (funext fun d => match d with
    | ⟨0, _⟩ => rfl
    | ⟨1, _⟩ => rfl)

/-- The tokens start at 0. -/
theorem start_tok (acts : Vec F S8 .i32) (tab : Vec F S1024x512 .f32) (j : S8x1.Idx) : ((start acts tab).tok j : BitVec 32) = 0#32 := rfl

theorem start_lt (acts : Vec F S8 .i32) (tab : Vec F S1024x512 .f32) (j : S8x1.Idx) : ((start acts tab).tok j : BitVec 32).toNat < 4096 := by
  rw [start_tok]; decide

/-- The first step's words name a row of the table of embeddings. -/
theorem start_inb (v : View sig .tc .vmem S8x1 .i32) (b : ℕ) (hb : b < 8)
    (inb : ∀ d, (![b, 0] : Fin 2 → ℕ) d + S1x1.size d ≤ S8x1.size d) (inb' : ∀ d, (![0, 0] : Fin 2 → ℕ) d + S8x1.size d ≤ S8x1.size d)
    (hp : ∀ d, (![0, 0] : Fin 2 → ℕ) d < S1x1.size d) :
    ∀ d, (![(extractAt ![0, 0] (v.readCov [(⟨Rect.unit ![0, 0] S8x1.size inb', (k0_pay10 : S8x1.Idx → Elt F .i32)⟩ : View.Piece (Elt F) S8x1 .i32)]
        (Rect.unit (s := S8x1) ![b, 0] S1x1.size inb).toLoadRect) hp : BitVec 32).toNat, 0] : Fin 2 → ℕ) d + S1x512.size d
      ≤ S4096x512.size d := by
  apply emb_inb
  rw [load_word_cov _ _ b hb]
  show (0#32).toNat < 4096
  decide

/-- A stored row of eight holds what the whole array holds there. -/
theorem row_tile (T : Vec F S8x512 .f32) (b : Fin 8) (r : Vec F S1x512 .f32) (e : r = fun j => T (ix2 b (j 1))) (y : S8x512.Idx) :
    View.TileAt y ![b.val, 0] S1x512.size r (T y) := by
  intro x hx
  subst e
  refine congrArg T (funext fun d => match d with
    | ⟨0, _⟩ => Fin.ext ?_
    | ⟨1, _⟩ => Fin.ext ?_)
  · have h0 : (x 0).val = 0 := by have := (x 0).isLt; simp at this; omega
    have := hx 0
    show b.val = (y 0).val
    rw [this, h0]; rfl
  · have := hx 1
    show (x 1).val = (y 1).val
    rw [this]; show _ = 0 + _; omega

/-- The state, loaded after its eight rows were stored one by one. -/
theorem load_rows (v : View sig .tc .vmem S8x512 .f32) (T : Vec F S8x512 .f32) {r0 r1 r2 r3 r4 r5 r6 r7 : Vec F S1x512 .f32}
    {i0 : ∀ d, (![0, 0] : Fin 2 → ℕ) d + S1x512.size d ≤ S8x512.size d} {i1 : ∀ d, (![1, 0] : Fin 2 → ℕ) d + S1x512.size d ≤ S8x512.size d}
    {i2 : ∀ d, (![2, 0] : Fin 2 → ℕ) d + S1x512.size d ≤ S8x512.size d} {i3 : ∀ d, (![3, 0] : Fin 2 → ℕ) d + S1x512.size d ≤ S8x512.size d}
    {i4 : ∀ d, (![4, 0] : Fin 2 → ℕ) d + S1x512.size d ≤ S8x512.size d} {i5 : ∀ d, (![5, 0] : Fin 2 → ℕ) d + S1x512.size d ≤ S8x512.size d}
    {i6 : ∀ d, (![6, 0] : Fin 2 → ℕ) d + S1x512.size d ≤ S8x512.size d} {i7 : ∀ d, (![7, 0] : Fin 2 → ℕ) d + S1x512.size d ≤ S8x512.size d}
    {inb : ∀ d, (![0, 0] : Fin 2 → ℕ) d + S8x512.size d ≤ S8x512.size d}
    (e0 : r0 = fun j => T (ix2 0 (j 1))) (e1 : r1 = fun j => T (ix2 1 (j 1))) (e2 : r2 = fun j => T (ix2 2 (j 1)))
    (e3 : r3 = fun j => T (ix2 3 (j 1))) (e4 : r4 = fun j => T (ix2 4 (j 1))) (e5 : r5 = fun j => T (ix2 5 (j 1)))
    (e6 : r6 = fun j => T (ix2 6 (j 1))) (e7 : r7 = fun j => T (ix2 7 (j 1))) :
    v.readCov ((⟨Rect.unit ![7, 0] S1x512.size i7, r7⟩ : View.Piece (Elt F) S8x512 .f32) :: ⟨Rect.unit ![6, 0] S1x512.size i6, r6⟩
        :: ⟨Rect.unit ![5, 0] S1x512.size i5, r5⟩ :: ⟨Rect.unit ![4, 0] S1x512.size i4, r4⟩ :: ⟨Rect.unit ![3, 0] S1x512.size i3, r3⟩
        :: ⟨Rect.unit ![2, 0] S1x512.size i2, r2⟩ :: ⟨Rect.unit ![1, 0] S1x512.size i1, r1⟩ :: ⟨Rect.unit ![0, 0] S1x512.size i0, r0⟩ :: [])
      (Rect.unit (s := S8x512) ![0, 0] S8x512.size inb).toLoadRect = T := by
  rw [View.readCov_eq_canon']
  funext j
  have hj : (Rect.unit (s := S8x512) ![0, 0] S8x512.size inb).toLoadRect.idx j = j := Rect.emb_unit_full inb j
  rw [hj]
  refine View.canon_eq_of_allAt _ j _ (View.cover_of_tiled_head _ _ _ (by sl_kernel_rfl) j) ?_
  exact View.allAt_cons_unit _ _ _ _ _ (row_tile T 7 _ e7 j) <| View.allAt_cons_unit _ _ _ _ _ (row_tile T 6 _ e6 j) <|
    View.allAt_cons_unit _ _ _ _ _ (row_tile T 5 _ e5 j) <| View.allAt_cons_unit _ _ _ _ _ (row_tile T 4 _ e4 j) <|
    View.allAt_cons_unit _ _ _ _ _ (row_tile T 3 _ e3 j) <| View.allAt_cons_unit _ _ _ _ _ (row_tile T 2 _ e2 j) <|
    View.allAt_cons_unit _ _ _ _ _ (row_tile T 1 _ e1 j) <| View.allAt_cons_unit _ _ _ _ _ (row_tile T 0 _ e0 j) <| View.allAt_nil _ _

/-- The row of the first table that an action names, as it is stored. -/
theorem load_act {a : Memref sig .tc .vmem S1024x512 .f32} (ha : a.IsWhole) {a1 : Memref sig .tc .smem S8 .i32} (ha1 : a1.IsWhole)
    (acts : Vec F S8 .i32) (tab : Vec F S1024x512 .f32) (b : ℕ) (hb : b < 8) (hx : ∀ j, (acts j : BitVec 32).toNat < 1024)
    (ib : ∀ d, (![b] : Fin 1 → ℕ) d + S1.size d ≤ S8.size d) (p : (Rect.unit (s := S8) ![b] S1.size ib).toLoadRect.shape.Idx)
    (inb : ∀ d, (![(View.readAt (Elt F) a1.view (Rect.unit (s := S8) ![b] S1.size ib).toLoadRect (ha1.unread acts) p : BitVec 32).toNat, 0]
      : Fin 2 → ℕ) d + S1x512.size d ≤ S1024x512.size d) (h : S1x512.ShapeCasts S1x512) :
    shapeCast S1x512 (a.view.readAt (Elt F) (Rect.unit (s := S1024x512) ![(View.readAt (Elt F) a1.view (Rect.unit (s := S8) ![b] S1.size
        ib).toLoadRect (ha1.unread acts) p : BitVec 32).toNat, 0] S1x512.size inb).toLoadRect (ha.unread tab)) h
      = fun j => (start acts tab).hid (ix2 ⟨b, hb⟩ (j 1)) := by
  have hw : (View.readAt (Elt F) a1.view (Rect.unit (s := S8) ![b] S1.size ib).toLoadRect (ha1.unread acts) p : BitVec 32)
      = acts (ix1 ⟨b, hb⟩) := by
    rw [Memref.IsWhole.readAt_unread]
    refine congrArg acts (funext fun d => match d with
      | ⟨0, _⟩ => Fin.ext ?_)
    have h0 : (p 0).val = 0 := by have := (p 0).isLt; simp at this; omega
    show b + 1 * (p 0).val = b
    omega
  refine (shapeCast_self (s := S1x512) _ h).trans ?_
  funext j
  rw [Memref.IsWhole.readAt_unread]
  refine congrArg tab (funext fun d => match d with
    | ⟨0, _⟩ => Fin.ext ?_
    | ⟨1, _⟩ => Fin.ext ?_)
  · have h0 : (j 0).val = 0 := by have := (j 0).isLt; simp at this; omega
    show (View.readAt (Elt F) a1.view _ (ha1.unread acts) p : BitVec 32).toNat + 1 * (j 0).val = (acts (ix1 ⟨b, hb⟩) : BitVec 32).toNat % 1024
    refine (congrArg (_ + 1 * ·) h0).trans ?_
    rw [Nat.mod_eq_of_lt (hx _)]
    exact congrArg BitVec.toNat hw
  · show 0 + 1 * (j 1).val = (j 1).val
    omega

variable (c : Dev nD) (i : grid0.Coords) {arg1 : Memref sig .tc .smem S8 .i32} (harg1 : arg1.IsWhole)
  {arg2 : Memref sig .tc .vmem S1x8x4096 .f32} (harg2 : arg2.IsWhole)
  {arg3 : Memref sig .tc .vmem S1024x512 .f32} (harg3 : arg3.IsWhole)
  {arg4 : Memref sig .tc .vmem S4096x512 .f32} (harg4 : arg4.IsWhole)
  {arg5 : Memref sig .tc .vmem S512x1536 .f32} (harg5 : arg5.IsWhole)
  {arg6 : Memref sig .tc .vmem S512x1536 .f32} (harg6 : arg6.IsWhole)
  {arg7 : Memref sig .tc .vmem S1x1536 .f32} (harg7 : arg7.IsWhole)
  {arg8 : Memref sig .tc .vmem S1x1536 .f32} (harg8 : arg8.IsWhole)
  {arg9 : Memref sig .tc .vmem S512x4096 .f32} (harg9 : arg9.IsWhole)
  {arg10 : Memref sig .tc .vmem S1x4096 .f32} (harg10 : arg10.IsWhole)
  {arg11 : Memref sig .tc .vmem S1x8x1 .i32} (harg11 : arg11.IsWhole)
  {arg12 : Memref sig .tc .vmem S8x1 .i32} (harg12 : arg12.IsWhole)
  {arg13 : Memref sig .tc .vmem S8x1 .f32} (harg13 : arg13.IsWhole)
  {arg14 : Memref sig .tc .vmem S8x512 .f32} (harg14 : arg14.IsWhole)
  {arg15 : Memref sig .tc .vmem S8x1 .i32} (harg15 : arg15.IsWhole)
  {arg16 : Memref sig .tc .vmem S8x1 .i32} (harg16 : arg16.IsWhole)
  {arg17 : Memref sig .tc .vmem S8x1 .i32} (harg17 : arg17.IsWhole)
  {arg18 : Memref sig .tc .vmem S8x1 .f32} (harg18 : arg18.IsWhole)
  (acts : Vec F S8 .i32) (z : Vec F S1x8x4096 .f32) (tab : Vec F S1024x512 .f32) (W : Weights F)

set_option maxHeartbeats 1600000 in
/-- The body makes the first step from the start values, whatever the carried buffers held, writes the tokens spoken and leaves the two last results' buffers alone. -/
theorem body_first (hc0 : k0_cond1 i = 1#1) (hc1 : ¬k0_cond2 i = 1#1) (ha : ∀ j, (acts j : BitVec 32).toNat < 1024)
    (d1 : Vec F S8x1 .i32) (d2 : Vec F S8x1 .f32) (E : Set ℕ) (K : PUnit → sProp 𝕄) :
    iprop(inputs c arg1 arg2 arg3 arg4 arg5 arg6 arg7 arg8 arg9 arg10 acts z tab W ∗ (∃ d, owns (c : Thread nD τ) arg11 fullShare d)
        ∗ owns (c : Thread nD τ) arg12 fullShare d1 ∗ owns (c : Thread nD τ) arg13 fullShare d2 ∗ (∃ d, owns (c : Thread nD τ) arg14 fullShare d) ∗ (∃ d, owns (c : Thread nD τ) arg15 fullShare d)
        ∗ (∃ d, owns (c : Thread nD τ) arg16 fullShare d) ∗ (∃ d, owns (c : Thread nD τ) arg17 fullShare d)
        ∗ (∃ d, owns (c : Thread nD τ) arg18 fullShare d)
        ∗ (iprop(inputs c arg1 arg2 arg3 arg4 arg5 arg6 arg7 arg8 arg9 arg10 acts z tab W ∗ owns (c : Thread nD τ) arg11 fullShare (spoken W z (start acts tab))
            ∗ owns (c : Thread nD τ) arg12 fullShare d1 ∗ owns (c : Thread nD τ) arg13 fullShare d2
            ∗ carried c arg14 arg15 arg16 arg17 arg18 (step W (BitVec.ofNat 32 (i 0).val) z (start acts tab))) -∗ K PUnit.unit))
      ⊢ wp frame (wpE (defs₀ (F := F)) Variants.none c none) E (cc0__speaker_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__speaker_body_eq_skeleton]; unfold cc0__speaker_body_skel
  simp only [k0_part1_eq_skeleton, k0_part2_eq_skeleton, k0_part3_eq_skeleton, k0_part4_eq_skeleton, k0_part5_eq_skeleton, k0_part6_eq_skeleton]
  unfold inputs carried owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, ⟨%f12, %hf12, H12⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1 | exact fun _ => act_inb _ _ ha _ _ | exact start_inb _ _ (by decide) _ _ _)
  have hhid : body_first.sl.v36 (arg14 := arg14) c i harg1 harg3 acts tab hc0 ha = (start acts tab).hid := by
    apply load_rows <;> exact load_act _ _ _ _ _ (by decide) ha _ _ _ _
  have hcell : body_first.sl.r_8 (arg14 := arg14) (arg15 := arg15) c i harg1 harg3 harg4 harg5 harg6 harg7 harg8 acts tab W hc0 ha = cell W (start acts tab) := by
    refine cell_of ?_ ?_ ?_ ?_ ?_ ?_ ?_ ?_ hhid (load_full _ _ _) (load_full _ _ _) (load_full _ _ _) (load_full _ _ _) <;>
      exact load_emb _ _ _ _ (load_word_cov _ _ _ (by decide) _ _ _) (start_lt _ _ _) _
  have hdrawn : body_first.sl.r_9 (arg14 := arg14) (arg15 := arg15) c i harg1 harg2 harg3 harg4 harg5 harg6 harg7 harg8 harg9 harg10 acts z tab W hc0 ha
      = drawn W z (start acts tab) := drawn_of hcell (load_full _ _ _) (load_full _ _ _) (load_full _ _ _)
  sl_step
  iapply Hk
  isplitl [H0 H1 H2 H3 H4 H5 H6 H7 H8 H9]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    · iexists _; isplitr; · ipureintro; exact harg10.read_unread _
      iexact H9
  isplitl [H10]
  · iexists _; isplitr; swap; · iexact H10
    ipureintro
    exact (View.read_writes_full _ _ _ _ _).trans (spoken_of hcell (load_full _ _ _) (load_full _ _ _) (load_full _ _ _) (View.readCov_full _ _ _ _ _))
  isplitl [H11]
  · iexists _; isplitr; · ipureintro; exact hf11
    iexact H11
  isplitl [H12]
  · iexists _; isplitr; · ipureintro; exact hf12
    iexact H12
  isplitl [HS0]
  · iexists _; isplitr; swap; · iexact HS0
    ipureintro
    exact (View.read_writes_full _ _ _ _ _).trans (hid_of hhid hcell (View.readCov_full _ _ _ _ _))
  isplitl [HS1]
  · iexists _; isplitr; swap; · iexact HS1
    ipureintro
    exact (View.read_writes_full _ _ _ _ _).trans (tok_of hdrawn (View.readCov_full _ _ _ _ _) (View.readCov_full _ _ _ _ _))
  isplitl [HS2]
  · iexists _; isplitr; swap; · iexact HS2
    ipureintro
    exact (View.read_writes_full _ _ _ _ _).trans (alive_of hdrawn (View.readCov_full _ _ _ _ _))
  isplitl [HS3]
  · iexists _; isplitr; swap; · iexact HS3
    ipureintro
    exact (View.read_writes_full _ _ _ _ _).trans (count_of hdrawn (View.readCov_full _ _ _ _ _) (View.readCov_full _ _ _ _ _))
  · iexists _; isplitr; swap; · iexact HS4
    ipureintro
    exact (View.read_writes_full _ _ _ _ _).trans (logp_of hcell (load_full _ _ _) (load_full _ _ _) (load_full _ _ _) (View.readCov_full _ _ _ _ _) (View.readCov_full _ _ _ _ _))

end Cert.KernelIdeal.Hand

end
-- ==== Proof.BodyMid.lean ====
/- The kernel's body at a grid point that is neither the first nor the last: one step. -/
module

public import proofs.«01_k».proof.Proof.Loads

@[expose] public section

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) {arg1 : Memref sig .tc .smem S8 .i32} (harg1 : arg1.IsWhole)
  {arg2 : Memref sig .tc .vmem S1x8x4096 .f32} (harg2 : arg2.IsWhole)
  {arg3 : Memref sig .tc .vmem S1024x512 .f32} (harg3 : arg3.IsWhole)
  {arg4 : Memref sig .tc .vmem S4096x512 .f32} (harg4 : arg4.IsWhole)
  {arg5 : Memref sig .tc .vmem S512x1536 .f32} (harg5 : arg5.IsWhole)
  {arg6 : Memref sig .tc .vmem S512x1536 .f32} (harg6 : arg6.IsWhole)
  {arg7 : Memref sig .tc .vmem S1x1536 .f32} (harg7 : arg7.IsWhole)
  {arg8 : Memref sig .tc .vmem S1x1536 .f32} (harg8 : arg8.IsWhole)
  {arg9 : Memref sig .tc .vmem S512x4096 .f32} (harg9 : arg9.IsWhole)
  {arg10 : Memref sig .tc .vmem S1x4096 .f32} (harg10 : arg10.IsWhole)
  {arg11 : Memref sig .tc .vmem S1x8x1 .i32} (harg11 : arg11.IsWhole)
  {arg12 : Memref sig .tc .vmem S8x1 .i32} (harg12 : arg12.IsWhole)
  {arg13 : Memref sig .tc .vmem S8x1 .f32} (harg13 : arg13.IsWhole)
  {arg14 : Memref sig .tc .vmem S8x512 .f32} (harg14 : arg14.IsWhole)
  {arg15 : Memref sig .tc .vmem S8x1 .i32} (harg15 : arg15.IsWhole)
  {arg16 : Memref sig .tc .vmem S8x1 .i32} (harg16 : arg16.IsWhole)
  {arg17 : Memref sig .tc .vmem S8x1 .i32} (harg17 : arg17.IsWhole)
  {arg18 : Memref sig .tc .vmem S8x1 .f32} (harg18 : arg18.IsWhole)
  (acts : Vec F S8 .i32) (z : Vec F S1x8x4096 .f32) (tab : Vec F S1024x512 .f32) (W : Weights F) (s : Carry F)

set_option maxHeartbeats 1600000 in
/-- The body takes what is carried one step on, writes the tokens spoken and leaves the two last results' buffers alone. -/
theorem body_mid (hc0 : ¬k0_cond1 i = 1#1) (hc1 : ¬k0_cond2 i = 1#1) (hs : ∀ j, (s.tok j : BitVec 32).toNat < 4096)
    (d1 : Vec F S8x1 .i32) (d2 : Vec F S8x1 .f32) (E : Set ℕ) (K : PUnit → sProp 𝕄) :
    iprop(inputs c arg1 arg2 arg3 arg4 arg5 arg6 arg7 arg8 arg9 arg10 acts z tab W ∗ (∃ d, owns (c : Thread nD τ) arg11 fullShare d)
        ∗ owns (c : Thread nD τ) arg12 fullShare d1 ∗ owns (c : Thread nD τ) arg13 fullShare d2 ∗ carried c arg14 arg15 arg16 arg17 arg18 s
        ∗ (iprop(inputs c arg1 arg2 arg3 arg4 arg5 arg6 arg7 arg8 arg9 arg10 acts z tab W ∗ owns (c : Thread nD τ) arg11 fullShare (spoken W z s)
            ∗ owns (c : Thread nD τ) arg12 fullShare d1 ∗ owns (c : Thread nD τ) arg13 fullShare d2
            ∗ carried c arg14 arg15 arg16 arg17 arg18 (step W (BitVec.ofNat 32 (i 0).val) z s)) -∗ K PUnit.unit))
      ⊢ wp frame (wpE (defs₀ (F := F)) Variants.none c none) E (cc0__speaker_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__speaker_body_eq_skeleton]; unfold cc0__speaker_body_skel
  simp only [k0_part3_eq_skeleton, k0_part4_eq_skeleton, k0_part5_eq_skeleton, k0_part6_eq_skeleton]
  unfold inputs carried owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, ⟨%f12, %hf12, H12⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc0 | sl_exact hc1 | exact word_inb _ _ hs _ _ _)
  sl_step
  iapply Hk
  isplitl [H0 H1 H2 H3 H4 H5 H6 H7 H8 H9]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    · iexists _; isplitr; · ipureintro; exact harg10.read_unread _
      iexact H9
  isplitl [H10]
  · iexists _; isplitr; swap; · iexact H10
    ipureintro
    refine (View.read_writes_full _ _ _ _ _).trans ?_
    apply spoken_of
    all_goals repeat' first | exact load_full _ _ _ | exact load_emb _ _ _ _ (load_word _ _ _ (by decide) _ _) (hs _) _ | apply drawn_of | apply cell_of
  isplitl [H11]
  · iexists _; isplitr; · ipureintro; exact hf11
    iexact H11
  isplitl [H12]
  · iexists _; isplitr; · ipureintro; exact hf12
    iexact H12
  isplitl [HS0]
  · iexists _; isplitr; swap; · iexact HS0
    ipureintro
    refine (View.read_writes_full _ _ _ _ _).trans ?_
    apply hid_of
    all_goals repeat' first | exact load_full _ _ _ | exact load_emb _ _ _ _ (load_word _ _ _ (by decide) _ _) (hs _) _ | apply drawn_of | apply cell_of
  isplitl [HS1]
  · iexists _; isplitr; swap; · iexact HS1
    ipureintro
    refine (View.read_writes_full _ _ _ _ _).trans ?_
    apply tok_of
    all_goals repeat' first | exact load_full _ _ _ | exact load_emb _ _ _ _ (load_word _ _ _ (by decide) _ _) (hs _) _ | apply drawn_of | apply cell_of
  isplitl [HS2]
  · iexists _; isplitr; swap; · iexact HS2
    ipureintro
    refine (View.read_writes_full _ _ _ _ _).trans ?_
    apply alive_of
    all_goals repeat' first | exact load_full _ _ _ | exact load_emb _ _ _ _ (load_word _ _ _ (by decide) _ _) (hs _) _ | apply drawn_of | apply cell_of
  isplitl [HS3]
  · iexists _; isplitr; swap; · iexact HS3
    ipureintro
    refine (View.read_writes_full _ _ _ _ _).trans ?_
    apply count_of
    all_goals repeat' first | exact load_full _ _ _ | exact load_emb _ _ _ _ (load_word _ _ _ (by decide) _ _) (hs _) _ | apply drawn_of | apply cell_of
  · iexists _; isplitr; swap; · iexact HS4
    ipureintro
    refine (View.read_writes_full _ _ _ _ _).trans ?_
    apply logp_of
    all_goals repeat' first | exact load_full _ _ _ | exact load_emb _ _ _ _ (load_word _ _ _ (by decide) _ _) (hs _) _ | apply drawn_of | apply cell_of

end Cert.KernelIdeal.Hand

end
-- ==== Proof.BodyLast.lean ====
/- The kernel's body at the last grid point: one step, and the two last results written. -/
module

public import proofs.«01_k».proof.Proof.Loads

@[expose] public section

set_option maxRecDepth 16384

noncomputable section

namespace Cert.KernelIdeal.Hand

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) {arg1 : Memref sig .tc .smem S8 .i32} (harg1 : arg1.IsWhole)
  {arg2 : Memref sig .tc .vmem S1x8x4096 .f32} (harg2 : arg2.IsWhole)
  {arg3 : Memref sig .tc .vmem S1024x512 .f32} (harg3 : arg3.IsWhole)
  {arg4 : Memref sig .tc .vmem S4096x512 .f32} (harg4 : arg4.IsWhole)
  {arg5 : Memref sig .tc .vmem S512x1536 .f32} (harg5 : arg5.IsWhole)
  {arg6 : Memref sig .tc .vmem S512x1536 .f32} (harg6 : arg6.IsWhole)
  {arg7 : Memref sig .tc .vmem S1x1536 .f32} (harg7 : arg7.IsWhole)
  {arg8 : Memref sig .tc .vmem S1x1536 .f32} (harg8 : arg8.IsWhole)
  {arg9 : Memref sig .tc .vmem S512x4096 .f32} (harg9 : arg9.IsWhole)
  {arg10 : Memref sig .tc .vmem S1x4096 .f32} (harg10 : arg10.IsWhole)
  {arg11 : Memref sig .tc .vmem S1x8x1 .i32} (harg11 : arg11.IsWhole)
  {arg12 : Memref sig .tc .vmem S8x1 .i32} (harg12 : arg12.IsWhole)
  {arg13 : Memref sig .tc .vmem S8x1 .f32} (harg13 : arg13.IsWhole)
  {arg14 : Memref sig .tc .vmem S8x512 .f32} (harg14 : arg14.IsWhole)
  {arg15 : Memref sig .tc .vmem S8x1 .i32} (harg15 : arg15.IsWhole)
  {arg16 : Memref sig .tc .vmem S8x1 .i32} (harg16 : arg16.IsWhole)
  {arg17 : Memref sig .tc .vmem S8x1 .i32} (harg17 : arg17.IsWhole)
  {arg18 : Memref sig .tc .vmem S8x1 .f32} (harg18 : arg18.IsWhole)
  (acts : Vec F S8 .i32) (z : Vec F S1x8x4096 .f32) (tab : Vec F S1024x512 .f32) (W : Weights F) (s : Carry F)

set_option maxHeartbeats 1600000 in
/-- The body takes what is carried one step on, writes the tokens spoken, and writes the count and the log probability to the two last results' buffers. -/
theorem body_last (hc0 : ¬k0_cond1 i = 1#1) (hc1 : k0_cond2 i = 1#1) (hs : ∀ j, (s.tok j : BitVec 32).toNat < 4096)
    (E : Set ℕ) (K : PUnit → sProp 𝕄) :
    iprop(inputs c arg1 arg2 arg3 arg4 arg5 arg6 arg7 arg8 arg9 arg10 acts z tab W ∗ (∃ d, owns (c : Thread nD τ) arg11 fullShare d)
        ∗ (∃ d, owns (c : Thread nD τ) arg12 fullShare d) ∗ (∃ d, owns (c : Thread nD τ) arg13 fullShare d) ∗ carried c arg14 arg15 arg16 arg17 arg18 s
        ∗ (iprop(inputs c arg1 arg2 arg3 arg4 arg5 arg6 arg7 arg8 arg9 arg10 acts z tab W ∗ owns (c : Thread nD τ) arg11 fullShare (spoken W z s)
            ∗ owns (c : Thread nD τ) arg12 fullShare (step W (BitVec.ofNat 32 (i 0).val) z s).count ∗ owns (c : Thread nD τ) arg13 fullShare (step W (BitVec.ofNat 32 (i 0).val) z s).logp
            ∗ carried c arg14 arg15 arg16 arg17 arg18 (step W (BitVec.ofNat 32 (i 0).val) z s)) -∗ K PUnit.unit))
      ⊢ wp frame (wpE (defs₀ (F := F)) Variants.none c none) E (cc0__speaker_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__speaker_body_eq_skeleton]; unfold cc0__speaker_body_skel
  simp only [k0_part3_eq_skeleton, k0_part4_eq_skeleton, k0_part5_eq_skeleton, k0_part6_eq_skeleton]
  unfold inputs carried owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, ⟨⟨%fs0, %hfs0, HS0⟩, ⟨%fs1, %hfs1, HS1⟩, ⟨%fs2, %hfs2, HS2⟩, ⟨%fs3, %hfs3, HS3⟩, ⟨%fs4, %hfs4, HS4⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg14.eq_unread hfs0; obtain rfl := harg15.eq_unread hfs1; obtain rfl := harg16.eq_unread hfs2; obtain rfl := harg17.eq_unread hfs3; obtain rfl := harg18.eq_unread hfs4
  sl_exec (disch := first | sl_exact hc0 | sl_exact hc1 | exact word_inb _ _ hs _ _ _)
  sl_step
  iapply Hk
  isplitl [H0 H1 H2 H3 H4 H5 H6 H7 H8 H9]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    · iexists _; isplitr; · ipureintro; exact harg10.read_unread _
      iexact H9
  isplitl [H10]
  · iexists _; isplitr; swap; · iexact H10
    ipureintro
    refine (View.read_writes_full _ _ _ _ _).trans ?_
    apply spoken_of
    all_goals repeat' first | exact load_full _ _ _ | exact load_emb _ _ _ _ (load_word _ _ _ (by decide) _ _) (hs _) _ | apply drawn_of | apply cell_of
  isplitl [H11]
  · iexists _; isplitr; swap; · iexact H11
    ipureintro
    refine (View.read_writes_full _ _ _ _ _).trans ?_
    refine (View.readCov_full _ _ _ _ _).trans ?_
    apply count_of
    all_goals repeat' first | exact load_full _ _ _ | exact load_emb _ _ _ _ (load_word _ _ _ (by decide) _ _) (hs _) _ | apply drawn_of | apply cell_of
  isplitl [H12]
  · iexists _; isplitr; swap; · iexact H12
    ipureintro
    refine (View.read_writes_full _ _ _ _ _).trans ?_
    refine (View.readCov_full _ _ _ _ _).trans ?_
    apply logp_of
    all_goals repeat' first | exact load_full _ _ _ | exact load_emb _ _ _ _ (load_word _ _ _ (by decide) _ _) (hs _) _ | apply drawn_of | apply cell_of
  isplitl [HS0]
  · iexists _; isplitr; swap; · iexact HS0
    ipureintro
    refine (View.read_writes_full _ _ _ _ _).trans ?_
    apply hid_of
    all_goals repeat' first | exact load_full _ _ _ | exact load_emb _ _ _ _ (load_word _ _ _ (by decide) _ _) (hs _) _ | apply drawn_of | apply cell_of
  isplitl [HS1]
  · iexists _; isplitr; swap; · iexact HS1
    ipureintro
    refine (View.read_writes_full _ _ _ _ _).trans ?_
    apply tok_of
    all_goals repeat' first | exact load_full _ _ _ | exact load_emb _ _ _ _ (load_word _ _ _ (by decide) _ _) (hs _) _ | apply drawn_of | apply cell_of
  isplitl [HS2]
  · iexists _; isplitr; swap; · iexact HS2
    ipureintro
    refine (View.read_writes_full _ _ _ _ _).trans ?_
    apply alive_of
    all_goals repeat' first | exact load_full _ _ _ | exact load_emb _ _ _ _ (load_word _ _ _ (by decide) _ _) (hs _) _ | apply drawn_of | apply cell_of
  isplitl [HS3]
  · iexists _; isplitr; swap; · iexact HS3
    ipureintro
    refine (View.read_writes_full _ _ _ _ _).trans ?_
    apply count_of
    all_goals repeat' first | exact load_full _ _ _ | exact load_emb _ _ _ _ (load_word _ _ _ (by decide) _ _) (hs _) _ | apply drawn_of | apply cell_of
  · iexists _; isplitr; swap; · iexact HS4
    ipureintro
    refine (View.read_writes_full _ _ _ _ _).trans ?_
    apply logp_of
    all_goals repeat' first | exact load_full _ _ _ | exact load_emb _ _ _ _ (load_word _ _ _ (by decide) _ _) (hs _) _ | apply drawn_of | apply cell_of

end Cert.KernelIdeal.Hand

end
-- ==== Proof.Top.lean ====
/-
The place of the greatest of 4096 values, the first one where several are greatest. Stated as a property of the place, so
that two programs that search for it in different ways can be compared.
-/
module

public import Idealize.ShloMosaic.Lib.SortNet.Extract
public import Idealize.ShloMosaic.PureOps.Ideal.Laws

@[expose] public section

namespace Cert.Hand

open Idealize.ShloMosaic

/-- `k` is the first place where `y` is greatest. -/
def IsTop (y : Fin 4096 → EReal) (k : Fin 4096) : Prop := (∀ i, y i ≤ y k) ∧ ∀ i, i < k → y i < y k

/-- There is at most one such place. -/
theorem IsTop.unique {y : Fin 4096 → EReal} {k l : Fin 4096} (hk : IsTop y k) (hl : IsTop y l) : k = l := by
  rcases lt_trichotomy k l with h | h | h
  · exact absurd (hl.2 k h) (not_lt.mpr (hk.1 l))
  · exact h
  · exact absurd (hk.2 l h) (not_lt.mpr (hl.1 k))

/-- A fold of the signed minimum is at most its start and every word, and it is one of them. -/
theorem fold_minsi_bounds {ι : Type} [DecidableEq ι] (g : ι → BitVec 32) (s : Finset ι) (z : BitVec 32) :
    (s.fold IntOp.minsi z g).toInt ≤ z.toInt ∧ (∀ i ∈ s, (s.fold IntOp.minsi z g).toInt ≤ (g i).toInt)
      ∧ (s.fold IntOp.minsi z g = z ∨ ∃ i ∈ s, s.fold IntOp.minsi z g = g i) := by
  induction s using Finset.induction_on with
  | empty => simp
  | insert a s ha ih =>
    obtain ⟨h1, h2, h3⟩ := ih
    rw [Finset.fold_insert ha]
    refine ⟨?_, ?_, ?_⟩
    · rw [SortNet.toInt_minsi]; exact (min_le_right _ _).trans h1
    · intro i hi
      rw [SortNet.toInt_minsi]
      rcases Finset.mem_insert.mp hi with rfl | hi
      · exact min_le_left _ _
      · exact (min_le_right _ _).trans (h2 i hi)
    · show (if (g a).slt _ then g a else _) = z ∨ ∃ i ∈ _, (if (g a).slt _ then g a else _) = g i
      split
      · exact Or.inr ⟨a, Finset.mem_insert_self _ _, rfl⟩
      · rcases h3 with h3 | ⟨i, hi, h3⟩
        · exact Or.inl h3
        · exact Or.inr ⟨i, Finset.mem_insert_of_mem hi, h3⟩

/-- A fold of the maximum from the least value is bounded by what bounds every value, and by nothing less. -/
theorem fold_max_le_iff {ι : Type} [DecidableEq ι] (y : ι → EReal) (s : Finset ι) (c : EReal) :
    s.fold max ⊥ y ≤ c ↔ ∀ i ∈ s, y i ≤ c := by
  induction s using Finset.induction_on with
  | empty => simp
  | insert a s ha ih => rw [Finset.fold_insert ha, max_le_iff, ih, Finset.forall_mem_insert]

/-- A fold of the maximum from the least value is at least every value and is one of them. -/
theorem fold_max_attained (y : Fin 4096 → EReal) : ∃ i, (Finset.univ.fold max ⊥ y = y i) ∧ ∀ j, y j ≤ y i := by
  obtain ⟨i, -, hi⟩ := Finset.exists_max_image (Finset.univ : Finset (Fin 4096)) y ⟨0, Finset.mem_univ _⟩
  refine ⟨i, le_antisymm ?_ ?_, fun j => hi j (Finset.mem_univ j)⟩
  · exact (fold_max_le_iff y _ _).mpr hi
  · exact (fold_max_le_iff y _ _).mp le_rfl i (Finset.mem_univ i)

theorem toInt_place (k : Fin 4096) : (BitVec.ofNat 32 k.val).toInt = k.val := by
  have := k.isLt
  rw [BitVec.toInt_eq_toNat_cond, BitVec.toNat_ofNat, Nat.mod_eq_of_lt (by omega), if_pos (by omega)]

/-- The least place at which a value equals the maximum, 4096 standing for the other places. -/
theorem least_place_isTop (y : Fin 4096 → EReal) :
    ∃ k, (Finset.univ.fold IntOp.minsi 2147483647#32 (fun k : Fin 4096 =>
        if y k = Finset.univ.fold max ⊥ y then BitVec.ofNat 32 k.val else 4096#32)) = BitVec.ofNat 32 k.val ∧ IsTop y k := by
  obtain ⟨i, hM, hi⟩ := fold_max_attained y
  rw [hM]
  obtain ⟨-, h2, h3⟩ := fold_minsi_bounds (fun k : Fin 4096 => if y k = y i then BitVec.ofNat 32 k.val else 4096#32) Finset.univ 2147483647#32
  generalize Finset.univ.fold IntOp.minsi 2147483647#32 (fun k : Fin 4096 => if y k = y i then BitVec.ofNat 32 k.val else 4096#32) = x at h2 h3
  have hx : x.toInt < 4096 := by
    have := h2 i (Finset.mem_univ i)
    rw [if_pos rfl, toInt_place] at this
    have := i.isLt
    omega
  rcases h3 with rfl | ⟨k, -, hk⟩
  · exact absurd hx (by decide)
  · by_cases he : y k = y i
    · rw [if_pos he] at hk
      refine ⟨k, hk, fun j => (hi j).trans he.ge, fun j hj => lt_of_le_of_ne ((hi j).trans he.ge) fun e => ?_⟩
      have := h2 j (Finset.mem_univ j)
      rw [if_pos (e.trans he), toInt_place, hk, toInt_place] at this
      have : j.val < k.val := hj
      omega
    · rw [if_neg he] at hk
      rw [hk] at hx
      exact absurd hx (by decide)

end Cert.Hand

end
-- ==== Proof.Draw.lean ====
/-
The token a row draws, at the extended reals: the first place where the logits plus the noise are greatest. In particular
it is below 4096, so the next step finds its row in the table.
-/
module

public import proofs.«01_k».proof.Proof.Step
public import proofs.«01_k».proof.Proof.Top
public import Idealize.ShloMosaic.Lib.Pointwise
public import Idealize.ShloMosaic.PureOps.Ideal.Laws

@[expose] public section

noncomputable section

namespace Cert.KernelIdeal.Hand

open Idealize.ShloMosaic Idealize.SL.Sem Cert.Hand
open Cert.KernelIdeal.Gen

/-- The word the search for a maximum starts from is the least value. -/
theorem ofBits_least : Ideal.ofBits FTy.f32 4286578688#32 = ⊥ := by simp [Ideal.ofBits, Ideal.ieee]

/-- The first place where logits plus noise are greatest is what the kernel draws. -/
theorem drawn_isTop (W : Weights Ideal) (z : Vec Ideal S1x8x4096 .f32) (s : Carry Ideal) (b : Fin 8) :
    ∃ k, drawn W z s (ix2 b 0) = BitVec.ofNat 32 k.val
      ∧ IsTop (fun k => k0_pay15 (cell W s) W.wout W.bout (ix2 b k) + z (ix3 0 b k)) k := by
  obtain ⟨k, hk, ht⟩ := least_place_isTop (fun k => k0_pay15 (cell W s) W.wout W.bout (ix2 b k) + z (ix3 0 b k))
  refine ⟨k, Eq.trans ?_ hk, ht⟩
  unfold drawn k0_pay16
  pointwise
  rw [ofBits_least]

/-- A drawn token names a row of the table. -/
theorem drawn_lt (W : Weights Ideal) (z : Vec Ideal S1x8x4096 .f32) (s : Carry Ideal) (j : S8x1.Idx) :
    (drawn W z s j : BitVec 32).toNat < 4096 := by
  obtain ⟨b, rfl⟩ : ∃ b, j = ix2 b 0 := ⟨j 0, funext fun d => match d with
    | ⟨0, _⟩ => rfl
    | ⟨1, _⟩ => Subsingleton.elim (α := Fin 1) _ _⟩
  obtain ⟨k, hk, -⟩ := drawn_isTop W z s b
  rw [hk, BitVec.toNat_ofNat, Nat.mod_eq_of_lt (by have := k.isLt; omega)]
  exact k.isLt

/-- A step keeps the tokens inside the table. -/
theorem step_tok_lt (W : Weights Ideal) (n : BitVec 32) (z : Vec Ideal S1x8x4096 .f32) (s : Carry Ideal)
    (hs : ∀ j, (s.tok j : BitVec 32).toNat < 4096) (j : S8x1.Idx) : ((step W n z s).tok j : BitVec 32).toNat < 4096 := by
  have e : (step W n z s).tok j = Scalar.select (k0_pay18 (F := Ideal) s.alive j) (drawn W z s j) (s.tok j) := by
    exact congrFun (shapeCast_self (s := S8x1) (select (k0_pay18 (F := Ideal) s.alive) (drawn W z s) s.tok) _) j
  rw [e]
  unfold Scalar.select
  split
  · exact drawn_lt W z s j
  · exact hs j

end Cert.KernelIdeal.Hand

end
-- ==== Proof.Chain.lean ====
/-
What the kernel's buffers hold point by point: the state carried before point `n` is the start state taken `n` steps on,
and the body, run at a point, keeps this so.
-/
module

public import proofs.«01_k».proof.Proof.Gen.KernelIdeal.Frame
public import proofs.«01_k».proof.Proof.BodyFirst
public import proofs.«01_k».proof.Proof.BodyMid
public import proofs.«01_k».proof.Proof.BodyLast
public import proofs.«01_k».proof.Proof.Draw

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ)

/-! ## The points -/

/-- The body's first branch is taken at the first point. -/
theorem first_iff : ∀ t : Fin cfg0.N, k0_cond1 (grid0.coords t) = 1#1 ↔ t.val = 0 :=
  (fun t => by
    have ht : t.val < 512 := Nat.lt_of_lt_of_eq t.isLt N_0
    have e0 : (grid0.coords t 0).val = t.val / 1 % 512 := Pipeline.Grid.coords_val t 0 (by decide) rfl
    have e : k0_cond1 (grid0.coords t) = 1#1 ↔ t.val % 512 = 0 := by
      simp only [k0_cond1, e0]
      word_cmp
    exact e.trans (by rw [Nat.mod_eq_of_lt ht]) : ∀ t : Fin grid0.N, k0_cond1 (grid0.coords t) = 1#1 ↔ t.val = 0)

/-- Its last branch at the last point. -/
theorem last_iff : ∀ t : Fin cfg0.N, k0_cond2 (grid0.coords t) = 1#1 ↔ t.val = 511 :=
  (fun t => by
    have ht : t.val < 512 := Nat.lt_of_lt_of_eq t.isLt N_0
    have e0 : (grid0.coords t 0).val = t.val / 1 % 512 := Pipeline.Grid.coords_val t 0 (by decide) rfl
    have e : k0_cond2 (grid0.coords t) = 1#1 ↔ t.val % 512 = 511 := by
      simp only [k0_cond2, e0]
      word_cmp
    exact e.trans (by rw [Nat.mod_eq_of_lt ht]) : ∀ t : Fin grid0.N, k0_cond2 (grid0.coords t) = 1#1 ↔ t.val = 511)

/-- A point's coordinate is its number. -/
theorem coord_eq : ∀ t : Fin cfg0.N, (grid0.coords t 0).val = t.val :=
  (fun t => by
    have ht : t.val < 512 := Nat.lt_of_lt_of_eq t.isLt N_0
    have e0 : (grid0.coords t 0).val = t.val / 1 % 512 := Pipeline.Grid.coords_val t 0 (by decide) rfl
    omega : ∀ t : Fin grid0.N, (grid0.coords t 0).val = t.val)

/-- The two last results' buffers are left alone at every point but the last. -/
theorem idle_of (t : Fin cfg0.N) (h : ¬k0_cond2 (grid0.coords t) = 1#1) :
    cfg0.idle 11 (grid0.coords t) = true ∧ cfg0.idle 12 (grid0.coords t) = true := by
  have e : (!(k0_cond2 (grid0.coords t) == 1#1)) = true := by simp [h]
  exact ⟨e, e⟩
theorem not_idle_of (t : Fin cfg0.N) (h : k0_cond2 (grid0.coords t) = 1#1) :
    cfg0.idle 11 (grid0.coords t) = false ∧ cfg0.idle 12 (grid0.coords t) = false := by
  have e : (!(k0_cond2 (grid0.coords t) == 1#1)) = false := by simp [h]
  exact ⟨e, e⟩

/-! ## What is held at each point -/

/-- The tables and matrices as the body finds them at point `t`. -/
def weightsAt (c : Dev nD) (t : Fin cfg0.N) : Weights Ideal where
  emb := iblk m c 3 t
  wih := iblk m c 4 t
  whh := iblk m c 5 t
  bih := iblk m c 6 t
  bhh := iblk m c 7 t
  wout := iblk m c 8 t
  bout := iblk m c 9 t

/-- The first point. -/
abbrev pt0 : Fin cfg0.N := ⟨0, by rw [show cfg0.N = 512 from N_0]; decide⟩

/-- The state before point `n`. -/
def chain (c : Dev nD) : ℕ → Carry Ideal
  | 0 => start (iblk m c 0 pt0) (iblk m c 2 pt0)
  | n + 1 => if h : n < cfg0.N then step (weightsAt m c ⟨n, h⟩) (BitVec.ofNat 32 n) (iblk m c 1 ⟨n, h⟩) (chain c n) else chain c n

theorem chain_succ (c : Dev nD) (t : Fin cfg0.N) :
    chain m c (t.val + 1) = step (weightsAt m c t) (BitVec.ofNat 32 (grid0.coords t 0).val) (iblk m c 1 t) (chain m c t.val) := by
  rw [coord_eq]
  exact dif_pos t.isLt

/-- The tokens stay inside the table. -/
theorem chain_tok (c : Dev nD) : ∀ (n : ℕ) (j : S8x1.Idx), ((chain m c n).tok j : BitVec 32).toNat < 4096
  | 0, j => start_lt _ _ j
  | n + 1, j => by
    rw [chain]
    split
    · exact step_tok_lt _ _ _ _ (chain_tok c n) j
    · exact chain_tok c n j

/-! ## The buffers -/

/-- The buffer carried, number 0. -/
abbrev kept0 : Memref sig .tc .vmem S8x512 .f32 := Memref.whole cc0_scratch0
/-- The buffer carried, number 1. -/
abbrev kept1 : Memref sig .tc .vmem S8x1 .i32 := Memref.whole cc0_scratch1
/-- The buffer carried, number 2. -/
abbrev kept2 : Memref sig .tc .vmem S8x1 .i32 := Memref.whole cc0_scratch2
/-- The buffer carried, number 3. -/
abbrev kept3 : Memref sig .tc .vmem S8x1 .i32 := Memref.whole cc0_scratch3
/-- The buffer carried, number 4. -/
abbrev kept4 : Memref sig .tc .vmem S8x1 .f32 := Memref.whole cc0_scratch4

/-- What is held before point `n`: before the first one the five buffers hold anything. -/
def held (c : Dev nD) : ℕ → sProp 𝕄
  | 0 => Pipeline.ΦA spec0 c
  | n + 1 => iprop(carried c kept0 kept1 kept2 kept3 kept4 (chain m c (n + 1)) ∗ (∃ r, prngReg c r))

theorem held_pos (c : Dev nD) (n : ℕ) (h : n ≠ 0) :
    held m c n = iprop(carried c kept0 kept1 kept2 kept3 kept4 (chain m c n) ∗ (∃ r, prngReg c r)) := by
  cases n with
  | zero => exact absurd rfl h
  | succ n => rfl

theorem anything_eq (c : Dev nD) :
    (Pipeline.ΦA spec0 c : sProp 𝕄)
      = iprop(iprop((∃ d, owns (c : Thread nD τ) kept0 fullShare d) ∗ (∃ d, owns (c : Thread nD τ) kept1 fullShare d)
          ∗ (∃ d, owns (c : Thread nD τ) kept2 fullShare d) ∗ (∃ d, owns (c : Thread nD τ) kept3 fullShare d)
          ∗ (∃ d, owns (c : Thread nD τ) kept4 fullShare d)) ∗ (∃ r, prngReg c r)) := by
  unfold Pipeline.ΦA; rw [scopedRest0_eq]; simp only [kept0, kept1, kept2, kept3, kept4, owns_whole]; try rfl

/-- The proof data: the arrays as the region finds them; an input's buffer holds its block, the results' buffers what the
    step leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => spoken (weightsAt m c t) (iblk m c 1 t) (chain m c t.val)
    | ⟨11, _⟩ => (chain m c (t.val + 1)).count
    | ⟨12, _⟩ => (chain m c (t.val + 1)).logp
  Φ t := held m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) :
    (dats m 0 c).after 10 t = spoken (weightsAt m c t) (iblk m c 1 t) (chain m c t.val) := by dsimp only [dats]
theorem after_11 (c : Dev nD) (t : Fin cfg0.N) : (dats m 0 c).after 11 t = (chain m c (t.val + 1)).count := by dsimp only [dats]
theorem after_12 (c : Dev nD) (t : Fin cfg0.N) : (dats m 0 c).after 12 t = (chain m c (t.val + 1)).logp := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-! ## The body at a point -/

/-- The ten inputs' buffers at a point. -/
abbrev inputsAt (c : Dev nD) (t : Fin cfg0.N) : sProp 𝕄 :=
  inputs c (st0_0 t) (st0_1 t) (st0_2 t) (st0_3 t) (st0_4 t) (st0_5 t) (st0_6 t) (st0_7 t) (st0_8 t) (st0_9 t)
    (iblk m c 0 t) (iblk m c 1 t) (iblk m c 2 t) (weightsAt m c t)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A window that is not left alone hands its buffer back at what the body leaves. -/
theorem leaves_of (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_0 (c : Dev nD) (t : Fin cfg0.N) :
    (dats m 0 c).leavesExact 0 t = owns (c : Thread nD τ) (st0_0 t) fullShare (iblk m c 0 t) :=
  (leaves_of m c 0 t rfl).trans (congrArg (owns (c : Thread nD τ) (st0_0 t) fullShare) (after_0 m c t))
theorem leaves_1 (c : Dev nD) (t : Fin cfg0.N) :
    (dats m 0 c).leavesExact 1 t = owns (c : Thread nD τ) (st0_1 t) fullShare (iblk m c 1 t) :=
  (leaves_of m c 1 t rfl).trans (congrArg (owns (c : Thread nD τ) (st0_1 t) fullShare) (after_1 m c t))
theorem leaves_2 (c : Dev nD) (t : Fin cfg0.N) :
    (dats m 0 c).leavesExact 2 t = owns (c : Thread nD τ) (st0_2 t) fullShare (iblk m c 2 t) :=
  (leaves_of m c 2 t rfl).trans (congrArg (owns (c : Thread nD τ) (st0_2 t) fullShare) (after_2 m c t))
theorem leaves_3 (c : Dev nD) (t : Fin cfg0.N) :
    (dats m 0 c).leavesExact 3 t = owns (c : Thread nD τ) (st0_3 t) fullShare (weightsAt m c t).emb := by
  rw [leaves_of m c 3 t rfl, after_3, show (weightsAt m c t).emb = iblk m c 3 t from by dsimp only [weightsAt]]
theorem leaves_4 (c : Dev nD) (t : Fin cfg0.N) :
    (dats m 0 c).leavesExact 4 t = owns (c : Thread nD τ) (st0_4 t) fullShare (weightsAt m c t).wih := by
  rw [leaves_of m c 4 t rfl, after_4, show (weightsAt m c t).wih = iblk m c 4 t from by dsimp only [weightsAt]]
theorem leaves_5 (c : Dev nD) (t : Fin cfg0.N) :
    (dats m 0 c).leavesExact 5 t = owns (c : Thread nD τ) (st0_5 t) fullShare (weightsAt m c t).whh := by
  rw [leaves_of m c 5 t rfl, after_5, show (weightsAt m c t).whh = iblk m c 5 t from by dsimp only [weightsAt]]
theorem leaves_6 (c : Dev nD) (t : Fin cfg0.N) :
    (dats m 0 c).leavesExact 6 t = owns (c : Thread nD τ) (st0_6 t) fullShare (weightsAt m c t).bih := by
  rw [leaves_of m c 6 t rfl, after_6, show (weightsAt m c t).bih = iblk m c 6 t from by dsimp only [weightsAt]]
theorem leaves_7 (c : Dev nD) (t : Fin cfg0.N) :
    (dats m 0 c).leavesExact 7 t = owns (c : Thread nD τ) (st0_7 t) fullShare (weightsAt m c t).bhh := by
  rw [leaves_of m c 7 t rfl, after_7, show (weightsAt m c t).bhh = iblk m c 7 t from by dsimp only [weightsAt]]
theorem leaves_8 (c : Dev nD) (t : Fin cfg0.N) :
    (dats m 0 c).leavesExact 8 t = owns (c : Thread nD τ) (st0_8 t) fullShare (weightsAt m c t).wout := by
  rw [leaves_of m c 8 t rfl, after_8, show (weightsAt m c t).wout = iblk m c 8 t from by dsimp only [weightsAt]]
theorem leaves_9 (c : Dev nD) (t : Fin cfg0.N) :
    (dats m 0 c).leavesExact 9 t = owns (c : Thread nD τ) (st0_9 t) fullShare (weightsAt m c t).bout := by
  rw [leaves_of m c 9 t rfl, after_9, show (weightsAt m c t).bout = iblk m c 9 t from by dsimp only [weightsAt]]

/-- The inputs' buffers are handed back as they were found. -/
theorem give_inputs (c : Dev nD) (t : Fin cfg0.N) :
    iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t) = inputsAt m c t := by
  unfold inputsAt inputs
  exact congrArg₂ BIBase.sep (leaves_0 m c t) (congrArg₂ BIBase.sep (leaves_1 m c t) (congrArg₂ BIBase.sep (leaves_2 m c t) (congrArg₂ BIBase.sep (leaves_3 m c t) (congrArg₂ BIBase.sep (leaves_4 m c t) (congrArg₂ BIBase.sep (leaves_5 m c t) (congrArg₂ BIBase.sep (leaves_6 m c t) (congrArg₂ BIBase.sep (leaves_7 m c t) (congrArg₂ BIBase.sep (leaves_8 m c t) (leaves_9 m c t)))))))))

end Cert.KernelIdeal.Hand

end
-- ==== Proof.Launch.lean ====
/-
The body's obligation at every point, and the launch: what the kernel's arrays hold when the program ends.
-/
module

public import proofs.«01_k».proof.Proof.Chain

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ)

theorem found_3 (c : Dev nD) (t : Fin cfg0.N) (d) : (dats m 0 c).before 3 t d = (weightsAt m c t).emb :=
  (before_3 m c t d).trans (by dsimp only [weightsAt])
theorem found_4 (c : Dev nD) (t : Fin cfg0.N) (d) : (dats m 0 c).before 4 t d = (weightsAt m c t).wih :=
  (before_4 m c t d).trans (by dsimp only [weightsAt])
theorem found_5 (c : Dev nD) (t : Fin cfg0.N) (d) : (dats m 0 c).before 5 t d = (weightsAt m c t).whh :=
  (before_5 m c t d).trans (by dsimp only [weightsAt])
theorem found_6 (c : Dev nD) (t : Fin cfg0.N) (d) : (dats m 0 c).before 6 t d = (weightsAt m c t).bih :=
  (before_6 m c t d).trans (by dsimp only [weightsAt])
theorem found_7 (c : Dev nD) (t : Fin cfg0.N) (d) : (dats m 0 c).before 7 t d = (weightsAt m c t).bhh :=
  (before_7 m c t d).trans (by dsimp only [weightsAt])
theorem found_8 (c : Dev nD) (t : Fin cfg0.N) (d) : (dats m 0 c).before 8 t d = (weightsAt m c t).wout :=
  (before_8 m c t d).trans (by dsimp only [weightsAt])
theorem found_9 (c : Dev nD) (t : Fin cfg0.N) (d) : (dats m 0 c).before 9 t d = (weightsAt m c t).bout :=
  (before_9 m c t d).trans (by dsimp only [weightsAt])

/-- The inputs' buffers, as the pipeline hands them over. -/
theorem take_inputs (c : Dev nD) (t : Fin cfg0.N) :
    iprop((∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d))) ⊢ inputsAt m c t := by
  simp only [before_0, before_1, before_2, found_3, found_4, found_5, found_6, found_7, found_8, found_9]
  unfold inputsAt inputs
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The inputs' buffers one by one. -/
theorem give_each (c : Dev nD) (t : Fin cfg0.N) (R : sProp 𝕄) :
    iprop(inputsAt m c t ∗ R) ⊢ iprop((dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ R) := by
  rw [← give_inputs]
  iintro ⟨⟨H0, H1, H2, H3, H4, H5, H6, H7, H8, H9⟩, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HR

/-- Result window 11 is written back at the last point only. -/
theorem not_flush_11 (t : Fin cfg0.N) (h : t.val ≠ 511) : (cfg0.win 11).flush t = false := by
  have ht : t.val < 512 := Nat.lt_of_lt_of_eq t.isLt N_0
  refine Bool.eq_false_iff.mpr fun e => h ?_
  have := (flush0_11 t).mp e
  rwa [Nat.mod_eq_of_lt ht] at this

/-- Result window 12 is written back at the last point only. -/
theorem not_flush_12 (t : Fin cfg0.N) (h : t.val ≠ 511) : (cfg0.win 12).flush t = false := by
  have ht : t.val < 512 := Nat.lt_of_lt_of_eq t.isLt N_0
  refine Bool.eq_false_iff.mpr fun e => h ?_
  have := (flush0_12 t).mp e
  rwa [Nat.mod_eq_of_lt ht] at this

set_option maxHeartbeats 1600000 in
/-- The body at the first point. -/
theorem sound_first (ha : ∀ c t j, (iblk m c 0 t j : BitVec 32).toNat < 1024) (c : Dev nD) (t : Fin cfg0.N) (h0 : t.val = 0) :
    bodyPre m c t ⊢ wp frame (wpE (defs₀ (F := Ideal)) Variants.none c none) Set.univ (bodyAt0 t) (fun _ => bodyPost m c t) := by
  have h1 : t.val ≠ 511 := by omega
  have hc0 := (first_iff t).mpr h0
  have hc1 : ¬k0_cond2 (grid0.coords t) = 1#1 := fun e => h1 ((last_iff t).mp e)
  have hch : chain m c t.val = start (iblk m c 0 t) (iblk m c 2 t) := by
    have et : t = pt0 := Fin.ext h0
    rw [h0, et]; rfl
  unfold bodyPre bodyPost bodyAt0
  rw [show (dats m 0 c).owesAt () t.succ = (dats m 0 c).owesAt () t.castSucc from rfl]
  rw [show (dats m 0 c).Φ t.succ = held m c (t.val + 1) from rfl, held_pos m c (t.val + 1) (Nat.succ_ne_zero _), chain_succ]
  rw [show (dats m 0 c).Φ t.castSucc = held m c t.val from rfl]
  rw [leaves_of m c 10 t rfl, after_10]
  rw [(dats m 0 c).leavesExact_idle 11 t (idle_of t hc1).1 (not_flush_11 t h1), (dats m 0 c).leavesExact_idle 12 t (idle_of t hc1).2 (not_flush_12 t h1)]
  rw [hch, show held m c t.val = Pipeline.ΦA spec0 c from by rw [h0]; rfl, anything_eq]
  iintro ⟨⟨⟨HS0, HS1, HS2, HS3, HS4⟩, Hg⟩, Ho, H0, H1, H2, H3, H4, H5, H6, H7, H8, H9, ⟨%d10, H10⟩, ⟨%d11, H11⟩, ⟨%d12, H12⟩⟩
  iapply (body_first c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (Memref.isWhole_whole _) (Memref.isWhole_whole _) (Memref.isWhole_whole _) (Memref.isWhole_whole _) (Memref.isWhole_whole _) (iblk m c 0 t) (iblk m c 1 t) (iblk m c 2 t) (weightsAt m c t) hc0 hc1 (ha c t) _ _ Set.univ _)
  isplitl [H0 H1 H2 H3 H4 H5 H6 H7 H8 H9]
  · iapply (take_inputs m c t)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  iintro ⟨HI, H10, H11, H12, HS⟩
  isplitl [HS Hg]
  · isplitl [HS]; · iexact HS
    iexact Hg
  isplitl [Ho]; · iexact Ho
  iapply (give_each m c t _)
  isplitl [HI]; · iexact HI
  isplitl [H10]; · iexact H10
  isplitl [H11]; · iexists _; iexact H11
  iexists _; iexact H12

set_option maxHeartbeats 1600000 in
/-- The body at a point between the first and the last. -/
theorem sound_mid (c : Dev nD) (t : Fin cfg0.N) (h0 : t.val ≠ 0) (h1 : t.val ≠ 511) :
    bodyPre m c t ⊢ wp frame (wpE (defs₀ (F := Ideal)) Variants.none c none) Set.univ (bodyAt0 t) (fun _ => bodyPost m c t) := by
  have hc0 : ¬k0_cond1 (grid0.coords t) = 1#1 := fun e => h0 ((first_iff t).mp e)
  have hc1 : ¬k0_cond2 (grid0.coords t) = 1#1 := fun e => h1 ((last_iff t).mp e)
  unfold bodyPre bodyPost bodyAt0
  rw [show (dats m 0 c).owesAt () t.succ = (dats m 0 c).owesAt () t.castSucc from rfl]
  rw [show (dats m 0 c).Φ t.succ = held m c (t.val + 1) from rfl, held_pos m c (t.val + 1) (Nat.succ_ne_zero _), chain_succ]
  rw [show (dats m 0 c).Φ t.castSucc = held m c t.val from rfl]
  rw [leaves_of m c 10 t rfl, after_10]
  rw [(dats m 0 c).leavesExact_idle 11 t (idle_of t hc1).1 (not_flush_11 t h1), (dats m 0 c).leavesExact_idle 12 t (idle_of t hc1).2 (not_flush_12 t h1)]
  rw [held_pos m c t.val h0]
  iintro ⟨⟨HS, Hg⟩, Ho, H0, H1, H2, H3, H4, H5, H6, H7, H8, H9, ⟨%d10, H10⟩, ⟨%d11, H11⟩, ⟨%d12, H12⟩⟩
  iapply (body_mid c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (Memref.isWhole_whole _) (Memref.isWhole_whole _) (Memref.isWhole_whole _) (Memref.isWhole_whole _) (Memref.isWhole_whole _) (iblk m c 0 t) (iblk m c 1 t) (iblk m c 2 t) (weightsAt m c t) (chain m c t.val) hc0 hc1 (chain_tok m c t.val) _ _ Set.univ _)
  isplitl [H0 H1 H2 H3 H4 H5 H6 H7 H8 H9]
  · iapply (take_inputs m c t)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexact H11
  isplitl [H12]; · iexact H12
  isplitl [HS]; · iexact HS
  iintro ⟨HI, H10, H11, H12, HS⟩
  isplitl [HS Hg]
  · isplitl [HS]; · iexact HS
    iexact Hg
  isplitl [Ho]; · iexact Ho
  iapply (give_each m c t _)
  isplitl [HI]; · iexact HI
  isplitl [H10]; · iexact H10
  isplitl [H11]; · iexists _; iexact H11
  iexists _; iexact H12

set_option maxHeartbeats 1600000 in
/-- The body at the last point. -/
theorem sound_last (c : Dev nD) (t : Fin cfg0.N) (h1 : t.val = 511) :
    bodyPre m c t ⊢ wp frame (wpE (defs₀ (F := Ideal)) Variants.none c none) Set.univ (bodyAt0 t) (fun _ => bodyPost m c t) := by
  have h0 : t.val ≠ 0 := by omega
  have hc0 : ¬k0_cond1 (grid0.coords t) = 1#1 := fun e => h0 ((first_iff t).mp e)
  have hc1 : k0_cond2 (grid0.coords t) = 1#1 := (last_iff t).mpr h1
  unfold bodyPre bodyPost bodyAt0
  rw [show (dats m 0 c).owesAt () t.succ = (dats m 0 c).owesAt () t.castSucc from rfl]
  rw [show (dats m 0 c).Φ t.succ = held m c (t.val + 1) from rfl, held_pos m c (t.val + 1) (Nat.succ_ne_zero _), chain_succ]
  rw [show (dats m 0 c).Φ t.castSucc = held m c t.val from rfl]
  rw [leaves_of m c 10 t rfl, after_10]
  rw [leaves_of m c 11 t (not_idle_of t hc1).1, leaves_of m c 12 t (not_idle_of t hc1).2, after_11, after_12, chain_succ]
  rw [held_pos m c t.val h0]
  iintro ⟨⟨HS, Hg⟩, Ho, H0, H1, H2, H3, H4, H5, H6, H7, H8, H9, ⟨%d10, H10⟩, ⟨%d11, H11⟩, ⟨%d12, H12⟩⟩
  iapply (body_last c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (Memref.isWhole_whole _) (Memref.isWhole_whole _) (Memref.isWhole_whole _) (Memref.isWhole_whole _) (Memref.isWhole_whole _) (iblk m c 0 t) (iblk m c 1 t) (iblk m c 2 t) (weightsAt m c t) (chain m c t.val) hc0 hc1 (chain_tok m c t.val) Set.univ _)
  isplitl [H0 H1 H2 H3 H4 H5 H6 H7 H8 H9]
  · iapply (take_inputs m c t)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexists _; iexact H10
  isplitl [H11]; · iexists _; iexact H11
  isplitl [H12]; · iexists _; iexact H12
  isplitl [HS]; · iexact HS
  iintro ⟨HI, H10, H11, H12, HS⟩
  isplitl [HS Hg]
  · isplitl [HS]; · iexact HS
    iexact Hg
  isplitl [Ho]; · iexact Ho
  iapply (give_each m c t _)
  isplitl [HI]; · iexact HI
  isplitl [H10]; · iexact H10
  isplitl [H11]; · iexact H11
  iexact H12

/-! ## The launch -/

/-- The body table's row at point `t`'s slots is the body at `t`. -/
theorem row_eq (t : Fin cfg0.N) :
    defs₀ (F := Ideal) .tc cfg0.body (cfg0.bodyArgs t (cfg0.slots t)) = bodyAt0 t := by
  unfold defs₀; rw [Defs.onTc_tc]

/-- The body at any point. -/
theorem sound_body (ha : ∀ c t j, (iblk m c 0 t j : BitVec 32).toNat < 1024) (c : Dev nD) (t : Fin cfg0.N) :
    bodyPre m c t ⊢ wp frame (wpE (defs₀ (F := Ideal)) Variants.none c none) Set.univ (bodyAt0 t) (fun _ => bodyPost m c t) := by
  by_cases h0 : t.val = 0
  · exact sound_first m ha c t h0
  · by_cases h1 : t.val = 511
    · exact sound_last m c t h1
    · exact sound_mid m c t h0 h1

theorem obligation (ha : ∀ c t j, (iblk m c 0 t j : BitVec 32).toNat < 1024) (c : Dev nD) :
    BodyObligation (dats m 0 c) (defs₀ (F := Ideal)) Variants.none () Set.univ := fun t => by
  rw [bigSep_W0, bigSep_W0, row_eq]
  exact triple_restated (sound_body m ha c t) rfl .rfl fun _ => .rfl

/-- What the launch hands over is what is held before the first point. -/
theorem hin (c : Dev nD) : Pipeline.ΦA spec0 c ⊢ (dats m 0 c).Φ 0 := by
  rw [show (dats m 0 c).Φ 0 = Pipeline.ΦA spec0 c from rfl]

/-- After the last point the buffers may be given back. -/
theorem hout (c : Dev nD) : (dats m 0 c).Φ (Fin.last cfg0.N) ⊢ Pipeline.ΦA spec0 c := by
  rw [show (dats m 0 c).Φ (Fin.last cfg0.N) = held m c cfg0.N from rfl, held_pos m c _ (by rw [show cfg0.N = 512 from N_0]; decide), anything_eq]
  unfold carried
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

-- the launch theorem's implicit arguments are found by unifying its conclusion with this one
set_option backward.isDefEq.respectTransparency.types false in
set_option maxHeartbeats 800000 in
/-- The program ends, with every array at what the points left in it and every counter at zero. -/
theorem run (ρ : Dev nD → PrngReg) (ha : ∀ c t j, (iblk m c 0 t j : BitVec 32).toNat < 1024) :
    θ_run defs (onTc (τ := τ) (main (F := Ideal))) (s₀ m ρ) (fun r =>
      Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m ha c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.Entry.lean ====
/-
The kernel's frame, under the precondition on the first actions.
-/
module

public import proofs.«01_k».proof.Defs
public import proofs.«01_k».proof.Proof.Launch
public import proofs.«01_k».proof.Proof.Gen.Pre_pre
public import Idealize.ShloMosaic.Lib.ReduceAll
public import Idealize.ShloMosaic.Lib.Claim
public import Idealize.ShloMosaic.Lib.StableHlo.RunHlo

@[expose] public section

set_option maxRecDepth 16384

noncomputable section

namespace Cert.KernelIdeal.Hand

open Idealize.ShloMosaic Idealize.ShloMosaic.TcCoe
open Idealize.SL Idealize.SL.Sem
open Cert.KernelIdeal.Gen

/-- A word at least 0 and below 1024 as a signed number is below 1024 as a natural one. -/
theorem word_range (w : BitVec 32) (h0 : IntOp.cmpi .sge w 0#32 = 1#1) (h1 : IntOp.cmpi .slt w 1024#32 = 1#1) :
    w.toNat < 1024 := by
  have e0 : (0#32).sle w = true := by
    by_contra hn
    simp only [IntOp.cmpi, Bool.eq_false_of_not_eq_true hn] at h0
    exact absurd h0 (by decide)
  have e1 : w.slt 1024#32 = true := by
    by_contra hn
    simp only [IntOp.cmpi, Bool.eq_false_of_not_eq_true hn] at h1
    exact absurd h1 (by decide)
  rw [BitVec.sle_iff_toInt_le] at e0
  rw [BitVec.slt_iff_toInt_lt] at e1
  have a0 : (0#32 : BitVec 32).toInt = 0 := by decide
  have a1 : (1024#32 : BitVec 32).toInt = 1024 := by decide
  rw [a0] at e0
  rw [a1] at e1
  rw [BitVec.toInt_eq_toNat_cond] at e0 e1
  split at e0 <;> omega

variable (m : (ℓ : Loc nD τ sig) → Buf (Elt Ideal) ℓ)

/-- The precondition, read at one row: the action names a row of the action table. -/
theorem action_lt (h : Cert.Pre_KernelIdeal m) (c : Dev nD) (j : S8.Idx) :
    (m ((c.tc : Thread nD τ).loc main_arg0) j : BitVec 32).toNat < 1024 := by
  have e := congrFun (h c) (Shape.Idx.first (by decide))
  unfold Cert.Pre_pre.fn at e
  have e' := Host.reduce_andi_eq_one _ _ _ _ _ e j (by funext k; exact k.elim0)
  have e'' : IntOp.andi (IntOp.cmpi .sge (m ((c.tc : Thread nD τ).loc main_arg0) j) 0#32)
      (IntOp.cmpi .slt (m ((c.tc : Thread nD τ).loc main_arg0) j) 1024#32) = 1#1 := e'
  obtain ⟨h0, h1⟩ := IntOp.andi_eq_one.1 e''
  exact word_range _ h0 h1

/-- The same of the kernel's block of actions, which is the whole array at every point. -/
theorem action_block_lt (h : Cert.Pre_KernelIdeal m) (c : Dev nD) (t : Fin cfg0.N) (j) :
    (iblk m c 0 t j : BitVec 32).toNat < 1024 := by
  show (V m c main_arg0 _ : BitVec 32).toNat < 1024
  rw [V_main_arg0]
  exact action_lt m h c _

/-- The kernel's frame. -/
theorem quiescent : Cert.quiescent_KernelIdeal := fun m g h => by
  have hr := run m g (action_block_lt m h)
  exact θ_run_and (frame_of m g (dats m) (A_eq m) (θ_run_mono hr fun _ h => h.1)) (θ_run_mono hr fun _ h => h.2)

end Cert.KernelIdeal.Hand

end
-- ==== Proof.Around.lean ====
/-
The reference's frame: what its loop leaves alone, and its counters.
-/
module

public import proofs.«01_k».proof.Defs
public import proofs.«01_k».proof.Proof.Gen.ReferenceIdeal.Run
public import proofs.«01_k».proof.Proof.Gen.Pre_pre
public import Idealize.ShloMosaic.Lib.Quiescent
public import Idealize.ShloMosaic.Lib.StableHlo.RunHlo

@[expose] public section

set_option maxRecDepth 16384

noncomputable section

namespace Cert.ReferenceIdeal.Hand

open Idealize.ShloMosaic Idealize.ShloMosaic.TcCoe Idealize.ShloMosaic.StableHlo
open Idealize.SL Idealize.SL.Sem
open Cert.ReferenceIdeal.Gen Cert.ReferenceIdeal.Value

/-- `ops` writes nothing outside `W`. -/
abbrev Within (ops : List (HloOp τ sig (Elt Ideal))) (W : List (Ref sig .tc)) : Prop :=
  ops.Forall fun op => op.writes ⊆ (W.map (Proc.devRef (τ := τ) .tc)).toFinset

/-- Stretches that write nothing outside their lists keep a buffer in none of the lists. -/
theorem afterL_keeps {items : List (List (HloOp τ sig (Elt Ideal)))} {Ws : List (List (Ref sig .tc))}
    (h : List.Forall₂ Within items Ws) {r : Ref sig .tc} (hr : ∀ W ∈ Ws, r ∉ W) (V : Valuation τ sig (Elt Ideal)) :
    afterL items V (Proc.devRef .tc r) = V (Proc.devRef .tc r) := by
  induction h generalizing V with
  | nil => rfl
  | cons hd _ ih =>
    rw [afterL_cons, ih (fun W hW => hr W (List.mem_cons_of_mem _ hW)),
      after_of_writes_sub _ _ hd (hr _ List.mem_cons_self)]

/-- What each stretch of the loop's body writes. -/
abbrev bodyWrites : List (List (Ref sig .tc)) :=
  [while0Ops0_W, while0Ops0_1_W, while0Ops0_2_W, while0Ops0_3_W, while0Ops0_4_W, while0Ops0_5_W, while0Ops0_6_W,
   while0Ops0_7_W, while0Ops0_8_W, while0Ops0_9_W, while0Ops0_10_W, while0Ops0_11_W, while0Ops0_12_W, while0Ops0_13_W,
   while0Ops0_14_W, while0Ops0_15_W, while0Ops0_16_W, while0Ops0_17_W, while0Ops0_18_W, while0Ops0_19_W]

theorem body_within : List.Forall₂ Within bodyI bodyWrites :=
  .cons while0Ops0_writes <| .cons while0Ops0_1_writes <| .cons while0Ops0_2_writes <| .cons while0Ops0_3_writes <|
  .cons while0Ops0_4_writes <| .cons while0Ops0_5_writes <| .cons while0Ops0_6_writes <| .cons while0Ops0_7_writes <|
  .cons while0Ops0_8_writes <| .cons while0Ops0_9_writes <| .cons while0Ops0_10_writes <| .cons while0Ops0_11_writes <|
  .cons while0Ops0_12_writes <| .cons while0Ops0_13_writes <| .cons while0Ops0_14_writes <| .cons while0Ops0_15_writes <|
  .cons while0Ops0_16_writes <| .cons while0Ops0_17_writes <| .cons while0Ops0_18_writes <| .cons while0Ops0_19_writes .nil

variable (m : (ℓ : Loc nD τ sig) → Buf (Elt Ideal) ℓ)

/-- A buffer the loop never writes holds, before every trip, what it held at the loop's entry. -/
theorem atK_keeps {r : Ref sig .tc} (hc : r ∉ condOps_W) (hb : ∀ W ∈ bodyWrites, r ∉ W) (c : Dev nD) :
    ∀ k, atK m k c (Proc.devRef .tc r) = atK m 0 c (Proc.devRef .tc r)
  | 0 => rfl
  | k + 1 => by
    rw [show atK m (k + 1) c = afterL bodyI (after condOps (atK m k c)) from rfl, afterL_keeps body_within hb,
      after_of_writes_sub _ _ condOps_writes hc, atK_keeps hc hb c k]

/-- A buffer nothing before the loop writes enters it as launched. -/
theorem entry_keeps {r : Ref sig .tc} (hr : r ∉ hostOps0_W) (c : Dev nD) :
    atK m 0 c (Proc.devRef .tc r) = m ((c.tc : Thread nD τ).loc r) := by
  rw [show atK m 0 c = after hostOps0 (launchContents m c) from rfl, after_of_writes_sub _ _ hostOps0_writes hr]

/-- A buffer no stretch writes ends as launched. -/
theorem final_keeps {r : Ref sig .tc} (hp : r ∉ hostOps0_W) (hc : r ∉ condOps_W) (hb : ∀ W ∈ bodyWrites, r ∉ W)
    (hq : r ∉ hostOps0_1_W) (c : Dev nD) :
    finalContents condOps preI bodyI postI 512 m c (Proc.devRef .tc r) = m ((c.tc : Thread nD τ).loc r) := by
  rw [show finalContents condOps preI bodyI postI 512 m c = after hostOps0_1 (after condOps (atK m 512 c)) from rfl,
    after_of_writes_sub _ _ hostOps0_1_writes hq, after_of_writes_sub _ _ condOps_writes hc, atK_keeps m hc hb, entry_keeps m hp]

/-- The arguments, on core `c`, end as launched. -/
theorem args_kept (r : MemSt nD τ sig (Elt Ideal))
    (h : ∀ (c : Dev nD) (b : Ref sig .tc), (Proc.devRef .tc b : DevRef τ sig).isScoped = false →
      r.mem ((c.tc : Thread nD τ).loc b) = finalContents condOps preI bodyI postI 512 m c (Proc.devRef .tc b)) (c : Dev nD)
    (b : Ref sig .tc) (hs : (Proc.devRef .tc b : DevRef τ sig).isScoped = false) (hp : b ∉ hostOps0_W) (hc : b ∉ condOps_W)
    (hb : ∀ W ∈ bodyWrites, b ∉ W) (hq : b ∉ hostOps0_1_W) :
    r.mem ((c.tc : Thread nD τ).loc b) = m ((c.tc : Thread nD τ).loc b) :=
  (h c b hs).trans (final_keeps m hp hc hb hq c)

/-- The reference's frame. -/
theorem quiescent : Cert.quiescent_ReferenceIdeal := fun m g _ => by
  refine θ_run_mono (run_fold m g) fun r h => ?_
  refine ⟨fun c => ?_, sem_eq_zero_of_no_sems (by decide) _⟩
  refine ⟨?_, ?_, ?_, ?_, ?_, ?_, ?_, ?_, ?_, ?_⟩ <;>
    exact args_kept m r.2 h c _ rfl (by decide +kernel) (by decide +kernel) (by decide +kernel) (by decide +kernel)

/-- It holds all the more under the precondition. -/
theorem quiescent_pre : Cert.quiescent_ReferenceIdeal_pre_pre := fun m g _ => quiescent m g trivial

end Cert.ReferenceIdeal.Hand

end
-- ==== Proof.Fetch.lean ====
/-
The reference's look-ups: a row of a table by its number, and one entry of each row by its place.
-/
module

public import proofs.«01_k».proof.Proof.Top
public import proofs.«01_k».proof.Proof.Gen.ReferenceIdeal.Run
public import Idealize.ShloMosaic.Lib.Pointwise
public import Idealize.ShloMosaic.Lib.Routing.Ops
public import Idealize.ShloMosaic.Lib.Routing.OpsPair
public import Idealize.ShloMosaic.PureOps.Ideal

@[expose] public section

noncomputable section

namespace Cert.ReferenceIdeal.Hand

open Idealize.ShloMosaic Cert.Hand Cert.ReferenceIdeal.Gen

variable {α : Type}

/-- A row of the table of words. -/
theorem word_row (x : S4096x512.Idx → α) (idx : IVec S8x1 32) (b : Fin 8) (k : Fin 512) (r : Fin 4096)
    (h : idx (ix2 b 0) = BitVec.ofNat 32 r.val) :
    Host.gather gather_S4096x512_S8x1_S8x512_1_0_n_n_0_1_1512 x idx (ix2 b k) = x (ix2 r k) := by
  simp only [ix2_eq_valueIdx] at h ⊢
  exact Routing.gather_row _ rfl rfl rfl rfl rfl x idx b k r h (by decide)

/-- A row of the table of actions. -/
theorem action_row (x : S1024x512.Idx → α) (idx : IVec S8x1 32) (b : Fin 8) (k : Fin 512) (r : Fin 1024)
    (h : idx (ix2 b 0) = BitVec.ofNat 32 r.val) :
    Host.gather gather_S1024x512_S8x1_S8x512_1_0_n_n_0_1_1512 x idx (ix2 b k) = x (ix2 r k) := by
  simp only [ix2_eq_valueIdx] at h ⊢
  exact Routing.gather_row _ rfl rfl rfl rfl rfl x idx b k r h (by decide)

/-- One entry of each row. -/
theorem entry_at (x : S8x4096.Idx → α) (idx : IVec S8x1x1 32) (b : Fin 8) (k : Fin 4096)
    (h : idx (ix3 b 0 0) = BitVec.ofNat 32 k.val) :
    Host.gather gather_S8x4096_S8x1x1_S8x1_n_1_0_0_1_2_11 x idx (ix2 b 0) = x (ix2 b k) := by
  unfold Host.gather
  refine congrArg x (funext fun a => Fin.ext ?_)
  show (gather_S8x4096_S8x1x1_S8x1_n_1_0_0_1_2_11).start (ix2 b 0) idx a
    + (gather_S8x4096_S8x1x1_S8x1_n_1_0_0_1_2_11).batchCoord (ix2 b 0) a
    + (gather_S8x4096_S8x1x1_S8x1_n_1_0_0_1_2_11).offCoord (ix2 b 0) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S8x4096_S8x1x1_S8x1_n_1_0_0_1_2_11).operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8x4096_S8x1x1_S8x1_n_1_0_0_1_2_11).startIndexMap from List.mem_singleton.mpr rfl)]
    have hsi : (gather_S8x4096_S8x1x1_S8x1_n_1_0_0_1_2_11).siIdx (ix2 b 0)
        ⟨List.idxOf (1 : Fin 2) (gather_S8x4096_S8x1x1_S8x1_n_1_0_0_1_2_11).startIndexMap,
          List.idxOf_lt_length_iff.2 (List.mem_singleton.mpr rfl)⟩ = ix3 b 0 0 := by
      funext d
      refine Fin.ext ?_
      match d with
      | ⟨0, _⟩ => rfl
      | ⟨1, _⟩ => rfl
      | ⟨2, _⟩ => rfl
    rw [hsi, h, toInt_place]
    have := k.isLt
    show min (Int.toNat k.val) (4096 - 1) = k.val
    omega

/-- A word that names a word of the vocabulary is not negative, so wrapping leaves it. -/
theorem wrapped (r : Fin 4096) (n : BitVec 32) :
    Scalar.select (IntOp.cmpi .slt (BitVec.ofNat 32 r.val) 0#32) n (BitVec.ofNat 32 r.val) = BitVec.ofNat 32 r.val := by
  refine Routing.wrap_of_lt _ _ ?_
  have := r.isLt
  rw [BitVec.toNat_ofNat]
  omega

/-- The row of a word, its number wrapped first. -/
theorem word_fetched (x : S4096x512.Idx → α) (tok : IVec S8 32) (b : Fin 8) (k : Fin 512) (r : Fin 4096)
    (h : tok (ix1 b) = BitVec.ofNat 32 r.val) :
    Host.gather gather_S4096x512_S8x1_S8x512_1_0_n_n_0_1_1512 x
      (broadcastInDim S8x1 (![0] : Fin 1 → Fin 2) bcast_S8_S8x1_0
        (select (cmpi .slt tok (broadcastInDim S8 ![] bcast_S_S8 (constantI S_ 32 0#32)))
          (addi tok (broadcastInDim S8 ![] bcast_S_S8 (constantI S_ 32 4096#32))) tok)) (ix2 b k) = x (ix2 r k) := by
  refine word_row x _ b k r ?_
  pointwise
  rw [h]
  exact wrapped r _

end Cert.ReferenceIdeal.Hand

end
-- ==== Proof.Cell.lean ====
/-
The cell and the output layer: the reference's trip and the kernel's step reach the same state and the same scores.
-/
module

public import proofs.«01_k».proof.Proof.Draw
public import proofs.«01_k».proof.Proof.Fetch

@[expose] public section

set_option maxRecDepth 16384

noncomputable section

namespace Cert.ReferenceIdeal.Hand

open Idealize.ShloMosaic Idealize.ShloMosaic.TcCoe Idealize.ShloMosaic.StableHlo
open Cert.ReferenceIdeal.Gen Cert.ReferenceIdeal.Value
open Cert.KernelIdeal.Hand (Weights Carry cell embRow)
open Cert.KernelIdeal.Gen (k0_pay14 k0_pay15)

/-- The reference's tables and matrices are those the kernel is given; the kernel's matrices are transposed. -/
structure Tables (X : Valuation τ sig (Elt Ideal)) (W : Weights Ideal) : Prop where
  emb : ∀ r x, (X (Proc.devRef .tc main_v20_1) : Vec Ideal S4096x512 .f32) (ix2 r x) = W.emb (ix2 r x)
  wih : ∀ j x, (X (Proc.devRef .tc main_v20_2) : Vec Ideal S1536x512 .f32) (ix2 j x) = W.wih (ix2 x j)
  bih : ∀ j, (X (Proc.devRef .tc main_v20_3) : Vec Ideal S1536 .f32) (ix1 j) = W.bih (ix2 0 j)
  whh : ∀ j x, (X (Proc.devRef .tc main_v20_4) : Vec Ideal S1536x512 .f32) (ix2 j x) = W.whh (ix2 x j)
  bhh : ∀ j, (X (Proc.devRef .tc main_v20_5) : Vec Ideal S1536 .f32) (ix1 j) = W.bhh (ix2 0 j)
  wout : ∀ j x, (X (Proc.devRef .tc main_v20_6) : Vec Ideal S4096x512 .f32) (ix2 j x) = W.wout (ix2 x j)
  bout : ∀ j, (X (Proc.devRef .tc main_v20_7) : Vec Ideal S4096 .f32) (ix1 j) = W.bout (ix2 0 j)

/-- A named row of the table. -/
theorem embRow_at (x : Vec Ideal S4096x512 .f32) (r : Fin 4096) (u : Fin 1) (k : Fin 512) :
    embRow x (BitVec.ofNat 32 r.val) (ix2 u k) = x (ix2 r k) := by
  unfold embRow
  have h := r.isLt
  exact congrArg x (congrArg (fun q => ix2 q k) (Fin.ext (by
    show (BitVec.ofNat 32 r.val).toNat % 4096 = r.val
    rw [BitVec.toNat_ofNat]; omega)))

variable {X : Valuation τ sig (Elt Ideal)} {W : Weights Ideal} {s : Carry Ideal}

variable {X : Valuation τ sig (Elt Ideal)} {W : Weights Ideal} {s : Carry Ideal}

/-- Of eight rows laid one under the other, the one a row number picks. -/
theorem row_of_eight (x : Vec Ideal S4096x512 .f32) (r : Fin 8 → Fin 4096) (b : Fin 8) (k : Fin 512) :
    (if _h : (b : ℕ) < 1 then x (ix2 (r 0) k) else if _h : (b : ℕ) - 1 < 1 then x (ix2 (r 1) k)
      else if _h : (b : ℕ) - 1 - 1 < 1 then x (ix2 (r 2) k) else if _h : (b : ℕ) - 1 - 1 - 1 < 1 then x (ix2 (r 3) k)
      else if _h : (b : ℕ) - 1 - 1 - 1 - 1 < 1 then x (ix2 (r 4) k)
      else if _h : (b : ℕ) - 1 - 1 - 1 - 1 - 1 < 1 then x (ix2 (r 5) k)
      else if _h : (b : ℕ) - 1 - 1 - 1 - 1 - 1 - 1 < 1 then x (ix2 (r 6) k) else x (ix2 (r 7) k)) = x (ix2 (r b) k) := by
  fin_cases b <;> rfl

variable {X : Valuation τ sig (Elt Ideal)} {W : Weights Ideal} {s : Carry Ideal}

/-- The scores the trip reaches are the kernel's, and so is the state. -/
theorem cell_same (T : Tables X W)
    (hh : ∀ b k, (X (Proc.devRef .tc main_v20_10) : Vec Ideal S8x512 .f32) (ix2 b k) = s.hid (ix2 b k))
    (ht : ∀ b, (X (Proc.devRef .tc main_v20_11) : Vec Ideal S8 .i32) (ix1 b) = s.tok (ix2 b 0))
    (hr : ∀ b, ∃ r : Fin 4096, s.tok (ix2 b 0) = BitVec.ofNat 32 r.val) (b : Fin 8) :
    (∀ k : Fin 512, after (while0Ops0_1 (F := Ideal)) X (Proc.devRef .tc main_while0b_v67) (ix2 b k) = cell W s (ix2 b k)) ∧
    ∀ k : Fin 4096, after (while0Ops0_1 (F := Ideal)) X (Proc.devRef .tc main_while0b_v72) (ix2 b k) =
      k0_pay15 (cell W s) W.wout W.bout (ix2 b k) := by
  choose r hr using hr
  have hw := fun x => word_fetched (X (Proc.devRef .tc main_v20_1) : Vec Ideal S4096x512 .f32)
    (X (Proc.devRef .tc main_v20_11) : Vec Ideal S8 .i32) b x (r b) ((ht b).trans (hr b))
  constructor
  · intro k
    after_reads_simp
    unfold cell k0_pay14
    pointwise [hw, T.emb, T.wih, T.whh, T.bih, T.bhh, hh, ← ix2_eq_valueIdx, hr, embRow_at, Ideal.logistic]
    fin_cases b <;> rfl
  · intro k
    after_reads_simp
    unfold k0_pay15 cell k0_pay14
    pointwise [hw, T.emb, T.wih, T.whh, T.bih, T.bhh, T.wout, T.bout, hh, ← ix2_eq_valueIdx, hr, embRow_at, Ideal.logistic]
    fin_cases b <;> rfl

end Cert.ReferenceIdeal.Hand

end
-- ==== Proof.Late.lean ====
/-
The last part of the reference's trip: what is kept of the new state where a row is alive, and what is counted and added up.
-/
module

public import proofs.«01_k».proof.Proof.Cell
public import proofs.«01_k».proof.Proof.Around

@[expose] public section

set_option maxRecDepth 16384

noncomputable section

namespace Cert.ReferenceIdeal.Hand

open Idealize.ShloMosaic Idealize.ShloMosaic.TcCoe Idealize.ShloMosaic.StableHlo
open Cert.ReferenceIdeal.Gen Cert.ReferenceIdeal.Value
open Cert.KernelIdeal.Hand (Weights Carry cell drawn spoken step)
open Cert.KernelIdeal.Gen (k0_pay1 k0_pay17 k0_pay18 k0_pay19 k0_pay20 k0_pay21 k0_pay22 k0_pay23 k0_pay24)

/-- The buffers after the trip's last stretches but two. -/
abbrev late (V : Valuation τ sig (Elt Ideal)) : Valuation τ sig (Elt Ideal) :=
  after while0Ops0_17 (after while0Ops0_16 (after while0Ops0_15 (after while0Ops0_14 (after while0Ops0_13
    (after while0Ops0_12 (after while0Ops0_11 (after while0Ops0_10 (after while0Ops0_9 V))))))))

/-- The carried buffers hold what the kernel holds: a row is alive when its number is above 0. -/
structure Holding (X : Valuation τ sig (Elt Ideal)) (s : Carry Ideal) : Prop where
  hid : ∀ b k, (X (Proc.devRef .tc main_v20_10) : Vec Ideal S8x512 .f32) (ix2 b k) = s.hid (ix2 b k)
  tok : ∀ b, (X (Proc.devRef .tc main_v20_11) : Vec Ideal S8 .i32) (ix1 b) = s.tok (ix2 b 0)
  alive : ∀ b, (X (Proc.devRef .tc main_v20_12) : Vec Ideal S8 .i1) (ix1 b) = IntOp.cmpi .sgt (s.alive (ix2 b 0)) 0#32
  count : ∀ b, (X (Proc.devRef .tc main_v20_13) : Vec Ideal S8 .i32) (ix1 b) = s.count (ix2 b 0)
  logp : ∀ b, (X (Proc.devRef .tc main_v20_14) : Vec Ideal S8 .f32) (ix1 b) = s.logp (ix2 b 0)

/-- A bit made into a number and compared with 0 is the bit. -/
theorem bit_back (c : BitVec 1) : IntOp.cmpi .sgt (Scalar.select c 1#32 0#32) 0#32 = c := by
  revert c; decide

/-- What the trip has reached before its last part. -/
structure Reached (V : Valuation τ sig (Elt Ideal)) (W : Weights Ideal) (n : BitVec 32) (z : Vec Ideal Cert.KernelIdeal.S1x8x4096 .f32)
    (s : Carry Ideal) : Prop where
  at_trip : (V (Proc.devRef .tc main_while0b_v22) : Vec Ideal S_ .i32) ix0 = n
  state : ∀ b k, (V (Proc.devRef .tc main_while0b_v67) : Vec Ideal S8x512 .f32) (ix2 b k) = cell W s (ix2 b k)
  pick : ∀ b, (V (Proc.devRef .tc main_while0b_v77) : Vec Ideal S8 .i32) (ix1 b) = drawn W z s (ix2 b 0)
  entry : ∀ b, (V (Proc.devRef .tc main_while0b_v80) : Vec Ideal S8x1 .f32) (ix2 b 0) =
    k0_pay17 (cell W s) W.wout W.bout z (ix2 b 0)

variable {V : Valuation τ sig (Elt Ideal)} {W : Weights Ideal} {n : BitVec 32}
  {z : Vec Ideal Cert.KernelIdeal.S1x8x4096 .f32} {s : Carry Ideal}

theorem late_hid (H : Holding V s) (R : Reached V W n z s) (b : Fin 8) (k : Fin 512) :
    late V (Proc.devRef .tc main_while0b_v94) (ix2 b k) = (step W n z s).hid (ix2 b k) := by
  after_reads_simp
  simp only [TRef.toBuf, TRef.ofBuf, cast_eq]
  unfold step k0_pay24 k0_pay18
  pointwise [H.hid, H.alive, R.state]

theorem late_tok (H : Holding V s) (R : Reached V W n z s) (b : Fin 8) :
    late V (Proc.devRef .tc main_while0b_v95) (ix1 b) = (step W n z s).tok (ix2 b 0) := by
  after_reads_simp
  simp only [TRef.toBuf, TRef.ofBuf, cast_eq]
  unfold step k0_pay1 k0_pay18
  pointwise [H.tok, H.alive, R.pick]

theorem late_alive (H : Holding V s) (R : Reached V W n z s) (b : Fin 8) :
    late V (Proc.devRef .tc main_while0b_v92) (ix1 b) = IntOp.cmpi .sgt ((step W n z s).alive (ix2 b 0)) 0#32 := by
  after_reads_simp
  unfold step k0_pay23 k0_pay18
  pointwise [H.alive, R.pick, bit_back]

theorem late_count (H : Holding V s) (R : Reached V W n z s) (b : Fin 8) :
    late V (Proc.devRef .tc main_while0b_v89) (ix1 b) = (step W n z s).count (ix2 b 0) := by
  after_reads_simp
  simp only [TRef.toBuf, TRef.ofBuf, cast_eq]
  unfold step k0_pay22 k0_pay18
  pointwise [H.alive, H.count, R.pick, R.at_trip]
  rfl

theorem late_logp (H : Holding V s) (R : Reached V W n z s) (b : Fin 8) :
    late V (Proc.devRef .tc main_while0b_v84) (ix1 b) = (step W n z s).logp (ix2 b 0) := by
  after_reads_simp
  simp only [TRef.toBuf, TRef.ofBuf, cast_eq]
  unfold step k0_pay21 k0_pay18
  pointwise [H.alive, H.logp, R.entry, id_eq]

theorem late_spoken (H : Holding V s) (R : Reached V W n z s) (b : Fin 8) :
    late V (Proc.devRef .tc main_while0b_v82) (ix1 b) = spoken W z s (ix3 0 b 0) := by
  after_reads_simp
  simp only [TRef.toBuf, TRef.ofBuf, cast_eq]
  have hp := R.pick b
  unfold drawn at hp
  unfold spoken k0_pay20 k0_pay19 k0_pay18
  pointwise [H.alive, hp]
  rfl

end Cert.ReferenceIdeal.Hand

end
-- ==== Proof.Pick.lean ====
/-
The reference's token: the first place where the noisy logits are greatest.
-/
module

public import proofs.«01_k».proof.Proof.Top
public import proofs.«01_k».proof.Proof.Gen.ReferenceIdeal.Run
public import Idealize.ShloMosaic.Lib.Pointwise
public import Idealize.ShloMosaic.PureOps.Ideal

@[expose] public section

noncomputable section

namespace Cert.ReferenceIdeal.Hand

open Idealize.ShloMosaic Cert.Hand Cert.ReferenceIdeal.Gen

/-- Of two candidates the reducer keeps the greater value, and of equal values the lower place. -/
theorem keep_greater (a b : Ideal .f32 × BitVec 32) :
    reducer_argmax_f32_i32 (F := Ideal) a b =
      if b.1 < a.1 then a else if a.1 = b.1 then (b.1, if a.2.toInt < b.2.toInt then a.2 else b.2) else b := by
  have hlt : IntOp.cmpi .slt a.2 b.2 = if a.2.toInt < b.2.toInt then 1#1 else 0#1 := by
    by_cases h : a.2.toInt < b.2.toInt <;> simp [IntOp.cmpi, BitVec.slt, h]
  simp only [reducer_argmax_f32_i32, Ideal.cmpf_def, Ideal.cmp, hlt, IntOp.ori, IntOp.andi, Scalar.select]
  rcases lt_trichotomy a.1 b.1 with h | h | h
  · simp [h, h.not_gt, h.ne]
  · simp [h]
    split <;> simp_all
  · simp [h, h.not_gt, h.ne']

/-- What a run of such choices ends at: one of the candidates, none greater, and of the equal ones the lowest. -/
theorem run_keeps (l : List (Ideal .f32 × BitVec 32)) : ∀ p : Ideal .f32 × BitVec 32,
    l.foldl (reducer_argmax_f32_i32 (F := Ideal)) p ∈ p :: l ∧
      ∀ q ∈ p :: l, q.1 ≤ (l.foldl (reducer_argmax_f32_i32 (F := Ideal)) p).1 ∧
        (q.1 = (l.foldl (reducer_argmax_f32_i32 (F := Ideal)) p).1 →
          (l.foldl (reducer_argmax_f32_i32 (F := Ideal)) p).2.toInt ≤ q.2.toInt) := by
  induction l with
  | nil => intro p; simp
  | cons a l ih =>
    intro p
    obtain ⟨h1, h2⟩ := ih (reducer_argmax_f32_i32 (F := Ideal) p a)
    rw [List.foldl_cons]
    generalize l.foldl (reducer_argmax_f32_i32 (F := Ideal)) (reducer_argmax_f32_i32 (F := Ideal) p a) = r at h1 h2
    have hd := h2 _ List.mem_cons_self
    have hs : reducer_argmax_f32_i32 (F := Ideal) p a = p ∨ reducer_argmax_f32_i32 (F := Ideal) p a = a := by
      rw [keep_greater]
      split
      · exact .inl rfl
      · split
        · rename_i e
          split
          · exact .inl (Prod.ext e.symm rfl)
          · exact .inr rfl
        · exact .inr rfl
    have hp : p.1 ≤ (reducer_argmax_f32_i32 (F := Ideal) p a).1 ∧ (p.1 = (reducer_argmax_f32_i32 (F := Ideal) p a).1 →
        (reducer_argmax_f32_i32 (F := Ideal) p a).2.toInt ≤ p.2.toInt) := by
      rw [keep_greater]
      split
      · exact ⟨le_rfl, fun _ => le_rfl⟩
      · rename_i h
        split
        · rename_i e
          refine ⟨e.le, fun _ => ?_⟩
          show (if p.2.toInt < a.2.toInt then p.2 else a.2).toInt ≤ _
          split <;> omega
        · rename_i e
          exact ⟨not_lt.mp h, fun e' => absurd e' e⟩
    have ha : a.1 ≤ (reducer_argmax_f32_i32 (F := Ideal) p a).1 ∧ (a.1 = (reducer_argmax_f32_i32 (F := Ideal) p a).1 →
        (reducer_argmax_f32_i32 (F := Ideal) p a).2.toInt ≤ a.2.toInt) := by
      rw [keep_greater]
      split
      · rename_i h
        exact ⟨h.le, fun e => absurd e h.ne⟩
      · split
        · refine ⟨le_rfl, fun _ => ?_⟩
          show (if p.2.toInt < a.2.toInt then p.2 else a.2).toInt ≤ _
          split <;> omega
        · exact ⟨le_rfl, fun _ => le_rfl⟩
    refine ⟨?_, fun q hq => ?_⟩
    · rcases List.mem_cons.mp h1 with h | h
      · rw [h]; rcases hs with e | e <;> simp [e]
      · simp [h]
    · have via : ∀ q : Ideal .f32 × BitVec 32, (q.1 ≤ (reducer_argmax_f32_i32 (F := Ideal) p a).1 ∧
          (q.1 = (reducer_argmax_f32_i32 (F := Ideal) p a).1 → (reducer_argmax_f32_i32 (F := Ideal) p a).2.toInt ≤ q.2.toInt)) →
          q.1 ≤ r.1 ∧ (q.1 = r.1 → r.2.toInt ≤ q.2.toInt) := fun q hq =>
        ⟨hq.1.trans hd.1, fun e => by
          have e1 : q.1 = (reducer_argmax_f32_i32 (F := Ideal) p a).1 := le_antisymm hq.1 (hd.1.trans e.ge)
          exact (hd.2 (e1.symm.trans e)).trans (hq.2 e1)⟩
      rcases List.mem_cons.mp hq with rfl | hq
      · exact via _ hp
      · rcases List.mem_cons.mp hq with rfl | hq
        · exact via _ ha
        · exact h2 q (List.mem_cons_of_mem _ hq)

/-- The least value. -/
theorem ofBits_bot : Ideal.ofBits .f32 0xFF800000#32 = (⊥ : EReal) := by simp [Ideal.ofBits, Ideal.ieee]

/-- Dropping the place leaves the row. -/
theorem row_of (b : Fin 8) (k : Fin 4096) : reducesTo_S8x4096_S8_d1.drop (ix2 b k) = ix1 b := by
  funext d
  obtain rfl : d = 0 := Subsingleton.elim (α := Fin 1) _ _
  rfl

/-- The token the reference draws in a row. -/
theorem pick_isTop (y : FVec Ideal S8x4096 .f32) (b : Fin 8) :
    ∃ k : Fin 4096, (Host.argReduce (reducer_argmax_f32_i32 (F := Ideal)) y (iotaInDim S8x4096 32 1)
      (constant (F := Ideal) S_ .f32 0xFF800000#32) (constantI S_ 32 0#32) reducesTo_S8x4096_S8_d1 h_S_ (ix1 b)).2 =
        BitVec.ofNat 32 k.val ∧ IsTop (fun k => y (ix2 b k)) k := by
  rw [Ideal.argReduce_eq_reduce2, Host.reduce2_eq_foldl_fiber]
  have hmem : ∀ p, p ∈ Host.argReduceFiber y (iotaInDim S8x4096 32 1) reducesTo_S8x4096_S8_d1 (ix1 b) ↔
      ∃ k : Fin 4096, p = (y (ix2 b k), BitVec.ofNat 32 k.val) := by
    intro p
    simp only [Host.argReduceFiber, List.mem_map, List.mem_filter, List.mem_finRange, true_and, decide_eq_true_eq]
    constructor
    · rintro ⟨n, hn, rfl⟩
      generalize S8x4096.rowMajor.symm n = i at hn ⊢
      obtain ⟨a, k, rfl⟩ : ∃ a k, i = ix2 a k := ⟨i 0, i 1, (ix2_eta i).symm⟩
      rw [row_of] at hn
      obtain rfl : a = b := congrFun hn 0
      exact ⟨k, rfl⟩
    · rintro ⟨k, rfl⟩
      refine ⟨S8x4096.rowMajor (ix2 b k), ?_, ?_⟩
      · rw [Equiv.symm_apply_apply]
        exact row_of b k
      · rw [Equiv.symm_apply_apply]
        rfl
  obtain ⟨h1, h2⟩ := run_keeps (Host.argReduceFiber y (iotaInDim S8x4096 32 1) reducesTo_S8x4096_S8_d1 (ix1 b))
    (constant (F := Ideal) S_ .f32 0xFF800000#32 (Shape.Idx.first h_S_), constantI S_ 32 0#32 (Shape.Idx.first h_S_))
  generalize List.foldl _ _ _ = r at h1 h2
  have hz : (constant (F := Ideal) S_ .f32 0xFF800000#32 (Shape.Idx.first h_S_) : EReal) = ⊥ := ofBits_bot
  have hr : ∃ k : Fin 4096, r = (y (ix2 b k), BitVec.ofNat 32 k.val) := by
    rcases List.mem_cons.mp h1 with h | h
    · refine ⟨0, ?_⟩
      have := (h2 _ (List.mem_cons_of_mem _ ((hmem _).mpr ⟨0, rfl⟩))).1
      rw [h] at this ⊢
      refine Prod.ext ?_ rfl
      refine le_antisymm ?_ this
      show (constant (F := Ideal) S_ .f32 0xFF800000#32 (Shape.Idx.first h_S_) : EReal) ≤ _
      rw [hz]
      exact bot_le
    · exact (hmem _).mp h
  obtain ⟨k, rfl⟩ := hr
  refine ⟨k, rfl, fun i => (h2 _ (List.mem_cons_of_mem _ ((hmem _).mpr ⟨i, rfl⟩))).1, fun i hi => ?_⟩
  obtain ⟨ha, hb⟩ := h2 _ (List.mem_cons_of_mem _ ((hmem _).mpr ⟨i, rfl⟩))
  refine lt_of_le_of_ne ha fun e => ?_
  have := hb e
  simp only [toInt_place] at this
  have : i.val < k.val := hi
  omega

end Cert.ReferenceIdeal.Hand

end
-- ==== Proof.Middle.lean ====
/-
The middle of the reference's trip: the token drawn, and the logarithm of its probability.
-/
module

public import proofs.«01_k».proof.Proof.Cell
public import proofs.«01_k».proof.Proof.Pick

@[expose] public section

set_option maxRecDepth 16384

noncomputable section

namespace Cert.ReferenceIdeal.Hand

open Idealize.ShloMosaic Idealize.ShloMosaic.TcCoe Idealize.ShloMosaic.StableHlo
open Cert.Hand
open Cert.ReferenceIdeal.Gen Cert.ReferenceIdeal.Value
open Cert.KernelIdeal.Hand (Weights Carry cell drawn drawn_isTop)
open Cert.KernelIdeal.Gen (k0_pay15 k0_pay16 k0_pay17)

variable {U : Valuation τ sig (Elt Ideal)} {W : Weights Ideal} {z : Vec Ideal Cert.KernelIdeal.S1x8x4096 .f32} {s : Carry Ideal}

/-- The trip draws the token the kernel draws. -/
theorem pick_same
    (hz : ∀ b v, (U (Proc.devRef .tc main_while0b_v75) : Vec Ideal S8x4096 .f32) (ix2 b v) = z (ix3 0 b v))
    (hs : ∀ b v, (U (Proc.devRef .tc main_while0b_v72) : Vec Ideal S8x4096 .f32) (ix2 b v) = k0_pay15 (cell W s) W.wout W.bout (ix2 b v))
    (b : Fin 8) :
    after while0Ops0_5 (after while0Ops0_4 U) (Proc.devRef .tc main_while0b_v77) (ix1 b) = drawn W z s (ix2 b 0) := by
  have hy : ∀ k, (after while0Ops0_4 U (Proc.devRef .tc main_while0b_v76) : Vec Ideal S8x4096 .f32) (ix2 b k) =
      k0_pay15 (cell W s) W.wout W.bout (ix2 b k) + z (ix3 0 b k) := fun k => by
    after_reads_simp
    pointwise [hz, hs]
    exact add_comm (_ : EReal) _
  obtain ⟨k, hk, ht⟩ := pick_isTop (after while0Ops0_4 U (Proc.devRef .tc main_while0b_v76) : Vec Ideal S8x4096 .f32) b
  obtain ⟨l, hl, hd⟩ := drawn_isTop W z s b
  simp only [hy] at ht
  rw [hl, ← ht.unique hd, ← hk]
  after_reads_simp
  simp only [TRef.toBuf, TRef.ofBuf, cast_eq]

/-- A number below 4096 is found inside the table. -/
theorem inside (k : Fin 4096) :
    IntOp.andi (IntOp.cmpi .sge (BitVec.ofNat 32 k.val) 0#32) (IntOp.cmpi .sle (BitVec.ofNat 32 k.val) 4095#32) = 1#1 := by
  have h := toInt_place k
  have hk := k.isLt
  have e0 : (0#32 : BitVec 32).toInt = 0 := by decide
  have e1 : (4095#32 : BitVec 32).toInt = 4095 := by decide
  have h0 : IntOp.cmpi .sge (BitVec.ofNat 32 k.val) 0#32 = 1#1 := by
    simp only [IntOp.cmpi, BitVec.sle, h, e0]
    rw [decide_eq_true (by omega)]; rfl
  have h1 : IntOp.cmpi .sle (BitVec.ofNat 32 k.val) 4095#32 = 1#1 := by
    simp only [IntOp.cmpi, BitVec.sle, h, e1]
    rw [decide_eq_true (by omega)]; rfl
  rw [h0, h1]; rfl

/-- All of them ones, their conjunction is one. -/
theorem all_ones {ι : Type} [DecidableEq ι] (t : Finset ι) : t.fold IntOp.andi 1#1 (fun _ => 1#1) = 1#1 := by
  induction t using Finset.induction_on with
  | empty => rfl
  | insert a t ha ih => rw [Finset.fold_insert ha, ih]; rfl

/-- A sum that counts one place only is what stands there. -/
theorem one_place (f : Fin 4096 → EReal) (k : Fin 4096) :
    ∑ x : Fin 4096, Scalar.select (IntOp.cmpi .eq (BitVec.ofNat 32 x.val) (BitVec.ofNat 32 k.val)) (f x) 0 = f k := by
  rw [Finset.sum_eq_single k]
  · simp [Scalar.select, IntOp.cmpi]
  · intro x _ hx
    have : BitVec.ofNat 32 x.val ≠ BitVec.ofNat 32 k.val := fun e => hx (Fin.ext (by
      have := congrArg BitVec.toNat e
      have h1 := x.isLt
      have h2 := k.isLt
      rwa [BitVec.toNat_ofNat, BitVec.toNat_ofNat, Nat.mod_eq_of_lt (by omega), Nat.mod_eq_of_lt (by omega)] at this))
    have hb : (BitVec.ofNat 32 x.val == BitVec.ofNat 32 k.val) = false := beq_eq_false_iff_ne.mpr this
    simp only [Scalar.select, IntOp.cmpi, hb]
    rfl
  · intro h; exact absurd (Finset.mem_univ k) h

/-- The entry the trip takes is the kernel's. -/
theorem entry_same (b : Fin 8)
    (hs : ∀ v, (U (Proc.devRef .tc main_while0b_v72) : Vec Ideal S8x4096 .f32) (ix2 b v) = k0_pay15 (cell W s) W.wout W.bout (ix2 b v))
    (hp : (U (Proc.devRef .tc main_while0b_v77) : Vec Ideal S8 .i32) (ix1 b) = drawn W z s (ix2 b 0)) :
    after while0Ops0_8 (after while0Ops0_7 (after while0Ops0_6 U)) (Proc.devRef .tc main_while0b_v80) (ix2 b 0) =
      k0_pay17 (cell W s) W.wout W.bout z (ix2 b 0) := by
  obtain ⟨k, hk, -⟩ := drawn_isTop W z s b
  have hk' := hk
  unfold drawn at hk'
  have e79 : (after while0Ops0_7 (after while0Ops0_6 U) (Proc.devRef .tc main_while0b_v79) : Vec Ideal S8x1 .i32) (ix2 b 0) = BitVec.ofNat 32 k.val := by
    rw [← hk, ← hp]
    after_reads_simp
    pointwise
  have e78 : ∀ v, (after while0Ops0_7 (after while0Ops0_6 U) (Proc.devRef .tc main_while0b_v78) : Vec Ideal S8x4096 .f32) (ix2 b v) =
      (k0_pay15 (cell W s) W.wout W.bout (ix2 b v) - (Finset.univ : Finset (Fin 4096)).fold max ⊥ (fun x => k0_pay15 (cell W s) W.wout W.bout (ix2 b x))
        - Ideal.log (∑ x : Fin 4096, Ideal.exp (k0_pay15 (cell W s) W.wout W.bout (ix2 b x)
          - (Finset.univ : Finset (Fin 4096)).fold max ⊥ (fun x => k0_pay15 (cell W s) W.wout W.bout (ix2 b x)))) : EReal) := by
    intro v
    after_reads_simp
    simp only [TRef.toBuf, TRef.ofBuf, cast_eq]
    pointwise [hs]
    simp only [Cert.KernelIdeal.Hand.ofBits_least, bot_le, sup_of_le_right]
  unfold k0_pay17
  pointwise [hk', one_place]
  generalize after while0Ops0_7 (after while0Ops0_6 U) = V at *
  after_reads_simp
  simp only [TRef.toBuf, TRef.ofBuf, cast_eq]
  pointwise [e79, wrapped]
  have hw : ∀ q : BitVec 32, q = BitVec.ofNat 32 k.val →
      Scalar.select (IntOp.cmpi .slt q 0#32) (IntOp.addi q 4096#32) q = BitVec.ofNat 32 k.val := by
    rintro _ rfl
    exact wrapped k _
  simp only [inside, all_ones, Cert.KernelIdeal.Hand.ofBits_least]
  rw [entry_at _ _ b k (hw _ e79), e78]
  rfl

end Cert.ReferenceIdeal.Hand

end
-- ==== Proof.Trip.lean ====
/-
One trip of the reference's loop: what it leaves in the carried buffers is the kernel's step.
-/
module

public import proofs.«01_k».proof.Proof.Late
public import proofs.«01_k».proof.Proof.Middle

@[expose] public section

set_option maxRecDepth 16384

noncomputable section

namespace Cert.ReferenceIdeal.Hand

open Idealize.ShloMosaic Idealize.ShloMosaic.TcCoe Idealize.ShloMosaic.StableHlo
open Cert.Hand
open Cert.ReferenceIdeal.Gen Cert.ReferenceIdeal.Value
open Cert.KernelIdeal.Hand (Weights Carry cell drawn spoken step)
open Cert.KernelIdeal.Gen (k0_pay15)

/-- Stretches `i` to `j` of the loop's body, without the last. -/
abbrev span (i j : ℕ) (V : Valuation τ sig (Elt Ideal)) : Valuation τ sig (Elt Ideal) := afterL ((bodyI.take j).drop i) V

/-- They keep what none of them writes. -/
theorem span_keeps (i j : ℕ) {r : Ref sig .tc} (h : ∀ w ∈ (bodyWrites.take j).drop i, r ∉ w) (V : Valuation τ sig (Elt Ideal)) :
    span i j V (Proc.devRef .tc r) = V (Proc.devRef .tc r) :=
  afterL_keeps (List.forall₂_drop i (List.forall₂_take j body_within)) h V

/-- A number below `n` as a word, read back. -/
theorem toInt_ofNat_lt {k : ℕ} (h : k < 2 ^ 31) : (BitVec.ofNat 32 k).toInt = k := by
  rw [BitVec.toInt_eq_toNat_cond, BitVec.toNat_ofNat, Nat.mod_eq_of_lt (by omega), if_pos (by omega)]

/-- One entry taken out of a list. -/
theorem take_entry {α : Type} (x : S512.Idx → α) (st : Fin 1 → Int) (h : S512.Slices (fun _ => 0) S1) (k : Fin 512)
    (h0 : st 0 = k.val) : Host.dynamicSlice S1 x st h (ix1 0) = x (ix1 k) := by
  have kl := k.isLt
  have c0 := Host.clampedStart_of_le (s := S512) (t := S1) h.1 st 0 k.val h0 (by show k.val + 1 ≤ 512; omega)
  pointwise
  exact congrArg x (congrArg ix1 (Fin.ext c0))

/-- A list of one entry, as a number. -/
theorem only_entry {α : Type} (x : S1.Idx → α) (h : S1.ShapeCasts S_) : shapeCast S_ x h ix0 = x (ix1 0) := by
  pointwise

/-- A row written into a table, the others kept. -/
theorem put_row {α : Type} (x : S512x8.Idx → α) (u : S1x8.Idx → α) (st : Fin 2 → Int) (h : S512x8.Slices (fun _ => 0) S1x8)
    (k t : Fin 512) (b : Fin 8) (h0 : st 0 = k.val) (h1 : st 1 = (0 : ℕ)) :
    Host.dynamicUpdateSlice x u st h (ix2 t b) = if t = k then u (ix2 0 b) else x (ix2 t b) := by
  have kl := k.isLt
  have c0 := Host.clampedStart_of_le (s := S512x8) (t := S1x8) h.1 st 0 k.val h0 (by show k.val + 1 ≤ 512; omega)
  have c1 := Host.clampedStart_of_le (s := S512x8) (t := S1x8) h.1 st 1 0 h1 (by show 0 + 8 ≤ 8; omega)
  pointwise
  by_cases e : t = k
  · rw [dif_pos ⟨⟨by rw [c0, e], by rw [c0, e]; omega⟩, by rw [c1]; omega⟩, if_pos e]
    refine congrArg u (congrArg₂ ix2 (Fin.ext ?_) (Fin.ext ?_))
    · show t.val - _ = 0
      rw [c0, e, Nat.sub_self]
    · show b.val - _ = b.val
      rw [c1, Nat.sub_zero]
  · rw [dif_neg (fun hh => e (Fin.ext (by have := hh.1; rw [c0] at this; omega))), if_neg e]

variable {X : Valuation τ sig (Elt Ideal)} {W : Weights Ideal} {s : Carry Ideal} {k : Fin 512}
  {z : Vec Ideal Cert.KernelIdeal.S1x8x4096 .f32}

/-- The trip reads its own number. -/
theorem trip_number (hk : (X (Proc.devRef .tc main_v20_9) : Vec Ideal S_ .i32) = fun _ => BitVec.ofNat 32 k.val)
    (hi : (X (Proc.devRef .tc main_v20_0) : Vec Ideal S512 .i32) (ix1 k) = BitVec.ofNat 32 k.val) :
    (after while0Ops0 X (Proc.devRef .tc main_while0b_v22) : Vec Ideal S_ .i32) ix0 = BitVec.ofNat 32 k.val := by
  after_reads_simp
  simp only [TRef.toBuf, TRef.ofBuf, cast_eq]
  refine (only_entry _ _).trans ((take_entry _ _ _ k ?_).trans hi)
  show BitVec.toInt ((X (Proc.devRef .tc main_v20_9) : Vec Ideal S_ .i32) (Shape.Idx.first h_S_)) = _
  rw [hk]
  exact toInt_ofNat_lt (by have := k.isLt; omega)

/-- The trip writes its row of the tokens spoken and keeps the others. -/
theorem row_written {V : Valuation τ sig (Elt Ideal)}
    (hk : (V (Proc.devRef .tc main_v20_9) : Vec Ideal S_ .i32) = fun _ => BitVec.ofNat 32 k.val) (t : Fin 512) (b : Fin 8) :
    (after while0Ops0_18 V (Proc.devRef .tc main_while0b_v96) : Vec Ideal S512x8 .i32) (ix2 t b) =
      if t = k then (V (Proc.devRef .tc main_while0b_v82) : Vec Ideal S8 .i32) (ix1 b)
      else (V (Proc.devRef .tc main_v20_15) : Vec Ideal S512x8 .i32) (ix2 t b) := by
  have h9 : (upto while0Ops0_18 V 2 (Proc.devRef .tc main_v20_9) : Vec Ideal S_ .i32) = fun _ => BitVec.ofNat 32 k.val := by
    rw [← hk]
    show after (while0Ops0_18.take 2) V _ = _
    unfold while0Ops0_18
    simp only [List.take]
    after_reads_simp
  have hc : (upto while0Ops0_18 V 2 (Proc.devRef .tc main_while0b_call11_c) : Vec Ideal S_ .i32) = fun _ => 0#32 := by
    show after (while0Ops0_18.take 2) V _ = _
    unfold while0Ops0_18
    simp only [List.take]
    after_reads_simp
    rfl
  after_reads_simp
  simp only [TRef.toBuf, TRef.ofBuf, cast_eq]
  refine (put_row _ _ _ _ k t b ?_ ?_).trans ?_
  · show BitVec.toInt ((upto while0Ops0_18 V 2 (Proc.devRef .tc main_v20_9) : Vec Ideal S_ .i32) (Shape.Idx.first h_S_)) = _
    rw [h9]; exact toInt_ofNat_lt (by have := k.isLt; omega)
  · show BitVec.toInt ((upto while0Ops0_18 V 2 (Proc.devRef .tc main_while0b_call11_c) : Vec Ideal S_ .i32) (Shape.Idx.first h_S_)) = _
    rw [hc]; rfl
  · pointwise

/-- Before its last part the trip has reached what the kernel's step reaches. -/
theorem reached (T : Tables X W) (H : Holding X s) (hr : ∀ b, ∃ r : Fin 4096, s.tok (ix2 b 0) = BitVec.ofNat 32 r.val)
    (hk : (X (Proc.devRef .tc main_v20_9) : Vec Ideal S_ .i32) = fun _ => BitVec.ofNat 32 k.val)
    (hi : (X (Proc.devRef .tc main_v20_0) : Vec Ideal S512 .i32) (ix1 k) = BitVec.ofNat 32 k.val)
    (hz : ∀ b v, (span 0 4 X (Proc.devRef .tc main_while0b_v75) : Vec Ideal S8x4096 .f32) (ix2 b v) = z (ix3 0 b v)) :
    Reached (span 0 9 X) W (BitVec.ofNat 32 k.val) z s := by
  have k1 {r : Ref sig .tc} (h) := span_keeps 0 1 (r := r) h X
  have T1 : Tables (span 0 1 X) W := by
    constructor <;> intros <;> rw [k1 (by decide +kernel)]
    · exact T.emb _ _
    · exact T.wih _ _
    · exact T.bih _
    · exact T.whh _ _
    · exact T.bhh _
    · exact T.wout _ _
    · exact T.bout _
  have hc := fun b => cell_same T1 (fun b j => by rw [k1 (by decide +kernel)]; exact H.hid b j)
    (fun b => by rw [k1 (by decide +kernel)]; exact H.tok b) hr b
  have e72 : ∀ b v, (span 2 4 (span 0 2 X) (Proc.devRef .tc main_while0b_v72) : Vec Ideal S8x4096 .f32) (ix2 b v) =
      k0_pay15 (cell W s) W.wout W.bout (ix2 b v) :=
    fun b v => by rw [span_keeps 2 4 (by decide +kernel)]; exact (hc b).2 v
  have hp := pick_same (U := span 0 4 X) hz e72
  refine ⟨?_, ?_, ?_, ?_⟩
  · show (span 1 9 (after while0Ops0 X) (Proc.devRef .tc main_while0b_v22) : Vec Ideal S_ .i32) ix0 = _
    rw [span_keeps 1 9 (by decide +kernel)]
    exact trip_number hk hi
  · intro b j
    show (span 2 9 (span 0 2 X) (Proc.devRef .tc main_while0b_v67) : Vec Ideal S8x512 .f32) (ix2 b j) = _
    rw [span_keeps 2 9 (by decide +kernel)]
    exact (hc b).1 j
  · intro b
    show (span 6 9 (span 0 6 X) (Proc.devRef .tc main_while0b_v77) : Vec Ideal S8 .i32) (ix1 b) = _
    rw [span_keeps 6 9 (by decide +kernel)]
    exact hp b
  · intro b
    refine entry_same (U := span 0 6 X) b (fun v => ?_) (hp b)
    show (span 4 6 (span 0 4 X) (Proc.devRef .tc main_while0b_v72) : Vec Ideal S8x4096 .f32) (ix2 b v) = _
    rw [span_keeps 4 6 (by decide +kernel)]
    exact e72 b v

end Cert.ReferenceIdeal.Hand

end
-- ==== Proof.Settled.lean ====
/-
A straight line of host operations in which every buffer is written once, and read only after that: its last contents
satisfy every operation's own equation at once. This turns a long line into a list of small equations between buffers.
-/
module

public import Idealize.ShloMosaic.Lib.StableHlo.Run

@[expose] public section

noncomputable section

namespace Cert.Hand

open Idealize.ShloMosaic Idealize.ShloMosaic.StableHlo

variable {τ : Topo} {sig : RefSig} {Val : EltTy → Type}

/-- `op` writes `d` alone, and what it writes there is settled by the contents of `rs`. -/
structure Reads (op : HloOp τ sig Val) (p : List (Ref sig .tc) × Ref sig .tc) : Prop where
  writes : op.writes = {Proc.devRef .tc p.2}
  congr : ∀ F G : Valuation τ sig Val, (∀ r ∈ p.1, F (Proc.devRef .tc r) = G (Proc.devRef .tc r)) →
    op.result F (Proc.devRef .tc p.2) = op.result G (Proc.devRef .tc p.2)

theorem Reads.nullary (y : Ref sig .tc) (v : y.ty.Contents Val) (hy) :
    Reads (StableHlo.nullary (τ := τ) y v hy) ([], y) :=
  ⟨rfl, fun F G _ => by rw [nullary_result, nullary_result]⟩

theorem Reads.unary (x y : Ref sig .tc) (f : x.ty.Contents Val → y.ty.Contents Val) (hx hy) :
    Reads (StableHlo.unary (τ := τ) x y f hx hy) ([x], y) :=
  ⟨rfl, fun F G h => by rw [unary_result, unary_result]; exact congrArg f (h x (by simp))⟩

theorem Reads.binary (a b y : Ref sig .tc) (f : a.ty.Contents Val → b.ty.Contents Val → y.ty.Contents Val) (ha hb hy) :
    Reads (StableHlo.binary (τ := τ) a b y f ha hb hy) ([a, b], y) :=
  ⟨rfl, fun F G h => by rw [binary_result, binary_result]; exact congrArg₂ f (h a (by simp)) (h b (by simp))⟩

theorem Reads.ternary (c a b y : Ref sig .tc)
    (f : c.ty.Contents Val → a.ty.Contents Val → b.ty.Contents Val → y.ty.Contents Val) (hc ha hb hy) :
    Reads (StableHlo.ternary (τ := τ) c a b y f hc ha hb hy) ([c, a, b], y) :=
  ⟨rfl, fun F G h => by
    rw [ternary_result, ternary_result]
    have e1 := h c (by simp)
    have e2 := h a (by simp)
    have e3 := h b (by simp)
    rw [e1, e2, e3]⟩

theorem Reads.reshape (x y : Ref sig .tc) (he hn hx hy) :
    Reads (StableHlo.reshape (τ := τ) (Val := Val) x y he hn hx hy) ([x], y) :=
  ⟨rfl, fun F G h => by
    rw [reshape_result, reshape_result]
    funext i
    exact congrArg (fun X => he ▸ shapeCast y.ty.shape X hn i) (h x (by simp))⟩

/-- No buffer is written twice, and none is read before it is written. -/
def Once : List (List (Ref sig .tc) × Ref sig .tc) → Bool
  | [] => true
  | p :: ps => !(p.1.contains p.2) && ps.all (fun q => !(p.1.contains q.2) && !(q.2 == p.2)) && Once ps

/-- Every operation's equation. -/
def Holds (W : Valuation τ sig Val) : List (HloOp τ sig Val) → Prop
  | [] => True
  | op :: ops => (∀ b ∈ op.writes, W b = op.result W b) ∧ Holds W ops

/-- A buffer none of the operations writes keeps its contents. -/
theorem keeps {ops : List (HloOp τ sig Val)} {ps : List (List (Ref sig .tc) × Ref sig .tc)} (h : List.Forall₂ Reads ops ps)
    {r : Ref sig .tc} (hr : ∀ q ∈ ps, q.2 ≠ r) (V : Valuation τ sig Val) :
    after ops V (Proc.devRef .tc r) = V (Proc.devRef .tc r) := by
  induction h generalizing V with
  | nil => rfl
  | @cons op p ops ps hd _ ih =>
    rw [after_cons, ih (fun q hq => hr q (List.mem_cons_of_mem _ hq)), op.result_of_not_mem]
    rw [hd.writes, Finset.mem_singleton]
    exact devRef_ne_of_ne (hr p List.mem_cons_self).symm

/-- The last contents of such a line satisfy every operation's equation. -/
theorem settled {ops : List (HloOp τ sig Val)} {ps : List (List (Ref sig .tc) × Ref sig .tc)} (h : List.Forall₂ Reads ops ps)
    (ho : Once ps = true) (V : Valuation τ sig Val) : Holds (after ops V) ops := by
  induction h generalizing V with
  | nil => trivial
  | @cons op p ops ps hd hs ih =>
    simp only [Once, Bool.and_eq_true, Bool.not_eq_true', List.all_eq_true, beq_eq_false_iff_ne,
      List.contains_eq_mem, decide_eq_false_iff_not] at ho
    obtain ⟨⟨h1, h2⟩, h3⟩ := ho
    refine ⟨fun b hb => ?_, ih h3 _⟩
    rw [hd.writes, Finset.mem_singleton] at hb
    subst hb
    rw [after_cons, keeps hs (fun q hq => (h2 q hq).2) (op.result V)]
    refine hd.congr _ _ fun r hr => ?_
    rw [keeps hs (fun q hq e => (h2 q hq).1 (e ▸ hr)) (op.result V), op.result_of_not_mem]
    rw [hd.writes, Finset.mem_singleton]
    exact devRef_ne_of_ne fun e => h1 (e ▸ hr)

end Cert.Hand

end
-- ==== Proof.ReadsAll.lean ====
/-
Which buffers the host lines that draw the noise read and write, in the kernel's program.
-/
module

public import proofs.«01_k».proof.Proof.Settled
public import proofs.«01_k».proof.Proof.Gen.KernelIdeal.Launch
public import proofs.«01_k».proof.Proof.Gen.KernelIdeal
public import Idealize.ShloMosaic.PureOps.Ideal

@[expose] public section

set_option maxRecDepth 100000

noncomputable section

namespace Cert.Hand

open Idealize.ShloMosaic Idealize.ShloMosaic.StableHlo

/-- Every step's key, drawn at once. -/
theorem keys_once : ∃ ps, List.Forall₂ Reads (Cert.KernelIdeal.Gen.hostOps0_1 (F := Ideal)) ps ∧ Once ps = true := by
  apply Exists.intro
  constructor
  · repeat (first
      | exact .nil
      | apply List.Forall₂.cons (Reads.nullary _ _ _)
      | apply List.Forall₂.cons (Reads.unary _ _ _ _ _)
      | apply List.Forall₂.cons (Reads.binary _ _ _ _ _ _ _)
      | apply List.Forall₂.cons (Reads.reshape _ _ _ _ _ _))
  · decide +kernel

/-- Every step's noise, drawn at once. -/
theorem noise_once : ∃ ps, List.Forall₂ Reads (Cert.KernelIdeal.Gen.hostOps0_2 (F := Ideal)) ps ∧ Once ps = true := by
  apply Exists.intro
  constructor
  · repeat (first
      | exact .nil
      | apply List.Forall₂.cons (Reads.nullary _ _ _)
      | apply List.Forall₂.cons (Reads.unary _ _ _ _ _)
      | apply List.Forall₂.cons (Reads.binary _ _ _ _ _ _ _)
      | apply List.Forall₂.cons (Reads.reshape _ _ _ _ _ _))
  · decide +kernel

end Cert.Hand

end
-- ==== Proof.ReadsOne.lean ====
/-
Which buffers the host lines that draw the noise read and write, in the reference's loop.
-/
module

public import proofs.«01_k».proof.Proof.Settled
public import proofs.«01_k».proof.Proof.Gen.ReferenceIdeal.Run
public import Idealize.ShloMosaic.PureOps.Ideal

@[expose] public section

set_option maxRecDepth 100000

noncomputable section

namespace Cert.Hand

open Idealize.ShloMosaic Idealize.ShloMosaic.StableHlo

/-- One step's key. -/
theorem key_once : ∃ ps, List.Forall₂ Reads (Cert.ReferenceIdeal.Gen.while0Ops0_2 (F := Ideal)) ps ∧ Once ps = true := by
  apply Exists.intro
  constructor
  · repeat (first
      | exact .nil
      | apply List.Forall₂.cons (Reads.nullary _ _ _)
      | apply List.Forall₂.cons (Reads.unary _ _ _ _ _)
      | apply List.Forall₂.cons (Reads.binary _ _ _ _ _ _ _)
      | apply List.Forall₂.cons (Reads.reshape _ _ _ _ _ _))
  · decide +kernel

/-- One step's noise. -/
theorem gumbel_once : ∃ ps, List.Forall₂ Reads (Cert.ReferenceIdeal.Gen.while0Ops0_3 (F := Ideal)) ps ∧ Once ps = true := by
  apply Exists.intro
  constructor
  · repeat (first
      | exact .nil
      | apply List.Forall₂.cons (Reads.nullary _ _ _)
      | apply List.Forall₂.cons (Reads.unary _ _ _ _ _)
      | apply List.Forall₂.cons (Reads.binary _ _ _ _ _ _ _)
      | apply List.Forall₂.cons (Reads.reshape _ _ _ _ _ _))
  · decide +kernel

end Cert.Hand

end
-- ==== Proof.Key.lean ====
/-
The key of each step: the kernel's program makes every step's at once, the reference one a step, and they are the same.
-/
module

public import proofs.«01_k».proof.Proof.Settled
public import proofs.«01_k».proof.Proof.ReadsAll
public import proofs.«01_k».proof.Proof.ReadsOne
public import Idealize.ShloMosaic.Lib.Pointwise
public import proofs.«01_k».proof.Proof.Gen.KernelIdeal.Launch
public import proofs.«01_k».proof.Proof.Gen.ReferenceIdeal.Run

@[expose] public section

set_option maxRecDepth 100000

noncomputable section

namespace Cert.Hand

open Idealize.ShloMosaic Idealize.ShloMosaic.StableHlo

/-- The only place of a scalar. -/
def here : (⟨0, ![]⟩ : Shape).Idx := fun a => a.elim0

/-- A scalar copied everywhere. -/
theorem splat_at {α : Type} {s : Shape} (dims) (h : (⟨0, ![]⟩ : Shape).BroadcastsInDim s dims)
    (x : (⟨0, ![]⟩ : Shape).Idx → α) (j : s.Idx) : broadcastInDim s dims h x j = x here :=
  congrArg x (funext fun a => a.elim0)

set_option maxHeartbeats 4000000 in
/-- Where the seeds agree and the step counts too, so do the keys. -/
theorem key_agree (K : Valuation Cert.KernelIdeal.τ Cert.KernelIdeal.sig (Elt Ideal))
    (R : Valuation Cert.ReferenceIdeal.τ Cert.ReferenceIdeal.sig (Elt Ideal))
    (H : Holds K (Cert.KernelIdeal.Gen.hostOps0_1 (F := Ideal)))
    (H' : Holds R (Cert.ReferenceIdeal.Gen.while0Ops0_2 (F := Ideal)))
     (t : Fin 512) (hs0 : K (Proc.devRef .tc Cert.KernelIdeal.main_v6) (ix1 0) = R (Proc.devRef .tc Cert.ReferenceIdeal.main_v20_8) (ix1 0))
    (hs1 : K (Proc.devRef .tc Cert.KernelIdeal.main_v6) (ix1 1) = R (Proc.devRef .tc Cert.ReferenceIdeal.main_v20_8) (ix1 1))
     (ht : K (Proc.devRef .tc Cert.KernelIdeal.main_v8) (ix1 t) = R (Proc.devRef .tc Cert.ReferenceIdeal.main_while0b_v73) here)
  (j : Fin 2) :
      K (Proc.devRef .tc Cert.KernelIdeal.main_v9) (ix2 t j) = R (Proc.devRef .tc Cert.ReferenceIdeal.main_while0b_v74) (ix1 j) := by
  simp only [Cert.KernelIdeal.Gen.hostOps0_1, Holds, nullary_writes, unary_writes, binary_writes, reshape_writes, Finset.mem_singleton, forall_eq, nullary_result', unary_result', binary_result', reshape_result', TRef.toBuf, TRef.ofBuf, cast_eq] at H
  simp only [Cert.ReferenceIdeal.Gen.while0Ops0_2, Holds, nullary_writes, unary_writes, binary_writes, reshape_writes, Finset.mem_singleton, forall_eq, nullary_result', unary_result', binary_result', reshape_result', TRef.toBuf, TRef.ofBuf, cast_eq] at H'
  have b1 : K (Proc.devRef .tc Cert.KernelIdeal.main_call0_v11) (ix2 t 0) = R (Proc.devRef .tc Cert.ReferenceIdeal.main_while0b_call1_v9) (ix1 0) := by
    simp only [H, H', splat_at]
    pointwise
    simp only [H, H', splat_at]
    pointwise [ht]
  have b2 : K (Proc.devRef .tc Cert.KernelIdeal.main_call0_v12) (ix2 t 0) = R (Proc.devRef .tc Cert.ReferenceIdeal.main_while0b_call1_v10) (ix1 0) := by
    simp only [H, H', splat_at]
    pointwise
    simp only [H, H', splat_at]
    pointwise [ht]
  have b3 : K (Proc.devRef .tc Cert.KernelIdeal.main_call0_v8) here = R (Proc.devRef .tc Cert.ReferenceIdeal.main_while0b_call1_v6) here := by
    simp only [H, H', splat_at]
    pointwise [hs0]
  have b4 : K (Proc.devRef .tc Cert.KernelIdeal.main_call0_v10) here = R (Proc.devRef .tc Cert.ReferenceIdeal.main_while0b_call1_v8) here := by
    simp only [H, H', splat_at]
    pointwise [hs1]
  have e0 : K (Proc.devRef .tc Cert.KernelIdeal.main_call0_v13_0) (ix2 t 0) = R (Proc.devRef .tc Cert.ReferenceIdeal.main_while0b_call1_v11_0) (ix1 0) := by
    simp only [↓b1, ↓b2, ↓b3, ↓b4, ↓H, ↓H', ↓splat_at, ↓xori_apply, ↓addi_apply, ↓ori_apply, ↓andi_apply, ↓Host.shli_apply, ↓Host.shrui_apply]
  have e1 : K (Proc.devRef .tc Cert.KernelIdeal.main_call0_v13_1) (ix2 t 0) = R (Proc.devRef .tc Cert.ReferenceIdeal.main_while0b_call1_v11_1) (ix1 0) := by
    simp only [↓b1, ↓b2, ↓b3, ↓b4, ↓H, ↓H', ↓splat_at, ↓xori_apply, ↓addi_apply, ↓ori_apply, ↓andi_apply, ↓Host.shli_apply, ↓Host.shrui_apply]
  have c : ∀ j, K (Proc.devRef .tc Cert.KernelIdeal.main_v9) j = concatenate Cert.KernelIdeal.S512x2 1
      [⟨Cert.KernelIdeal.S512x1, K (Proc.devRef .tc Cert.KernelIdeal.main_call0_v13_0)⟩,
        ⟨Cert.KernelIdeal.S512x1, K (Proc.devRef .tc Cert.KernelIdeal.main_call0_v13_1)⟩]
      Cert.KernelIdeal.Gen.concatenates_S512x1_S512x1_S512x2_d1 j := by
    simp only [↓H]
    exact fun _ => trivial
  have c' : ∀ j, R (Proc.devRef .tc Cert.ReferenceIdeal.main_while0b_v74) j = concatenate Cert.ReferenceIdeal.S2 0
      [⟨Cert.ReferenceIdeal.S1, R (Proc.devRef .tc Cert.ReferenceIdeal.main_while0b_call1_v11_0)⟩,
        ⟨Cert.ReferenceIdeal.S1, R (Proc.devRef .tc Cert.ReferenceIdeal.main_while0b_call1_v11_1)⟩]
      Cert.ReferenceIdeal.Gen.concatenates_S1_S1_S2_d0 j := by
    simp only [↓H']
    exact fun _ => trivial
  rw [c, c']
  obtain rfl | rfl : j = 0 ∨ j = 1 := by omega
  · pointwise [e0]
  · pointwise [e1]

end Cert.Hand

end
-- ==== Proof.Noise.lean ====
/-
The noise of each step: the kernel's program draws every step's at once, the reference one a step, and they are the same.
-/
module

public import proofs.«01_k».proof.Proof.Key

@[expose] public section

set_option maxRecDepth 100000

noncomputable section

namespace Cert.Hand

open Idealize.ShloMosaic Idealize.ShloMosaic.StableHlo

/-- A number a step, copied over rows and words. -/
theorem steps_at {α : Type} (h : (Cert.KernelIdeal.S512x1x1).BroadcastsInDim Cert.KernelIdeal.S512x8x4096 (![0, 1, 2] : Fin 3 → Fin 3))
    (x : (Cert.KernelIdeal.S512x1x1).Idx → α) (t : Fin 512) (b : Fin 8) (v : Fin 4096) :
    broadcastInDim Cert.KernelIdeal.S512x8x4096 (![0, 1, 2] : Fin 3 → Fin 3) h x (ix3 t b v) = x (ix3 t 0 0) := by
  pointwise

/-- A number a row and word, copied over the steps. -/
theorem places_at {α : Type} (h : (Cert.KernelIdeal.S1x8x4096).BroadcastsInDim Cert.KernelIdeal.S512x8x4096 (![0, 1, 2] : Fin 3 → Fin 3))
    (x : (Cert.KernelIdeal.S1x8x4096).Idx → α) (t : Fin 512) (b : Fin 8) (v : Fin 4096) :
    broadcastInDim Cert.KernelIdeal.S512x8x4096 (![0, 1, 2] : Fin 3 → Fin 3) h x (ix3 t b v) = x (ix3 0 b v) := by
  pointwise

/-- One number, copied over everything. -/
theorem bound_at {α : Type} (h : (Cert.KernelIdeal.S1x1x1).BroadcastsInDim Cert.KernelIdeal.S512x8x4096 (![0, 1, 2] : Fin 3 → Fin 3))
    (h' : (Cert.KernelIdeal.S1x1).BroadcastsInDim Cert.KernelIdeal.S1x1x1 (![1, 2] : Fin 2 → Fin 3))
    (x : (Cert.KernelIdeal.S1x1).Idx → α) (t : Fin 512) (b : Fin 8) (v : Fin 4096) :
    broadcastInDim Cert.KernelIdeal.S512x8x4096 (![0, 1, 2] : Fin 3 → Fin 3) h (broadcastInDim Cert.KernelIdeal.S1x1x1 (![1, 2] : Fin 2 → Fin 3) h' x) (ix3 t b v) =
      x (ix2 0 0) := by
  pointwise

/-- The same in the reference's shape. -/
theorem bound_at' {α : Type} (h : (Cert.ReferenceIdeal.S1x1).BroadcastsInDim Cert.ReferenceIdeal.S8x4096 (![0, 1] : Fin 2 → Fin 2))
    (x : (Cert.ReferenceIdeal.S1x1).Idx → α) (b : Fin 8) (v : Fin 4096) :
    broadcastInDim Cert.ReferenceIdeal.S8x4096 (![0, 1] : Fin 2 → Fin 2) h x (ix2 b v) = x (ix2 0 0) := by
  pointwise

set_option maxHeartbeats 4000000 in
/-- Where the keys agree, so does the noise. -/
theorem noise_agree (K : Valuation Cert.KernelIdeal.τ Cert.KernelIdeal.sig (Elt Ideal))
    (R : Valuation Cert.ReferenceIdeal.τ Cert.ReferenceIdeal.sig (Elt Ideal))
    (H : Holds K (Cert.KernelIdeal.Gen.hostOps0_2 (F := Ideal)))
    (H' : Holds R (Cert.ReferenceIdeal.Gen.while0Ops0_3 (F := Ideal))) (t : Fin 512)
    (hs : ∀ j : Fin 2, K (Proc.devRef .tc Cert.KernelIdeal.main_v9) (ix2 t j) = R (Proc.devRef .tc Cert.ReferenceIdeal.main_while0b_v74) (ix1 j)) (b : Fin 8) (v : Fin 4096) :
    K (Proc.devRef .tc Cert.KernelIdeal.main_v10) (ix3 t b v) = R (Proc.devRef .tc Cert.ReferenceIdeal.main_while0b_v75) (ix2 b v) := by
  have hs0 := hs 0
  have hs1 := hs 1
  clear hs
  simp only [Cert.KernelIdeal.Gen.hostOps0_2, Holds, nullary_writes, unary_writes, binary_writes, reshape_writes, Finset.mem_singleton, forall_eq, nullary_result', unary_result', binary_result', reshape_result', TRef.toBuf, TRef.ofBuf, cast_eq] at H
  simp only [Cert.ReferenceIdeal.Gen.while0Ops0_3, Holds, nullary_writes, unary_writes, binary_writes, reshape_writes, Finset.mem_singleton, forall_eq, nullary_result', unary_result', binary_result', reshape_result', TRef.toBuf, TRef.ofBuf, cast_eq] at H'
  have a1 : K (Proc.devRef .tc Cert.KernelIdeal.main_call1_call0_v18) (ix3 0 b v) = R (Proc.devRef .tc Cert.ReferenceIdeal.main_while0b_call2_call0_v17) (ix2 b v) := by
    simp only [H, H', splat_at]
    pointwise
  have a2 : K (Proc.devRef .tc Cert.KernelIdeal.main_call1_call0_v19) (ix3 0 b v) = R (Proc.devRef .tc Cert.ReferenceIdeal.main_while0b_call2_call0_v16) (ix2 b v) := by
    simp only [H, H', splat_at]
    pointwise
  have a3 : K (Proc.devRef .tc Cert.KernelIdeal.main_call1_call0_v20) (ix3 t 0 0) = R (Proc.devRef .tc Cert.ReferenceIdeal.main_while0b_call2_call0_v4) here := by
    simp only [H, H', splat_at]
    pointwise [hs0]
  have a4 : K (Proc.devRef .tc Cert.KernelIdeal.main_call1_call0_v21) (ix3 t 0 0) = R (Proc.devRef .tc Cert.ReferenceIdeal.main_while0b_call2_call0_v6) here := by
    simp only [H, H', splat_at]
    pointwise [hs1]
  simp only [↓a1, ↓a2, ↓a3, ↓a4, ↓H, ↓H', ↓splat_at, ↓steps_at, ↓places_at, ↓bound_at, ↓bound_at', ↓xori_apply, ↓addi_apply, ↓ori_apply,
    ↓Host.shli_apply, ↓Host.shrui_apply, ↓bitcastToFloat_apply, ↓subf_apply, ↓mulf_apply, ↓addf_apply, ↓maximumf_apply,
    ↓Host.log_apply, ↓Host.negf_apply, ↓id_eq, ↓constant_apply, ↓constantI_apply]

end Cert.Hand

end
-- ==== Proof.Host.lean ====
/-
What the kernel's program computes before its launch: the transposed matrices, and the noise of every step.
-/
module

public import proofs.«01_k».proof.Proof.Gen.KernelIdeal.Frame
public import proofs.«01_k».proof.Proof.ReadsAll
public import Idealize.ShloMosaic.Lib.Pointwise
public import Idealize.ShloMosaic.Lib.StableHlo.RunRead

@[expose] public section

set_option maxRecDepth 100000

noncomputable section

namespace Cert.KernelIdeal.Hand

open Idealize.ShloMosaic Idealize.ShloMosaic.TcCoe Idealize.ShloMosaic.StableHlo
open Cert.Hand
open Cert.KernelIdeal.Gen

variable (m : (ℓ : Loc nD τ sig) → Buf (Elt Ideal) ℓ) (c : Dev nD)

/-- The buffers after the seed. -/
abbrev seeded : Valuation τ sig (Elt Ideal) := after hostOps0 (fun b => m (c, b))
/-- After every step's key. -/
abbrev keyed : Valuation τ sig (Elt Ideal) := after hostOps0_1 (seeded m c)
/-- After every step's noise. -/
abbrev noised : Valuation τ sig (Elt Ideal) := after hostOps0_2 (keyed m c)

theorem V0_eq : V0 m c = after hostOps0_3 (noised m c) := by
  show after (List.flatten [hostOps0, hostOps0_1, hostOps0_2, hostOps0_3]) _ = _
  simp only [List.flatten_cons, List.flatten_nil, List.append_nil, after_append]

theorem keyed_holds : Holds (keyed m c) (hostOps0_1 (F := Ideal)) := by
  obtain ⟨ps, h, ho⟩ := keys_once
  exact settled h ho _

theorem noised_holds : Holds (noised m c) (hostOps0_2 (F := Ideal)) := by
  obtain ⟨ps, h, ho⟩ := noise_once
  exact settled h ho _

/-- The numbers of the steps. -/
theorem seeded_steps (t : Fin 512) : (seeded m c (Proc.devRef .tc main_v8) : Vec Ideal S512 .i32) (ix1 t) = BitVec.ofNat 32 t.val := by
  after_reads_simp
  pointwise
  rfl

/-- The two halves of the seed. -/
theorem seeded_key (j : Fin 2) : (seeded m c (Proc.devRef .tc main_v6) : Vec Ideal S2 .i32) (ix1 j) =
    if (j : ℕ) < 1 then 0#32 else 42#32 := by
  after_reads_simp
  pointwise
  rfl

/-- What a stretch does not write it keeps. -/
theorem keyed_seed : keyed m c (Proc.devRef .tc main_v6) = seeded m c (Proc.devRef .tc main_v6) :=
  after_of_forall_not_mem (b := Proc.devRef .tc main_v6) _ _ (List.forall_iff_forall_mem.mp (by
    simp only [hostOps0_1, List.Forall, nullary_writes, unary_writes, binary_writes, ternary_writes, reshape_writes, Finset.mem_singleton]
    repeat' apply And.intro
    all_goals exact devRef_ne_of_ne (by decide)))

theorem keyed_steps : keyed m c (Proc.devRef .tc main_v8) = seeded m c (Proc.devRef .tc main_v8) :=
  after_of_forall_not_mem (b := Proc.devRef .tc main_v8) _ _ (List.forall_iff_forall_mem.mp (by
    simp only [hostOps0_1, List.Forall, nullary_writes, unary_writes, binary_writes, ternary_writes, reshape_writes, Finset.mem_singleton]
    repeat' apply And.intro
    all_goals exact devRef_ne_of_ne (by decide)))

theorem noised_keys : noised m c (Proc.devRef .tc main_v9) = keyed m c (Proc.devRef .tc main_v9) :=
  after_of_forall_not_mem (b := Proc.devRef .tc main_v9) _ _ (List.forall_iff_forall_mem.mp (by
    simp only [hostOps0_2, List.Forall, nullary_writes, unary_writes, binary_writes, ternary_writes, reshape_writes, Finset.mem_singleton]
    repeat' apply And.intro
    all_goals exact devRef_ne_of_ne (by decide)))

theorem V_noise : V m c main_v10 = noised m c (Proc.devRef .tc main_v10) := by
  show V0 m c _ = _
  rw [V0_eq]
  after_reads_simp

/-- The matrices, transposed, and the biases, as rows. -/
theorem V_wih (x : Fin 512) (j : Fin 1536) : (V m c main_v11 : Vec Ideal S512x1536 .f32) (ix2 x j) =
    (m ((c.tc : Thread nD τ).loc main_arg4) : Vec Ideal S1536x512 .f32) (ix2 j x) := by
  have h := V_main_arg4 m c
  simp only [V, V0_eq] at h ⊢
  generalize noised m c = N at *
  rw [show after hostOps0_3 N (Proc.devRef .tc main_arg4) = N (Proc.devRef .tc main_arg4) by after_reads_simp] at h
  after_reads_simp
  rw [← h]
  pointwise

theorem V_whh (x : Fin 512) (j : Fin 1536) : (V m c main_v12 : Vec Ideal S512x1536 .f32) (ix2 x j) =
    (m ((c.tc : Thread nD τ).loc main_arg5) : Vec Ideal S1536x512 .f32) (ix2 j x) := by
  have h := V_main_arg5 m c
  simp only [V, V0_eq] at h ⊢
  generalize noised m c = N at *
  rw [show after hostOps0_3 N (Proc.devRef .tc main_arg5) = N (Proc.devRef .tc main_arg5) by after_reads_simp] at h
  after_reads_simp
  rw [← h]
  pointwise

theorem V_bih (j : Fin 1536) : (V m c main_v13 : Vec Ideal S1x1536 .f32) (ix2 0 j) =
    (m ((c.tc : Thread nD τ).loc main_arg6) : Vec Ideal S1536 .f32) (ix1 j) := by
  have h := V_main_arg6 m c
  simp only [V, V0_eq] at h ⊢
  generalize noised m c = N at *
  rw [show after hostOps0_3 N (Proc.devRef .tc main_arg6) = N (Proc.devRef .tc main_arg6) by after_reads_simp] at h
  after_reads_simp
  rw [← h]
  pointwise

theorem V_bhh (j : Fin 1536) : (V m c main_v14 : Vec Ideal S1x1536 .f32) (ix2 0 j) =
    (m ((c.tc : Thread nD τ).loc main_arg7) : Vec Ideal S1536 .f32) (ix1 j) := by
  have h := V_main_arg7 m c
  simp only [V, V0_eq] at h ⊢
  generalize noised m c = N at *
  rw [show after hostOps0_3 N (Proc.devRef .tc main_arg7) = N (Proc.devRef .tc main_arg7) by after_reads_simp] at h
  after_reads_simp
  rw [← h]
  pointwise

theorem V_wout (x : Fin 512) (j : Fin 4096) : (V m c main_v15 : Vec Ideal S512x4096 .f32) (ix2 x j) =
    (m ((c.tc : Thread nD τ).loc main_arg8) : Vec Ideal S4096x512 .f32) (ix2 j x) := by
  have h := V_main_arg8 m c
  simp only [V, V0_eq] at h ⊢
  generalize noised m c = N at *
  rw [show after hostOps0_3 N (Proc.devRef .tc main_arg8) = N (Proc.devRef .tc main_arg8) by after_reads_simp] at h
  after_reads_simp
  rw [← h]
  pointwise

theorem V_bout (j : Fin 4096) : (V m c main_v16 : Vec Ideal S1x4096 .f32) (ix2 0 j) =
    (m ((c.tc : Thread nD τ).loc main_arg9) : Vec Ideal S4096 .f32) (ix1 j) := by
  have h := V_main_arg9 m c
  simp only [V, V0_eq] at h ⊢
  generalize noised m c = N at *
  rw [show after hostOps0_3 N (Proc.devRef .tc main_arg9) = N (Proc.devRef .tc main_arg9) by after_reads_simp] at h
  after_reads_simp
  rw [← h]
  pointwise

end Cert.KernelIdeal.Hand

end
-- ==== Proof.Blocks.lean ====
/-
The blocks the kernel's windows bring in: the noise of the point's step, and everything else whole at every point.
-/
module

public import proofs.«01_k».proof.Proof.Chain
public import Idealize.ShloMosaic.Lib.Pointwise
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Cert.KernelIdeal.Gen

variable (m : (ℓ : Loc nD τ sig) → Buf (Elt Ideal) ℓ) (c : Dev nD)

theorem index_1 : ∀ t : Fin cfg0.N, win0_1.index t = ![(grid0.coords t 0).val, 0, 0] :=
  (by decide +kernel : ∀ t : Fin grid0.N, _)
theorem index_0 : ∀ t : Fin cfg0.N, win0_0.index t = ![0] :=
  (by decide +kernel : ∀ t : Fin grid0.N, _)
theorem index_2 : ∀ t : Fin cfg0.N, win0_2.index t = ![0, 0] :=
  (by decide +kernel : ∀ t : Fin grid0.N, _)
theorem index_3 : ∀ t : Fin cfg0.N, win0_3.index t = ![0, 0] :=
  (by decide +kernel : ∀ t : Fin grid0.N, _)
theorem index_4 : ∀ t : Fin cfg0.N, win0_4.index t = ![0, 0] :=
  (by decide +kernel : ∀ t : Fin grid0.N, _)
theorem index_5 : ∀ t : Fin cfg0.N, win0_5.index t = ![0, 0] :=
  (by decide +kernel : ∀ t : Fin grid0.N, _)
theorem index_6 : ∀ t : Fin cfg0.N, win0_6.index t = ![0, 0] :=
  (by decide +kernel : ∀ t : Fin grid0.N, _)
theorem index_7 : ∀ t : Fin cfg0.N, win0_7.index t = ![0, 0] :=
  (by decide +kernel : ∀ t : Fin grid0.N, _)
theorem index_8 : ∀ t : Fin cfg0.N, win0_8.index t = ![0, 0] :=
  (by decide +kernel : ∀ t : Fin grid0.N, _)
theorem index_9 : ∀ t : Fin cfg0.N, win0_9.index t = ![0, 0] :=
  (by decide +kernel : ∀ t : Fin grid0.N, _)

theorem block_noise (t : Fin cfg0.N) (b : Fin 8) (v : Fin 4096) :
    (iblk m c 1 t : Vec Ideal S1x8x4096 .f32) (ix3 0 b v) =
      (V m c main_v10 : Vec Ideal S512x8x4096 .f32) (ix3 ⟨t.val, lt_of_lt_of_eq t.isLt N_0⟩ b v) := by
  blk_simp [iblk, index_1]
  congr 1
  blk_ext [index_1, coord_eq]

theorem block_0 (t : Fin cfg0.N) (b : Fin 8) :
    (iblk m c 0 t : Vec Ideal S8 .i32) (ix1 b) = (V m c main_arg0 : Vec Ideal S8 .i32) (ix1 b) := by
  blk_simp [iblk]
  congr 1
  blk_ext [index_0]

theorem block_2 (t : Fin cfg0.N) (x : Fin 1024) (j : Fin 512) :
    (iblk m c 2 t : Vec Ideal S1024x512 .f32) (ix2 x j) = (V m c main_arg2 : Vec Ideal S1024x512 .f32) (ix2 x j) := by
  blk_simp [iblk]
  congr 1
  blk_ext [index_2]

theorem block_3 (t : Fin cfg0.N) (x : Fin 4096) (j : Fin 512) :
    (iblk m c 3 t : Vec Ideal S4096x512 .f32) (ix2 x j) = (V m c main_arg3 : Vec Ideal S4096x512 .f32) (ix2 x j) := by
  blk_simp [iblk]
  congr 1
  blk_ext [index_3]

theorem block_4 (t : Fin cfg0.N) (x : Fin 512) (j : Fin 1536) :
    (iblk m c 4 t : Vec Ideal S512x1536 .f32) (ix2 x j) = (V m c main_v11 : Vec Ideal S512x1536 .f32) (ix2 x j) := by
  blk_simp [iblk]
  congr 1
  blk_ext [index_4]

theorem block_5 (t : Fin cfg0.N) (x : Fin 512) (j : Fin 1536) :
    (iblk m c 5 t : Vec Ideal S512x1536 .f32) (ix2 x j) = (V m c main_v12 : Vec Ideal S512x1536 .f32) (ix2 x j) := by
  blk_simp [iblk]
  congr 1
  blk_ext [index_5]

theorem block_6 (t : Fin cfg0.N) (x : Fin 1) (j : Fin 1536) :
    (iblk m c 6 t : Vec Ideal S1x1536 .f32) (ix2 x j) = (V m c main_v13 : Vec Ideal S1x1536 .f32) (ix2 x j) := by
  blk_simp [iblk]
  congr 1
  blk_ext [index_6]

theorem block_7 (t : Fin cfg0.N) (x : Fin 1) (j : Fin 1536) :
    (iblk m c 7 t : Vec Ideal S1x1536 .f32) (ix2 x j) = (V m c main_v14 : Vec Ideal S1x1536 .f32) (ix2 x j) := by
  blk_simp [iblk]
  congr 1
  blk_ext [index_7]

theorem block_8 (t : Fin cfg0.N) (x : Fin 512) (j : Fin 4096) :
    (iblk m c 8 t : Vec Ideal S512x4096 .f32) (ix2 x j) = (V m c main_v15 : Vec Ideal S512x4096 .f32) (ix2 x j) := by
  blk_simp [iblk]
  congr 1
  blk_ext [index_8]

theorem block_9 (t : Fin cfg0.N) (x : Fin 1) (j : Fin 4096) :
    (iblk m c 9 t : Vec Ideal S1x4096 .f32) (ix2 x j) = (V m c main_v16 : Vec Ideal S1x4096 .f32) (ix2 x j) := by
  blk_simp [iblk]
  congr 1
  blk_ext [index_9]

end Cert.KernelIdeal.Hand

end
-- ==== Proof.Results.lean ====
/-
What the kernel's program ends with: the tokens spoken at every step, and the last numbers and log probabilities.
-/
module

public import proofs.«01_k».proof.Proof.Blocks
public import proofs.«01_k».proof.Proof.Launch
public import Idealize.ShloMosaic.Lib.StableHlo.RunRead

@[expose] public section

set_option maxRecDepth 16384

noncomputable section

namespace Cert.KernelIdeal.Hand

open Idealize.ShloMosaic Idealize.ShloMosaic.TcCoe Idealize.ShloMosaic.StableHlo Idealize.ShloMosaic.Tactic
open Idealize.SL.Sem
open Cert.KernelIdeal.Gen

variable (m : (ℓ : Loc nD τ sig) → Buf (Elt Ideal) ℓ) (c : Dev nD)

/-- A step's point. -/
abbrev ptOf (n : Fin 512) : Fin cfg0.N := ⟨n.val, by rw [show cfg0.N = 512 from N_0]; exact n.isLt⟩

theorem index_10 : ∀ t : Fin cfg0.N, win0_10.index t = ![(grid0.coords t 0).val, 0, 0] :=
  (by decide +kernel : ∀ t : Fin grid0.N, _)
theorem index_11 : ∀ t : Fin cfg0.N, win0_11.index t = ![0, 0] :=
  (by decide +kernel : ∀ t : Fin grid0.N, _)
theorem index_12 : ∀ t : Fin cfg0.N, win0_12.index t = ![0, 0] :=
  (by decide +kernel : ∀ t : Fin grid0.N, _)

/-- The tokens spoken. -/
def words : Vec Ideal S512x8x1 .i32 := fun i =>
  spoken (weightsAt m c (ptOf (i 0))) (iblk m c 1 (ptOf (i 0))) (chain m c (i 0).val) (ix3 0 (i 1) 0)

theorem words_at (n : Fin 512) (b : Fin 8) : words m c (ix3 n b 0) =
    spoken (weightsAt m c (ptOf n)) (iblk m c 1 (ptOf n)) (chain m c n.val) (ix3 0 b 0) := rfl

theorem final_words : (dats m 0 c).arrAt 10 cfg0.N = words m c := by
  refine (dats m 0 c).arrAt_eq_of_covers 10 _ (by decide +kernel) fun t hf y => ?_
  blk_simp
  rw [after_10]
  have ht : t.val < 512 := lt_of_lt_of_eq t.isLt N_0
  obtain ⟨b, hy⟩ : ∃ b : Fin 8, y = (ix3 0 b 0 : S1x8x1.Idx) := ⟨y 1, funext fun d => match d with
    | ⟨0, _⟩ => Subsingleton.elim (α := Fin 1) _ _
    | ⟨1, _⟩ => rfl
    | ⟨2, _⟩ => Subsingleton.elim (α := Fin 1) _ _⟩
  have he : (win0_10.blk t).view.emb y = (ix3 ⟨t.val, ht⟩ b 0 : S512x8x1.Idx) := by
    subst hy
    blk_ext [index_10, coord_eq]
  rw [he, words_at, hy]

theorem final_count : (dats m 0 c).arrAt 11 cfg0.N = (chain m c 512).count := by
  refine (dats m 0 c).arrAt_eq_of_after_last 11 (ptOf 511) (by decide +kernel) _ fun j => ?_
  rw [after_11]
  blk_simp
  rfl

theorem final_logp : (dats m 0 c).arrAt 12 cfg0.N = (chain m c 512).logp := by
  refine (dats m 0 c).arrAt_eq_of_after_last 12 (ptOf 511) (by decide +kernel) _ fun j => ?_
  rw [after_12]
  blk_simp
  rfl

/-- The three results at the end of a run. -/
theorem ends (r : PUnit × MemSt nD τ sig (Elt Ideal))
    (h : Pipeline.FramePost cfgs (dats m) 0 (Pipeline.afterTail₀ cfgs (dats m) 0 (V0 m) [hostOps1]) r) :
    (∀ b n, (r.2.mem ((c.tc : Thread nD τ).loc main_v19) : Vec Ideal S8x512 .i32) (ix2 b n) =
      spoken (weightsAt m c (ptOf n)) (iblk m c 1 (ptOf n)) (chain m c n.val) (ix3 0 b 0)) ∧
    (∀ b, (r.2.mem ((c.tc : Thread nD τ).loc main_v20) : Vec Ideal S8 .i32) (ix1 b) = (chain m c 512).count (ix2 b 0)) ∧
    (∀ b, (r.2.mem ((c.tc : Thread nD τ).loc main_v21) : Vec Ideal S8 .f32) (ix1 b) = (chain m c 512).logp (ix2 b 0)) := by
  have inj : Function.Injective (Pipeline.arrRef spec0) := by decide +kernel
  have w10 := Pipeline.withArrays_arr spec0 inj c (V0 m c) (fun w => (dats m 0 c).arrAt w cfg0.N) 10
  have w11 := Pipeline.withArrays_arr spec0 inj c (V0 m c) (fun w => (dats m 0 c).arrAt w cfg0.N) 11
  have w12 := Pipeline.withArrays_arr spec0 inj c (V0 m c) (fun w => (dats m 0 c).arrAt w cfg0.N) 12
  rw [final_words] at w10
  rw [final_count] at w11
  rw [final_logp] at w12
  have h19 := (h c).2 main_v19 (Pipeline.mem_restRefs_of main_v19 (by decide) (by decide))
  have h20 := (h c).2 main_v20 (Pipeline.mem_restRefs_of main_v20 (by decide) (by decide))
  have h21 := (h c).2 main_v21 (Pipeline.mem_restRefs_of main_v21 (by decide) (by decide))
  unfold Pipeline.afterTail₀ at h19 h20 h21
  change _ = after ([hostOps1].flatten) (Pipeline.withArrays spec0 c (V0 m c) (fun w => (dats m 0 c).arrAt w cfg0.N)) _ at h19 h20 h21
  change Pipeline.withArrays spec0 c (V0 m c) (fun w => (dats m 0 c).arrAt w cfg0.N) (Proc.devRef .tc main_v17_0) = _ at w10
  change Pipeline.withArrays spec0 c (V0 m c) (fun w => (dats m 0 c).arrAt w cfg0.N) (Proc.devRef .tc main_v17_1) = _ at w11
  change Pipeline.withArrays spec0 c (V0 m c) (fun w => (dats m 0 c).arrAt w cfg0.N) (Proc.devRef .tc main_v17_2) = _ at w12
  generalize Pipeline.withArrays spec0 c (V0 m c) (fun w => (dats m 0 c).arrAt w cfg0.N) = A at *
  rw [h19, h20, h21]
  simp only [List.flatten_cons, List.flatten_nil, List.append_nil]
  refine ⟨fun b n => ?_, fun b => ?_, fun b => ?_⟩
  · after_reads_simp
    rw [w10]
    pointwise
    exact words_at m c n b
  · after_reads_simp
    rw [w11]
    pointwise
  · after_reads_simp
    rw [w12]
    pointwise

end Cert.KernelIdeal.Hand

end
-- ==== Proof.Link.lean ====
/-
The noise: the one the reference draws in its trip is the kernel's block of the noise drawn beforehand.
-/
module

public import proofs.«01_k».proof.Proof.Trip
public import proofs.«01_k».proof.Proof.Noise
public import proofs.«01_k».proof.Proof.Key
public import proofs.«01_k».proof.Proof.ReadsOne
public import proofs.«01_k».proof.Proof.Host
public import proofs.«01_k».proof.Proof.Blocks
public import proofs.«01_k».proof.Proof.Results

@[expose] public section

set_option maxRecDepth 16384

noncomputable section

namespace Cert.ReferenceIdeal.Hand

open Idealize.ShloMosaic Idealize.ShloMosaic.TcCoe Idealize.ShloMosaic.StableHlo
open Cert.Hand
open Cert.ReferenceIdeal.Gen Cert.ReferenceIdeal.Value
open Cert.KernelIdeal.Hand (keyed noised keyed_holds noised_holds noised_keys keyed_seed keyed_steps seeded_key seeded_steps
  V_noise block_noise ptOf)
open Cert.KernelIdeal.Gen (iblk)

/-- A trip's number, handed to the drawing of its key. -/
theorem number_handed (V : Valuation τ sig (Elt Ideal)) :
    (after while0Ops0_1 V (Proc.devRef .tc main_while0b_v73) : Vec Ideal S_ .i32) = V (Proc.devRef .tc main_while0b_v22) := by
  after_reads_simp
  rfl

variable (m : (ℓ : Loc Cert.KernelIdeal.nD Cert.KernelIdeal.τ Cert.KernelIdeal.sig) → Buf (Elt Ideal) ℓ) (c : Dev Cert.KernelIdeal.nD)
  {X : Valuation τ sig (Elt Ideal)} {k : Fin 512}

/-- The trip's key is the step's. -/
theorem key_same (hk : (X (Proc.devRef .tc main_v20_9) : Vec Ideal S_ .i32) = fun _ => BitVec.ofNat 32 k.val)
    (hi : (X (Proc.devRef .tc main_v20_0) : Vec Ideal S512 .i32) (ix1 k) = BitVec.ofNat 32 k.val)
    (hs : ∀ j : Fin 2, (X (Proc.devRef .tc main_v20_8) : Vec Ideal S2 .i32) (ix1 j) = if (j : ℕ) < 1 then 0#32 else 42#32)
    (j : Fin 2) :
    keyed m c (Proc.devRef .tc Cert.KernelIdeal.main_v9) (ix2 k j) = span 0 3 X (Proc.devRef .tc main_while0b_v74) (ix1 j) := by
  have seed : ∀ j : Fin 2, keyed m c (Proc.devRef .tc Cert.KernelIdeal.main_v6) (ix1 j) = span 0 3 X (Proc.devRef .tc main_v20_8) (ix1 j) := by
    intro j
    rw [keyed_seed, span_keeps 0 3 (by decide +kernel)]
    exact (seeded_key m c j).trans (hs j).symm
  refine key_agree (keyed m c) (span 0 3 X) (keyed_holds m c) ?_ k (seed 0) (seed 1) ?_ j
  · obtain ⟨ps, h, ho⟩ := key_once
    exact settled h ho (span 0 2 X)
  · rw [keyed_steps]
    refine (seeded_steps m c k).trans ?_
    show _ = (after while0Ops0_2 (span 0 2 X) (Proc.devRef .tc main_while0b_v73) : Vec Ideal S_ .i32) here
    rw [after_of_writes_sub _ _ while0Ops0_2_writes (by decide +kernel)]
    show _ = (after while0Ops0_1 (after while0Ops0 X) (Proc.devRef .tc main_while0b_v73) : Vec Ideal S_ .i32) here
    rw [number_handed, show (here : S_.Idx) = ix0 from funext fun a => a.elim0]
    exact (trip_number hk hi).symm

/-- The trip's noise is the step's block. -/
theorem noise_same (hk : (X (Proc.devRef .tc main_v20_9) : Vec Ideal S_ .i32) = fun _ => BitVec.ofNat 32 k.val)
    (hi : (X (Proc.devRef .tc main_v20_0) : Vec Ideal S512 .i32) (ix1 k) = BitVec.ofNat 32 k.val)
    (hs : ∀ j : Fin 2, (X (Proc.devRef .tc main_v20_8) : Vec Ideal S2 .i32) (ix1 j) = if (j : ℕ) < 1 then 0#32 else 42#32)
    (b : Fin 8) (v : Fin 4096) :
    (span 0 4 X (Proc.devRef .tc main_while0b_v75) : Vec Ideal S8x4096 .f32) (ix2 b v) =
      (iblk m c 1 (ptOf k) : Vec Ideal Cert.KernelIdeal.S1x8x4096 .f32) (ix3 0 b v) := by
  refine Eq.trans ?_ (block_noise m c (ptOf k) b v).symm
  rw [V_noise]
  refine (noise_agree (noised m c) (span 0 4 X) (noised_holds m c) ?_ k (fun j => ?_) b v).symm
  · obtain ⟨ps, h, ho⟩ := gumbel_once
    exact settled h ho (span 0 3 X)
  · rw [noised_keys, key_same m c hk hi hs j]
    show _ = span 3 4 (span 0 3 X) (Proc.devRef .tc main_while0b_v74) (ix1 j)
    rw [span_keeps 3 4 (by decide +kernel)]

end Cert.ReferenceIdeal.Hand

end
-- ==== Proof.Round.lean ====
/-
A whole trip of the reference's loop, and all of them: what the loop leaves behind is the kernel's chain of steps.
-/
module

public import proofs.«01_k».proof.Proof.Trip

@[expose] public section

set_option maxRecDepth 16384

noncomputable section

namespace Cert.ReferenceIdeal.Hand

open Idealize.ShloMosaic Idealize.ShloMosaic.TcCoe Idealize.ShloMosaic.StableHlo
open Cert.Hand
open Cert.ReferenceIdeal.Gen Cert.ReferenceIdeal.Value
open Cert.KernelIdeal.Hand (Weights Carry cell drawn spoken step)

/-- What the last stretch hands to the next trip. -/
theorem handed (V : Valuation τ sig (Elt Ideal)) :
    after while0Ops0_19 V (Proc.devRef .tc main_v20_10) = V (Proc.devRef .tc main_while0b_v94) ∧
    after while0Ops0_19 V (Proc.devRef .tc main_v20_11) = V (Proc.devRef .tc main_while0b_v95) ∧
    after while0Ops0_19 V (Proc.devRef .tc main_v20_12) = V (Proc.devRef .tc main_while0b_v92) ∧
    after while0Ops0_19 V (Proc.devRef .tc main_v20_13) = V (Proc.devRef .tc main_while0b_v89) ∧
    after while0Ops0_19 V (Proc.devRef .tc main_v20_14) = V (Proc.devRef .tc main_while0b_v84) ∧
    after while0Ops0_19 V (Proc.devRef .tc main_v20_15) = V (Proc.devRef .tc main_while0b_v96) := by
  refine ⟨?_, ?_, ?_, ?_, ?_, ?_⟩ <;> after_reads_simp <;> rfl

variable {X : Valuation τ sig (Elt Ideal)} {W : Weights Ideal} {s : Carry Ideal} {k : Fin 512}
  {z : Vec Ideal Cert.KernelIdeal.S1x8x4096 .f32}

/-- After a trip the carried buffers hold the next state, and the trip's row of tokens is written. -/
theorem round (T : Tables X W) (H : Holding X s) (hr : ∀ b, ∃ r : Fin 4096, s.tok (ix2 b 0) = BitVec.ofNat 32 r.val)
    (hk : (X (Proc.devRef .tc main_v20_9) : Vec Ideal S_ .i32) = fun _ => BitVec.ofNat 32 k.val)
    (hi : (X (Proc.devRef .tc main_v20_0) : Vec Ideal S512 .i32) (ix1 k) = BitVec.ofNat 32 k.val)
    (hz : ∀ b v, (span 0 4 X (Proc.devRef .tc main_while0b_v75) : Vec Ideal S8x4096 .f32) (ix2 b v) = z (ix3 0 b v)) :
    Holding (afterL bodyI X) (step W (BitVec.ofNat 32 k.val) z s) ∧
    ∀ t b, (afterL bodyI X (Proc.devRef .tc main_v20_15) : Vec Ideal S512x8 .i32) (ix2 t b) =
      if t = k then spoken W z s (ix3 0 b 0) else (X (Proc.devRef .tc main_v20_15) : Vec Ideal S512x8 .i32) (ix2 t b) := by
  have R := reached T H hr hk hi hz
  have H9 : Holding (span 0 9 X) s := by
    constructor <;> intros <;> rw [span_keeps 0 9 (by decide +kernel)]
    · exact H.hid _ _
    · exact H.tok _
    · exact H.alive _
    · exact H.count _
    · exact H.logp _
  have L (V) {r : Ref sig .tc} (h) := span_keeps 18 19 (r := r) h V
  obtain ⟨e10, e11, e12, e13, e14, e15⟩ := handed (span 18 19 (late (span 0 9 X)))
  have hx : after while0Ops0_19 (span 18 19 (late (span 0 9 X))) = afterL bodyI X := rfl
  rw [hx] at e10 e11 e12 e13 e14 e15
  rw [L _ (by decide +kernel)] at e10 e11 e12 e13 e14
  refine ⟨⟨fun b j => ?_, fun b => ?_, fun b => ?_, fun b => ?_, fun b => ?_⟩, fun t b => ?_⟩
  · rw [e10]; exact late_hid H9 R b j
  · rw [e11]; exact late_tok H9 R b
  · rw [e12]; exact late_alive H9 R b
  · rw [e13]; exact late_count H9 R b
  · rw [e14]; exact late_logp H9 R b
  · rw [e15]
    refine (row_written (V := late (span 0 9 X)) (k := k) ?_ t b).trans ?_
    · show (span 0 18 X (Proc.devRef .tc main_v20_9) : Vec Ideal S_ .i32) = _
      rw [span_keeps 0 18 (by decide +kernel), hk]
    · have e : late (span 0 9 X) (Proc.devRef .tc main_v20_15) = X (Proc.devRef .tc main_v20_15) :=
        span_keeps 0 18 (r := main_v20_15) (by decide +kernel) X
      rw [e, late_spoken H9 R b]

end Cert.ReferenceIdeal.Hand

end
-- ==== Proof.Begin.lean ====
/-
What the reference's loop begins with.
-/
module

public import proofs.«01_k».proof.Proof.Late

@[expose] public section

set_option maxRecDepth 16384

noncomputable section

namespace Cert.ReferenceIdeal.Hand

open Idealize.ShloMosaic Idealize.ShloMosaic.TcCoe Idealize.ShloMosaic.StableHlo
open Idealize.SL.Sem
open Cert.ReferenceIdeal.Gen Cert.ReferenceIdeal.Value
open Cert.KernelIdeal.Hand (Weights Carry start actRow)
open Cert.KernelIdeal.Gen (k0_pay10 k0_pay11 k0_pay12 k0_pay13)

/-- The row of an action, its number wrapped first. -/
theorem action_fetched {α : Type} (x : S1024x512.Idx → α) (act : IVec S8 32) (b : Fin 8) (k : Fin 512) (r : Fin 1024)
    (h : act (ix1 b) = BitVec.ofNat 32 r.val) :
    Host.gather gather_S1024x512_S8x1_S8x512_1_0_n_n_0_1_1512 x
      (broadcastInDim S8x1 (![0] : Fin 1 → Fin 2) bcast_S8_S8x1_0
        (select (cmpi .slt act (broadcastInDim S8 ![] bcast_S_S8 (constantI S_ 32 0#32)))
          (addi act (broadcastInDim S8 ![] bcast_S_S8 (constantI S_ 32 1024#32))) act)) (ix2 b k) = x (ix2 r k) := by
  refine action_row x _ b k r ?_
  pointwise
  rw [h]
  exact wrapped ⟨r.val, by have := r.isLt; omega⟩ _

variable (V : Valuation τ sig (Elt Ideal))

theorem begin_steps (k : Fin 512) : (after hostOps0 V (Proc.devRef .tc main_v20_0) : Vec Ideal S512 .i32) (ix1 k) = BitVec.ofNat 32 k.val := by
  after_reads_simp
  pointwise
  try rfl

theorem begin_key (j : Fin 2) : (after hostOps0 V (Proc.devRef .tc main_v20_8) : Vec Ideal S2 .i32) (ix1 j) =
    if (j : ℕ) < 1 then 0#32 else 42#32 := by
  after_reads_simp
  simp only [id_eq]
  pointwise
  after_reads_simp
  fin_cases j <;> rfl

theorem begin_words (t : Fin 512) (b : Fin 8) : (after hostOps0 V (Proc.devRef .tc main_v20_15) : Vec Ideal S512x8 .i32) (ix2 t b) = 0#32 := by
  after_reads_simp
  pointwise
  try rfl

/-- The tables and matrices are the arguments. -/
theorem begin_tables :
    after hostOps0 V (Proc.devRef .tc main_v20_1) = V (Proc.devRef .tc main_arg3) ∧
    after hostOps0 V (Proc.devRef .tc main_v20_2) = V (Proc.devRef .tc main_arg4) ∧
    after hostOps0 V (Proc.devRef .tc main_v20_3) = V (Proc.devRef .tc main_arg6) ∧
    after hostOps0 V (Proc.devRef .tc main_v20_4) = V (Proc.devRef .tc main_arg5) ∧
    after hostOps0 V (Proc.devRef .tc main_v20_5) = V (Proc.devRef .tc main_arg7) ∧
    after hostOps0 V (Proc.devRef .tc main_v20_6) = V (Proc.devRef .tc main_arg8) ∧
    after hostOps0 V (Proc.devRef .tc main_v20_7) = V (Proc.devRef .tc main_arg9) := by
  refine ⟨?_, ?_, ?_, ?_, ?_, ?_, ?_⟩ <;> after_reads_simp <;> rfl

/-- The carried buffers begin with what the kernel begins with. -/
theorem begin_holding (acts : Vec Ideal S8 .i32) (tab : Vec Ideal S1024x512 .f32)
    (ha : ∀ b, (V (Proc.devRef .tc main_arg0) : Vec Ideal S8 .i32) (ix1 b) = acts (ix1 b))
    (ht : ∀ r k, (V (Proc.devRef .tc main_arg2) : Vec Ideal S1024x512 .f32) (ix2 r k) = tab (ix2 r k))
    (hr : ∀ b, ∃ r : Fin 1024, acts (ix1 b) = BitVec.ofNat 32 r.val) :
    Holding (after hostOps0 V) (start acts tab) := by
  choose r hr using hr
  refine ⟨fun b k => ?_, fun b => ?_, fun b => ?_, fun b => ?_, fun b => ?_⟩
  · after_reads_simp
    refine (action_fetched _ _ b k (r b) ((ha b).trans (hr b))).trans ((ht _ _).trans ?_)
    have h := (r b).isLt
    show tab (ix2 (r b) k) = tab (ix2 ⟨(acts (ix1 b) : BitVec 32).toNat % 1024, _⟩ k)
    refine congrArg tab (congrArg (fun q => ix2 q k) (Fin.ext ?_))
    show (r b).val = (acts (ix1 b) : BitVec 32).toNat % 1024
    rw [hr b, BitVec.toNat_ofNat]
    omega
  · after_reads_simp
    unfold start k0_pay10
    pointwise
    try rfl
  · after_reads_simp
    unfold start k0_pay11
    pointwise
    try rfl
  · after_reads_simp
    unfold start k0_pay12
    pointwise
    try rfl
  · after_reads_simp
    unfold start k0_pay13
    simp only [id_eq]
    pointwise

end Cert.ReferenceIdeal.Hand

end
-- ==== Proof.Loop.lean ====
/-
All trips of the reference's loop: what it leaves behind is the kernel's chain of steps.
-/
module

public import proofs.«01_k».proof.Proof.Link
public import proofs.«01_k».proof.Proof.Round
public import proofs.«01_k».proof.Proof.Begin
public import proofs.«01_k».proof.Proof.Entry
public import proofs.«01_k».proof.Proof.Around

@[expose] public section

set_option maxRecDepth 16384

noncomputable section

namespace Cert.ReferenceIdeal.Hand

open Idealize.ShloMosaic Idealize.ShloMosaic.TcCoe Idealize.ShloMosaic.StableHlo
open Cert.Hand
open Cert.ReferenceIdeal.Gen Cert.ReferenceIdeal.Value
open Cert.KernelIdeal.Hand (Weights Carry start step spoken chain chain_tok weightsAt pt0 ptOf action_lt
  V_wih V_whh V_bih V_bhh V_wout V_bout block_0 block_2 block_3 block_4 block_5 block_6 block_7 block_8 block_9)
open Cert.KernelIdeal (cfg0)
open Cert.KernelIdeal.Gen (iblk N_0 V_main_arg0 V_main_arg2 V_main_arg3)

variable (m : (ℓ : Loc Cert.KernelIdeal.nD Cert.KernelIdeal.τ Cert.KernelIdeal.sig) → Buf (Elt Ideal) ℓ)
  (m' : (ℓ : Loc nD τ sig) → Buf (Elt Ideal) ℓ) (c : Dev nD)

/-- On core `c` both programs are given the same arrays, as far as they are used. -/
structure Given : Prop where
  act : (m' ((c.tc : Thread nD τ).loc main_arg0) : Vec Ideal S8 .i32) =
    m ((c.tc : Thread Cert.KernelIdeal.nD Cert.KernelIdeal.τ).loc Cert.KernelIdeal.main_arg0)
  acts : (m' ((c.tc : Thread nD τ).loc main_arg2) : Vec Ideal S1024x512 .f32) =
    m ((c.tc : Thread Cert.KernelIdeal.nD Cert.KernelIdeal.τ).loc Cert.KernelIdeal.main_arg2)
  emb : (m' ((c.tc : Thread nD τ).loc main_arg3) : Vec Ideal S4096x512 .f32) =
    m ((c.tc : Thread Cert.KernelIdeal.nD Cert.KernelIdeal.τ).loc Cert.KernelIdeal.main_arg3)
  wih : (m' ((c.tc : Thread nD τ).loc main_arg4) : Vec Ideal S1536x512 .f32) =
    m ((c.tc : Thread Cert.KernelIdeal.nD Cert.KernelIdeal.τ).loc Cert.KernelIdeal.main_arg4)
  whh : (m' ((c.tc : Thread nD τ).loc main_arg5) : Vec Ideal S1536x512 .f32) =
    m ((c.tc : Thread Cert.KernelIdeal.nD Cert.KernelIdeal.τ).loc Cert.KernelIdeal.main_arg5)
  bih : (m' ((c.tc : Thread nD τ).loc main_arg6) : Vec Ideal S1536 .f32) =
    m ((c.tc : Thread Cert.KernelIdeal.nD Cert.KernelIdeal.τ).loc Cert.KernelIdeal.main_arg6)
  bhh : (m' ((c.tc : Thread nD τ).loc main_arg7) : Vec Ideal S1536 .f32) =
    m ((c.tc : Thread Cert.KernelIdeal.nD Cert.KernelIdeal.τ).loc Cert.KernelIdeal.main_arg7)
  wout : (m' ((c.tc : Thread nD τ).loc main_arg8) : Vec Ideal S4096x512 .f32) =
    m ((c.tc : Thread Cert.KernelIdeal.nD Cert.KernelIdeal.τ).loc Cert.KernelIdeal.main_arg8)
  bout : (m' ((c.tc : Thread nD τ).loc main_arg9) : Vec Ideal S4096 .f32) =
    m ((c.tc : Thread Cert.KernelIdeal.nD Cert.KernelIdeal.τ).loc Cert.KernelIdeal.main_arg9)

/-- A word is its own number's word. -/
theorem word_itself (w : BitVec 32) : w = BitVec.ofNat 32 w.toNat := by simp

/-- The reference's contents as trip `k`'s body begins. -/
abbrev trip (k : ℕ) : Valuation τ sig (Elt Ideal) := after condOps (atK m' k c)

/-- What the loop never writes is, as a trip begins, what it was at the loop's entry. -/
theorem trip_keeps {r : Ref sig .tc} (hc : r ∉ condOps_W) (hb : ∀ W ∈ bodyWrites, r ∉ W) (k : ℕ) :
    trip m' c k (Proc.devRef .tc r) = after hostOps0 (launchContents m' c) (Proc.devRef .tc r) := by
  show after condOps _ _ = _
  rw [after_of_writes_sub _ _ condOps_writes hc, atK_keeps m' hc hb c k]
  rfl

variable {m m' c}

set_option maxHeartbeats 4000000 in
/-- As every trip begins, the tables and matrices are the kernel's blocks of that point. -/
theorem trip_tables (G : Given m m' c) (k : ℕ) (t : Fin cfg0.N) : Tables (trip m' c k) (weightsAt m c t) := by
  obtain ⟨e1, e2, e3, e4, e5, e6, e7⟩ := begin_tables (launchContents m' c)
  refine ⟨fun r x => ?_, fun j x => ?_, fun j => ?_, fun j x => ?_, fun j => ?_, fun j x => ?_, fun j => ?_⟩
  · rw [trip_keeps m' c (by decide +kernel) (by decide +kernel), e1]
    refine (congrFun G.emb (ix2 r x)).trans ?_
    refine Eq.trans ?_ (block_3 m c t r x).symm
    rw [V_main_arg3]
  · rw [trip_keeps m' c (by decide +kernel) (by decide +kernel), e2]
    exact (congrFun G.wih (ix2 j x)).trans ((block_4 m c t x j).trans (V_wih m c x j)).symm
  · rw [trip_keeps m' c (by decide +kernel) (by decide +kernel), e3]
    exact (congrFun G.bih (ix1 j)).trans ((block_6 m c t 0 j).trans (V_bih m c j)).symm
  · rw [trip_keeps m' c (by decide +kernel) (by decide +kernel), e4]
    exact (congrFun G.whh (ix2 j x)).trans ((block_5 m c t x j).trans (V_whh m c x j)).symm
  · rw [trip_keeps m' c (by decide +kernel) (by decide +kernel), e5]
    exact (congrFun G.bhh (ix1 j)).trans ((block_7 m c t 0 j).trans (V_bhh m c j)).symm
  · rw [trip_keeps m' c (by decide +kernel) (by decide +kernel), e6]
    exact (congrFun G.wout (ix2 j x)).trans ((block_8 m c t x j).trans (V_wout m c x j)).symm
  · rw [trip_keeps m' c (by decide +kernel) (by decide +kernel), e7]
    exact (congrFun G.bout (ix1 j)).trans ((block_9 m c t 0 j).trans (V_bout m c j)).symm

set_option maxHeartbeats 4000000 in
/-- At the loop's entry the carried buffers hold the kernel's first state. -/
theorem entry_holding (h : Cert.Pre_KernelIdeal m) (G : Given m m' c) : Holding (atK m' 0 c) (chain m c 0) := by
  show Holding (after hostOps0 (launchContents m' c)) (start (iblk m c 0 pt0) (iblk m c 2 pt0))
  have a0 : ∀ b, (iblk m c 0 pt0 : Vec Ideal S8 .i32) (ix1 b) =
      (m ((c.tc : Thread Cert.KernelIdeal.nD Cert.KernelIdeal.τ).loc Cert.KernelIdeal.main_arg0) : Vec Ideal S8 .i32) (ix1 b) :=
    fun b => (block_0 m c pt0 b).trans (by rw [V_main_arg0])
  refine begin_holding _ _ _ (fun b => ?_) (fun r k => ?_) (fun b => ?_)
  · exact (congrFun G.act (ix1 b)).trans (a0 b).symm
  · refine (congrFun G.acts (ix2 r k)).trans ?_
    refine Eq.trans ?_ (block_2 m c pt0 r k).symm
    rw [V_main_arg2]
  · refine ⟨⟨_, action_lt m h c (ix1 b)⟩, ?_⟩
    rw [a0 b]
    exact word_itself _

/-- The tokens the kernel speaks at step `t`. -/
abbrev said (m : (ℓ : Loc Cert.KernelIdeal.nD Cert.KernelIdeal.τ Cert.KernelIdeal.sig) → Buf (Elt Ideal) ℓ) (c : Dev nD)
    (t : Fin 512) (b : Fin 8) : BitVec 32 :=
  spoken (weightsAt m c (ptOf t)) (iblk m c 1 (ptOf t)) (chain m c t.val) (ix3 0 b 0)

set_option maxHeartbeats 4000000 in
/-- Before trip `k` the carried buffers hold the kernel's state before point `k`, and the first `k` rows of the tokens are
    the kernel's. -/
theorem all_trips (h : Cert.Pre_KernelIdeal m) (G : Given m m' c) : ∀ k : ℕ, k ≤ 512 →
    Holding (atK m' k c) (chain m c k) ∧
    ∀ (t : Fin 512) (b : Fin 8), (atK m' k c (Proc.devRef .tc main_v20_15) : Vec Ideal S512x8 .i32) (ix2 t b) =
      if t.val < k then said m c t b else 0#32
  | 0, _ => ⟨entry_holding h G, fun t b => by
      rw [if_neg (by omega)]
      exact begin_words (launchContents m' c) t b⟩
  | k + 1, hk => by
    obtain ⟨H, hw⟩ := all_trips h G k (by omega)
    have keep {r : Ref sig .tc} (hc : r ∉ condOps_W) : trip m' c k (Proc.devRef .tc r) = atK m' k c (Proc.devRef .tc r) :=
      after_of_writes_sub _ _ condOps_writes hc
    have H' : Holding (trip m' c k) (chain m c k) := by
      refine ⟨fun b j => ?_, fun b => ?_, fun b => ?_, fun b => ?_, fun b => ?_⟩
      · rw [keep (by decide +kernel)]; exact H.hid b j
      · rw [keep (by decide +kernel)]; exact H.tok b
      · rw [keep (by decide +kernel)]; exact H.alive b
      · rw [keep (by decide +kernel)]; exact H.count b
      · rw [keep (by decide +kernel)]; exact H.logp b
    have hn : (trip m' c k (Proc.devRef .tc main_v20_9) : Vec Ideal S_ .i32) = fun _ => BitVec.ofNat 32 (⟨k, hk⟩ : Fin 512).val := by
      rw [keep (by decide +kernel), atK_ctr]
      funext i
      simp [Scf.iv]
    have hi : (trip m' c k (Proc.devRef .tc main_v20_0) : Vec Ideal S512 .i32) (ix1 ⟨k, hk⟩) = BitVec.ofNat 32 (⟨k, hk⟩ : Fin 512).val := by
      rw [trip_keeps m' c (by decide +kernel) (by decide +kernel)]
      exact begin_steps _ _
    have hs : ∀ j : Fin 2, (trip m' c k (Proc.devRef .tc main_v20_8) : Vec Ideal S2 .i32) (ix1 j) = if (j : ℕ) < 1 then 0#32 else 42#32 := by
      intro j
      rw [trip_keeps m' c (by decide +kernel) (by decide +kernel)]
      exact begin_key _ _
    have ht : ∀ b, ∃ r : Fin 4096, (chain m c k).tok (ix2 b 0) = BitVec.ofNat 32 r.val := fun b =>
      ⟨⟨_, chain_tok m c k (ix2 b 0)⟩, by simp⟩
    obtain ⟨H1, hw1⟩ := round (trip_tables G k (ptOf ⟨k, hk⟩)) H' ht hn hi (noise_same m c hn hi hs)
    have e : chain m c (k + 1) = step (weightsAt m c (ptOf ⟨k, hk⟩)) (BitVec.ofNat 32 k) (iblk m c 1 (ptOf ⟨k, hk⟩)) (chain m c k) := by
      rw [chain]
      exact dif_pos (ptOf ⟨k, hk⟩).isLt
    rw [e]
    refine ⟨H1, fun t b => (hw1 t b).trans ?_⟩
    by_cases et : t = ⟨k, hk⟩
    · subst et
      rw [if_pos rfl, if_pos (by simp)]
    · rw [if_neg et, keep (by decide +kernel), hw t b]
      have hne : t.val ≠ k := fun h => et (Fin.ext h)
      by_cases hl : t.val < k
      · rw [if_pos hl, if_pos (by omega)]
      · rw [if_neg hl, if_neg (by omega)]

end Cert.ReferenceIdeal.Hand

end
-- ==== Proof.Same.lean ====
/-
The value claim: from the same arguments both programs end with the same words, lengths and log-probabilities.
-/
module

public import proofs.«01_k».proof.Proof.Loop

@[expose] public section

set_option maxRecDepth 16384

noncomputable section

namespace Cert.ReferenceIdeal.Hand

open Idealize.ShloMosaic Idealize.ShloMosaic.TcCoe Idealize.ShloMosaic.StableHlo
open Idealize.SL Idealize.SL.Sem
open Cert.Hand
open Cert.ReferenceIdeal.Gen Cert.ReferenceIdeal.Value
open Cert.KernelIdeal.Hand (chain dats A_eq ends action_block_lt)

/-- The words both programs end with. -/
def wordsOf (m : (ℓ : Loc Cert.KernelIdeal.nD Cert.KernelIdeal.τ Cert.KernelIdeal.sig) → Buf (Elt Ideal) ℓ) (c : Dev nD) :
    Vec Ideal S8x512 .i32 := fun i => said m c (i 1) (i 0)

/-- The lengths both programs end with. -/
def countOf (m : (ℓ : Loc Cert.KernelIdeal.nD Cert.KernelIdeal.τ Cert.KernelIdeal.sig) → Buf (Elt Ideal) ℓ) (c : Dev nD) :
    Vec Ideal S8 .i32 := fun i => (chain m c 512).count (ix2 (i 0) 0)

/-- The log-probabilities both programs end with. -/
def logpOf (m : (ℓ : Loc Cert.KernelIdeal.nD Cert.KernelIdeal.τ Cert.KernelIdeal.sig) → Buf (Elt Ideal) ℓ) (c : Dev nD) :
    Vec Ideal S8 .f32 := fun i => (chain m c 512).logp (ix2 (i 0) 0)

/-- What follows the loop turns the table of words on its side. -/
theorem turned (V : Valuation τ sig (Elt Ideal)) (b : Fin 8) (t : Fin 512) :
    (after hostOps0_1 V (Proc.devRef .tc main_v21) : Vec Ideal S8x512 .i32) (ix2 b t) =
      (V (Proc.devRef .tc main_v20_15) : Vec Ideal S512x8 .i32) (ix2 t b) := by
  after_reads_simp
  pointwise

variable {m : (ℓ : Loc Cert.KernelIdeal.nD Cert.KernelIdeal.τ Cert.KernelIdeal.sig) → Buf (Elt Ideal) ℓ}
  {m' : (ℓ : Loc nD τ sig) → Buf (Elt Ideal) ℓ} {c : Dev nD}

/-- What the reference ends with. -/
theorem reference_ends (h : Cert.Pre_KernelIdeal m) (G : Given m m' c) :
    finalContents condOps preI bodyI postI 512 m' c (Proc.devRef .tc main_v21) = wordsOf m c ∧
    finalContents condOps preI bodyI postI 512 m' c (Proc.devRef .tc main_v20_13) = countOf m c ∧
    finalContents condOps preI bodyI postI 512 m' c (Proc.devRef .tc main_v20_14) = logpOf m c := by
  obtain ⟨H, hw⟩ := all_trips h G 512 (le_refl _)
  rw [show finalContents condOps preI bodyI postI 512 m' c = after hostOps0_1 (after condOps (atK m' 512 c)) from rfl]
  refine ⟨funext fun i => ?_, funext fun i => ?_, funext fun i => ?_⟩
  · obtain ⟨b, t, rfl⟩ : ∃ b t, i = ix2 b t := ⟨_, _, eq_ix2 i⟩
    refine (turned _ b t).trans ?_
    rw [after_of_writes_sub _ _ condOps_writes (by decide +kernel)]
    exact (hw t b).trans (if_pos t.isLt)
  · obtain ⟨b, rfl⟩ : ∃ b, i = ix1 b := ⟨_, eq_ix1 i⟩
    rw [after_of_writes_sub _ _ hostOps0_1_writes (by decide +kernel), after_of_writes_sub _ _ condOps_writes (by decide +kernel)]
    exact H.count b
  · obtain ⟨b, rfl⟩ : ∃ b, i = ix1 b := ⟨_, eq_ix1 i⟩
    rw [after_of_writes_sub _ _ hostOps0_1_writes (by decide +kernel), after_of_writes_sub _ _ condOps_writes (by decide +kernel)]
    exact H.logp b

/-- The kernel and the reference compute the same over the extended reals. -/
theorem algebraic : Cert.algebraic_KernelIdeal_ReferenceIdeal := by
  intro m g m' g' h same
  refine ⟨wordsOf m, countOf m, logpOf m, ?_, ?_⟩
  · have hr := Cert.KernelIdeal.Hand.run m g (action_block_lt m h)
    refine θ_run_mono (θ_run_and hr (Cert.KernelIdeal.Gen.frame_of m g (dats m) (A_eq m) (θ_run_mono hr fun _ h => h.1))) fun r hh c => ?_
    obtain ⟨ew, ec, el⟩ := ends m c r hh.1.1
    refine ⟨funext fun i => ?_, funext fun i => ?_, funext fun i => ?_, hh.2 c⟩
    · obtain ⟨b, t, rfl⟩ : ∃ b t, i = ix2 b t := ⟨_, _, eq_ix2 i⟩
      exact ew b t
    · obtain ⟨b, rfl⟩ : ∃ b, i = ix1 b := ⟨_, eq_ix1 i⟩
      exact ec b
    · obtain ⟨b, rfl⟩ : ∃ b, i = ix1 b := ⟨_, eq_ix1 i⟩
      exact el b
  · refine θ_run_mono (run_fold m' g') fun r hh c => ?_
    obtain ⟨s0, _, s2, s3, s4, s5, s6, s7, s8, s9⟩ := same c
    obtain ⟨ew, ec, el⟩ := reference_ends h (c := c) ⟨s0, s2, s3, s4, s5, s6, s7, s8, s9⟩
    refine ⟨(hh c main_v21 rfl).trans ew, (hh c main_v20_13 rfl).trans ec, (hh c main_v20_14 rfl).trans el, ?_⟩
    refine ⟨?_, ?_, ?_, ?_, ?_, ?_, ?_, ?_, ?_, ?_⟩ <;>
      exact args_kept m' r.2 hh c _ rfl (by decide +kernel) (by decide +kernel) (by decide +kernel) (by decide +kernel)

end Cert.ReferenceIdeal.Hand

end
-- ==== Proof.lean ====
/-
The certificate: over the extended reals, the frames of the kernel and of the reference, and that both compute the same.
-/
module

public import proofs.«01_k».proof.Defs
public import proofs.«01_k».proof.Proof.Gen.KernelIdeal
public import proofs.«01_k».proof.Proof.Gen.ReferenceIdeal
public import proofs.«01_k».proof.Proof.Gen.Pre_pre
public import proofs.«01_k».proof.Proof.Gen.KernelIdeal.Skeleton
public import proofs.«01_k».proof.Proof.Gen.KernelIdeal.Frame
public import proofs.«01_k».proof.Proof.Gen.ReferenceIdeal.Run
public import proofs.«01_k».proof.Proof.Entry
public import proofs.«01_k».proof.Proof.Around
public import proofs.«01_k».proof.Proof.Same

@[expose] public section

/-- The claims hold. -/
theorem Cert.Proof.claim : Cert.Claim :=
  ⟨Cert.KernelIdeal.Gen.facts, Cert.ReferenceIdeal.Gen.facts, Cert.Pre_pre.Gen.facts,
    Cert.KernelIdeal.Hand.quiescent, Cert.ReferenceIdeal.Hand.quiescent, Cert.ReferenceIdeal.Hand.quiescent_pre,
    Cert.ReferenceIdeal.Hand.algebraic⟩
